-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutIdeal_finite_gate [hPre_finite_gate : Cert.Pre_finite_gate.Facts] (m : (ℓ : Loc Cert.OddOutIdeal.nD Cert.OddOutIdeal.τ Cert.OddOutIdeal.sig) → Buf (Elt Ideal) ℓ) : Prop :=
  ∀ c : Dev Cert.OddOutIdeal.nD,
    (Cert.Pre_finite_gate.fn (F := Ideal) (m ((c.tc : Thread Cert.OddOutIdeal.nD Cert.OddOutIdeal.τ).loc Cert.OddOutIdeal.main_arg0)) (m ((c.tc : Thread Cert.OddOutIdeal.nD Cert.OddOutIdeal.τ).loc Cert.OddOutIdeal.main_arg1)) (m ((c.tc : Thread Cert.OddOutIdeal.nD Cert.OddOutIdeal.τ).loc Cert.OddOutIdeal.main_arg2)) (m ((c.tc : Thread Cert.OddOutIdeal.nD Cert.OddOutIdeal.τ).loc Cert.OddOutIdeal.main_arg3)) (m ((c.tc : Thread Cert.OddOutIdeal.nD Cert.OddOutIdeal.τ).loc Cert.OddOutIdeal.main_arg4)) (m ((c.tc : Thread Cert.OddOutIdeal.nD Cert.OddOutIdeal.τ).loc Cert.OddOutIdeal.main_arg5)) (m ((c.tc : Thread Cert.OddOutIdeal.nD Cert.OddOutIdeal.τ).loc Cert.OddOutIdeal.main_arg6)) (m ((c.tc : Thread Cert.OddOutIdeal.nD Cert.OddOutIdeal.τ).loc Cert.OddOutIdeal.main_arg7))) = (fun _ => 1#1)

def Pre_OddOutRefIdeal (m : (ℓ : Loc Cert.OddOutRefIdeal.nD Cert.OddOutRefIdeal.τ Cert.OddOutRefIdeal.sig) → Buf (Elt Ideal) ℓ) : Prop :=
  True

def Pre_OddOutRefIdeal_finite_gate [hPre_finite_gate : Cert.Pre_finite_gate.Facts] (m : (ℓ : Loc Cert.OddOutRefIdeal.nD Cert.OddOutRefIdeal.τ Cert.OddOutRefIdeal.sig) → Buf (Elt Ideal) ℓ) : Prop :=
  ∀ c : Dev Cert.OddOutRefIdeal.nD,
    (Cert.Pre_finite_gate.fn (F := Ideal) (m ((c.tc : Thread Cert.OddOutRefIdeal.nD Cert.OddOutRefIdeal.τ).loc Cert.OddOutRefIdeal.main_arg0)) (m ((c.tc : Thread Cert.OddOutRefIdeal.nD Cert.OddOutRefIdeal.τ).loc Cert.OddOutRefIdeal.main_arg1)) (m ((c.tc : Thread Cert.OddOutRefIdeal.nD Cert.OddOutRefIdeal.τ).loc Cert.OddOutRefIdeal.main_arg2)) (m ((c.tc : Thread Cert.OddOutRefIdeal.nD Cert.OddOutRefIdeal.τ).loc Cert.OddOutRefIdeal.main_arg3)) (m ((c.tc : Thread Cert.OddOutRefIdeal.nD Cert.OddOutRefIdeal.τ).loc Cert.OddOutRefIdeal.main_arg4)) (m ((c.tc : Thread Cert.OddOutRefIdeal.nD Cert.OddOutRefIdeal.τ).loc Cert.OddOutRefIdeal.main_arg5)) (m ((c.tc : Thread Cert.OddOutRefIdeal.nD Cert.OddOutRefIdeal.τ).loc Cert.OddOutRefIdeal.main_arg6)) (m ((c.tc : Thread Cert.OddOutRefIdeal.nD Cert.OddOutRefIdeal.τ).loc Cert.OddOutRefIdeal.main_arg7))) = (fun _ => 1#1)

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutRefIdeal (m : (ℓ : Loc Cert.EvenOutRefIdeal.nD Cert.EvenOutRefIdeal.τ Cert.EvenOutRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2)
      ∧ r.2.mem ((c.tc : Thread Cert.OddOut.nD Cert.OddOut.τ).loc Cert.OddOut.main_arg3) = m ((c.tc : Thread Cert.OddOut.nD Cert.OddOut.τ).loc Cert.OddOut.main_arg3)
      ∧ r.2.mem ((c.tc : Thread Cert.OddOut.nD Cert.OddOut.τ).loc Cert.OddOut.main_arg4) = m ((c.tc : Thread Cert.OddOut.nD Cert.OddOut.τ).loc Cert.OddOut.main_arg4)
      ∧ r.2.mem ((c.tc : Thread Cert.OddOut.nD Cert.OddOut.τ).loc Cert.OddOut.main_arg5) = m ((c.tc : Thread Cert.OddOut.nD Cert.OddOut.τ).loc Cert.OddOut.main_arg5)
      ∧ r.2.mem ((c.tc : Thread Cert.OddOut.nD Cert.OddOut.τ).loc Cert.OddOut.main_arg6) = m ((c.tc : Thread Cert.OddOut.nD Cert.OddOut.τ).loc Cert.OddOut.main_arg6)
      ∧ r.2.mem ((c.tc : Thread Cert.OddOut.nD Cert.OddOut.τ).loc Cert.OddOut.main_arg7) = m ((c.tc : Thread Cert.OddOut.nD Cert.OddOut.τ).loc Cert.OddOut.main_arg7))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
      ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
      ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4)
      ∧ r.2.mem ((c.tc : Thread Cert.OddOutIdeal.nD Cert.OddOutIdeal.τ).loc Cert.OddOutIdeal.main_arg5) = m ((c.tc : Thread Cert.OddOutIdeal.nD Cert.OddOutIdeal.τ).loc Cert.OddOutIdeal.main_arg5)
      ∧ r.2.mem ((c.tc : Thread Cert.OddOutIdeal.nD Cert.OddOutIdeal.τ).loc Cert.OddOutIdeal.main_arg6) = m ((c.tc : Thread Cert.OddOutIdeal.nD Cert.OddOutIdeal.τ).loc Cert.OddOutIdeal.main_arg6)
      ∧ r.2.mem ((c.tc : Thread Cert.OddOutIdeal.nD Cert.OddOutIdeal.τ).loc Cert.OddOutIdeal.main_arg7) = m ((c.tc : Thread Cert.OddOutIdeal.nD Cert.OddOutIdeal.τ).loc Cert.OddOutIdeal.main_arg7))
      ∧ r.2.sem = fun _ => 0)

def quiescent_OddOutIdeal_pre_finite_gate [hOddOutIdeal : Cert.OddOutIdeal.Facts] [hPre_finite_gate : Cert.Pre_finite_gate.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal_finite_gate m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
      ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
      ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4)
      ∧ r.2.mem ((c.tc : Thread Cert.OddOutIdeal.nD Cert.OddOutIdeal.τ).loc Cert.OddOutIdeal.main_arg5) = m ((c.tc : Thread Cert.OddOutIdeal.nD Cert.OddOutIdeal.τ).loc Cert.OddOutIdeal.main_arg5)
      ∧ r.2.mem ((c.tc : Thread Cert.OddOutIdeal.nD Cert.OddOutIdeal.τ).loc Cert.OddOutIdeal.main_arg6) = m ((c.tc : Thread Cert.OddOutIdeal.nD Cert.OddOutIdeal.τ).loc Cert.OddOutIdeal.main_arg6)
      ∧ r.2.mem ((c.tc : Thread Cert.OddOutIdeal.nD Cert.OddOutIdeal.τ).loc Cert.OddOutIdeal.main_arg7) = m ((c.tc : Thread Cert.OddOutIdeal.nD Cert.OddOutIdeal.τ).loc Cert.OddOutIdeal.main_arg7))
      ∧ r.2.sem = fun _ => 0)

def quiescent_OddOutRefIdeal [hOddOutRefIdeal : Cert.OddOutRefIdeal.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1)
      ∧ r.2.mem ((c.tc : Thread Cert.OddOutRefIdeal.nD Cert.OddOutRefIdeal.τ).loc Cert.OddOutRefIdeal.main_arg2) = m ((c.tc : Thread Cert.OddOutRefIdeal.nD Cert.OddOutRefIdeal.τ).loc Cert.OddOutRefIdeal.main_arg2)
      ∧ r.2.mem ((c.tc : Thread Cert.OddOutRefIdeal.nD Cert.OddOutRefIdeal.τ).loc Cert.OddOutRefIdeal.main_arg3) = m ((c.tc : Thread Cert.OddOutRefIdeal.nD Cert.OddOutRefIdeal.τ).loc Cert.OddOutRefIdeal.main_arg3)
      ∧ r.2.mem ((c.tc : Thread Cert.OddOutRefIdeal.nD Cert.OddOutRefIdeal.τ).loc Cert.OddOutRefIdeal.main_arg4) = m ((c.tc : Thread Cert.OddOutRefIdeal.nD Cert.OddOutRefIdeal.τ).loc Cert.OddOutRefIdeal.main_arg4)
      ∧ r.2.mem ((c.tc : Thread Cert.OddOutRefIdeal.nD Cert.OddOutRefIdeal.τ).loc Cert.OddOutRefIdeal.main_arg5) = m ((c.tc : Thread Cert.OddOutRefIdeal.nD Cert.OddOutRefIdeal.τ).loc Cert.OddOutRefIdeal.main_arg5)
      ∧ r.2.mem ((c.tc : Thread Cert.OddOutRefIdeal.nD Cert.OddOutRefIdeal.τ).loc Cert.OddOutRefIdeal.main_arg6) = m ((c.tc : Thread Cert.OddOutRefIdeal.nD Cert.OddOutRefIdeal.τ).loc Cert.OddOutRefIdeal.main_arg6)
      ∧ r.2.mem ((c.tc : Thread Cert.OddOutRefIdeal.nD Cert.OddOutRefIdeal.τ).loc Cert.OddOutRefIdeal.main_arg7) = m ((c.tc : Thread Cert.OddOutRefIdeal.nD Cert.OddOutRefIdeal.τ).loc Cert.OddOutRefIdeal.main_arg7))
      ∧ r.2.sem = fun _ => 0)

def quiescent_OddOutRefIdeal_pre_finite_gate [hOddOutRefIdeal : Cert.OddOutRefIdeal.Facts] [hPre_finite_gate : Cert.Pre_finite_gate.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal_finite_gate m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1)
      ∧ r.2.mem ((c.tc : Thread Cert.OddOutRefIdeal.nD Cert.OddOutRefIdeal.τ).loc Cert.OddOutRefIdeal.main_arg2) = m ((c.tc : Thread Cert.OddOutRefIdeal.nD Cert.OddOutRefIdeal.τ).loc Cert.OddOutRefIdeal.main_arg2)
      ∧ r.2.mem ((c.tc : Thread Cert.OddOutRefIdeal.nD Cert.OddOutRefIdeal.τ).loc Cert.OddOutRefIdeal.main_arg3) = m ((c.tc : Thread Cert.OddOutRefIdeal.nD Cert.OddOutRefIdeal.τ).loc Cert.OddOutRefIdeal.main_arg3)
      ∧ r.2.mem ((c.tc : Thread Cert.OddOutRefIdeal.nD Cert.OddOutRefIdeal.τ).loc Cert.OddOutRefIdeal.main_arg4) = m ((c.tc : Thread Cert.OddOutRefIdeal.nD Cert.OddOutRefIdeal.τ).loc Cert.OddOutRefIdeal.main_arg4)
      ∧ r.2.mem ((c.tc : Thread Cert.OddOutRefIdeal.nD Cert.OddOutRefIdeal.τ).loc Cert.OddOutRefIdeal.main_arg5) = m ((c.tc : Thread Cert.OddOutRefIdeal.nD Cert.OddOutRefIdeal.τ).loc Cert.OddOutRefIdeal.main_arg5)
      ∧ r.2.mem ((c.tc : Thread Cert.OddOutRefIdeal.nD Cert.OddOutRefIdeal.τ).loc Cert.OddOutRefIdeal.main_arg6) = m ((c.tc : Thread Cert.OddOutRefIdeal.nD Cert.OddOutRefIdeal.τ).loc Cert.OddOutRefIdeal.main_arg6)
      ∧ r.2.mem ((c.tc : Thread Cert.OddOutRefIdeal.nD Cert.OddOutRefIdeal.τ).loc Cert.OddOutRefIdeal.main_arg7) = m ((c.tc : Thread Cert.OddOutRefIdeal.nD Cert.OddOutRefIdeal.τ).loc Cert.OddOutRefIdeal.main_arg7))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1)
      ∧ r.2.mem ((c.tc : Thread Cert.OddIn.nD Cert.OddIn.τ).loc Cert.OddIn.main_arg2) = m ((c.tc : Thread Cert.OddIn.nD Cert.OddIn.τ).loc Cert.OddIn.main_arg2)
      ∧ r.2.mem ((c.tc : Thread Cert.OddIn.nD Cert.OddIn.τ).loc Cert.OddIn.main_arg3) = m ((c.tc : Thread Cert.OddIn.nD Cert.OddIn.τ).loc Cert.OddIn.main_arg3)
      ∧ r.2.mem ((c.tc : Thread Cert.OddIn.nD Cert.OddIn.τ).loc Cert.OddIn.main_arg4) = m ((c.tc : Thread Cert.OddIn.nD Cert.OddIn.τ).loc Cert.OddIn.main_arg4)
      ∧ r.2.mem ((c.tc : Thread Cert.OddIn.nD Cert.OddIn.τ).loc Cert.OddIn.main_arg5) = m ((c.tc : Thread Cert.OddIn.nD Cert.OddIn.τ).loc Cert.OddIn.main_arg5)
      ∧ r.2.mem ((c.tc : Thread Cert.OddIn.nD Cert.OddIn.τ).loc Cert.OddIn.main_arg6) = m ((c.tc : Thread Cert.OddIn.nD Cert.OddIn.τ).loc Cert.OddIn.main_arg6)
      ∧ r.2.mem ((c.tc : Thread Cert.OddIn.nD Cert.OddIn.τ).loc Cert.OddIn.main_arg7) = m ((c.tc : Thread Cert.OddIn.nD Cert.OddIn.τ).loc Cert.OddIn.main_arg7)
      ∧ r.2.mem ((c.tc : Thread Cert.OddIn.nD Cert.OddIn.τ).loc Cert.OddIn.main_arg8) = m ((c.tc : Thread Cert.OddIn.nD Cert.OddIn.τ).loc Cert.OddIn.main_arg8)
      ∧ r.2.mem ((c.tc : Thread Cert.OddIn.nD Cert.OddIn.τ).loc Cert.OddIn.main_arg9) = m ((c.tc : Thread Cert.OddIn.nD Cert.OddIn.τ).loc Cert.OddIn.main_arg9))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
      ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
      ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3)
      ∧ r.2.mem ((c.tc : Thread Cert.OddInIdeal.nD Cert.OddInIdeal.τ).loc Cert.OddInIdeal.main_arg4) = m ((c.tc : Thread Cert.OddInIdeal.nD Cert.OddInIdeal.τ).loc Cert.OddInIdeal.main_arg4)
      ∧ r.2.mem ((c.tc : Thread Cert.OddInIdeal.nD Cert.OddInIdeal.τ).loc Cert.OddInIdeal.main_arg5) = m ((c.tc : Thread Cert.OddInIdeal.nD Cert.OddInIdeal.τ).loc Cert.OddInIdeal.main_arg5)
      ∧ r.2.mem ((c.tc : Thread Cert.OddInIdeal.nD Cert.OddInIdeal.τ).loc Cert.OddInIdeal.main_arg6) = m ((c.tc : Thread Cert.OddInIdeal.nD Cert.OddInIdeal.τ).loc Cert.OddInIdeal.main_arg6)
      ∧ r.2.mem ((c.tc : Thread Cert.OddInIdeal.nD Cert.OddInIdeal.τ).loc Cert.OddInIdeal.main_arg7) = m ((c.tc : Thread Cert.OddInIdeal.nD Cert.OddInIdeal.τ).loc Cert.OddInIdeal.main_arg7)
      ∧ r.2.mem ((c.tc : Thread Cert.OddInIdeal.nD Cert.OddInIdeal.τ).loc Cert.OddInIdeal.main_arg8) = m ((c.tc : Thread Cert.OddInIdeal.nD Cert.OddInIdeal.τ).loc Cert.OddInIdeal.main_arg8)
      ∧ r.2.mem ((c.tc : Thread Cert.OddInIdeal.nD Cert.OddInIdeal.τ).loc Cert.OddInIdeal.main_arg9) = m ((c.tc : Thread Cert.OddInIdeal.nD Cert.OddInIdeal.τ).loc Cert.OddInIdeal.main_arg9))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1)
      ∧ r.2.mem ((c.tc : Thread Cert.OddInRefIdeal.nD Cert.OddInRefIdeal.τ).loc Cert.OddInRefIdeal.main_arg2) = m ((c.tc : Thread Cert.OddInRefIdeal.nD Cert.OddInRefIdeal.τ).loc Cert.OddInRefIdeal.main_arg2)
      ∧ r.2.mem ((c.tc : Thread Cert.OddInRefIdeal.nD Cert.OddInRefIdeal.τ).loc Cert.OddInRefIdeal.main_arg3) = m ((c.tc : Thread Cert.OddInRefIdeal.nD Cert.OddInRefIdeal.τ).loc Cert.OddInRefIdeal.main_arg3)
      ∧ r.2.mem ((c.tc : Thread Cert.OddInRefIdeal.nD Cert.OddInRefIdeal.τ).loc Cert.OddInRefIdeal.main_arg4) = m ((c.tc : Thread Cert.OddInRefIdeal.nD Cert.OddInRefIdeal.τ).loc Cert.OddInRefIdeal.main_arg4)
      ∧ r.2.mem ((c.tc : Thread Cert.OddInRefIdeal.nD Cert.OddInRefIdeal.τ).loc Cert.OddInRefIdeal.main_arg5) = m ((c.tc : Thread Cert.OddInRefIdeal.nD Cert.OddInRefIdeal.τ).loc Cert.OddInRefIdeal.main_arg5)
      ∧ r.2.mem ((c.tc : Thread Cert.OddInRefIdeal.nD Cert.OddInRefIdeal.τ).loc Cert.OddInRefIdeal.main_arg6) = m ((c.tc : Thread Cert.OddInRefIdeal.nD Cert.OddInRefIdeal.τ).loc Cert.OddInRefIdeal.main_arg6)
      ∧ r.2.mem ((c.tc : Thread Cert.OddInRefIdeal.nD Cert.OddInRefIdeal.τ).loc Cert.OddInRefIdeal.main_arg7) = m ((c.tc : Thread Cert.OddInRefIdeal.nD Cert.OddInRefIdeal.τ).loc Cert.OddInRefIdeal.main_arg7)
      ∧ r.2.mem ((c.tc : Thread Cert.OddInRefIdeal.nD Cert.OddInRefIdeal.τ).loc Cert.OddInRefIdeal.main_arg8) = m ((c.tc : Thread Cert.OddInRefIdeal.nD Cert.OddInRefIdeal.τ).loc Cert.OddInRefIdeal.main_arg8)
      ∧ r.2.mem ((c.tc : Thread Cert.OddInRefIdeal.nD Cert.OddInRefIdeal.τ).loc Cert.OddInRefIdeal.main_arg9) = m ((c.tc : Thread Cert.OddInRefIdeal.nD Cert.OddInRefIdeal.τ).loc Cert.OddInRefIdeal.main_arg9))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3)
      ∧ r.2.mem ((c.tc : Thread Cert.EvenOut.nD Cert.EvenOut.τ).loc Cert.EvenOut.main_arg4) = m ((c.tc : Thread Cert.EvenOut.nD Cert.EvenOut.τ).loc Cert.EvenOut.main_arg4)
      ∧ r.2.mem ((c.tc : Thread Cert.EvenOut.nD Cert.EvenOut.τ).loc Cert.EvenOut.main_arg5) = m ((c.tc : Thread Cert.EvenOut.nD Cert.EvenOut.τ).loc Cert.EvenOut.main_arg5)
      ∧ r.2.mem ((c.tc : Thread Cert.EvenOut.nD Cert.EvenOut.τ).loc Cert.EvenOut.main_arg6) = m ((c.tc : Thread Cert.EvenOut.nD Cert.EvenOut.τ).loc Cert.EvenOut.main_arg6))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
      ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
      ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5)
      ∧ r.2.mem ((c.tc : Thread Cert.EvenOutIdeal.nD Cert.EvenOutIdeal.τ).loc Cert.EvenOutIdeal.main_arg6) = m ((c.tc : Thread Cert.EvenOutIdeal.nD Cert.EvenOutIdeal.τ).loc Cert.EvenOutIdeal.main_arg6))
      ∧ r.2.sem = fun _ => 0)

def quiescent_EvenOutRefIdeal [hEvenOutRefIdeal : Cert.EvenOutRefIdeal.Facts] : Prop :=
  ∀ (m : (ℓ : Loc Cert.EvenOutRefIdeal.nD Cert.EvenOutRefIdeal.τ Cert.EvenOutRefIdeal.sig) → Buf (Elt Ideal) ℓ) (g : Dev Cert.EvenOutRefIdeal.nD → PrngReg), Pre_EvenOutRefIdeal m →
    θ_run (Cert.EvenOutRefIdeal.defs (F := Ideal)) (onTc (τ := Cert.EvenOutRefIdeal.τ) (Cert.EvenOutRefIdeal.main (F := Ideal))) ⟨m, fun _ => 0, g⟩ (fun r => (∀ c : Dev Cert.EvenOutRefIdeal.nD,
      r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
      ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1)
      ∧ r.2.mem ((c.tc : Thread Cert.EvenOutRefIdeal.nD Cert.EvenOutRefIdeal.τ).loc Cert.EvenOutRefIdeal.main_arg2) = m ((c.tc : Thread Cert.EvenOutRefIdeal.nD Cert.EvenOutRefIdeal.τ).loc Cert.EvenOutRefIdeal.main_arg2)
      ∧ r.2.mem ((c.tc : Thread Cert.EvenOutRefIdeal.nD Cert.EvenOutRefIdeal.τ).loc Cert.EvenOutRefIdeal.main_arg3) = m ((c.tc : Thread Cert.EvenOutRefIdeal.nD Cert.EvenOutRefIdeal.τ).loc Cert.EvenOutRefIdeal.main_arg3)
      ∧ r.2.mem ((c.tc : Thread Cert.EvenOutRefIdeal.nD Cert.EvenOutRefIdeal.τ).loc Cert.EvenOutRefIdeal.main_arg4) = m ((c.tc : Thread Cert.EvenOutRefIdeal.nD Cert.EvenOutRefIdeal.τ).loc Cert.EvenOutRefIdeal.main_arg4)
      ∧ r.2.mem ((c.tc : Thread Cert.EvenOutRefIdeal.nD Cert.EvenOutRefIdeal.τ).loc Cert.EvenOutRefIdeal.main_arg5) = m ((c.tc : Thread Cert.EvenOutRefIdeal.nD Cert.EvenOutRefIdeal.τ).loc Cert.EvenOutRefIdeal.main_arg5)
      ∧ r.2.mem ((c.tc : Thread Cert.EvenOutRefIdeal.nD Cert.EvenOutRefIdeal.τ).loc Cert.EvenOutRefIdeal.main_arg6) = m ((c.tc : Thread Cert.EvenOutRefIdeal.nD Cert.EvenOutRefIdeal.τ).loc Cert.EvenOutRefIdeal.main_arg6))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v11)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v11) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v46) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_OddOut_OddOutIdeal : Prop :=
  True

def algebraic_OddOutIdeal_OddOutRefIdeal_pre_finite_gate [hOddOutIdeal : Cert.OddOutIdeal.Facts] [hOddOutRefIdeal : Cert.OddOutRefIdeal.Facts] [hPre_finite_gate : Cert.Pre_finite_gate.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutRefIdeal.nD Cert.OddOutRefIdeal.τ Cert.OddOutRefIdeal.sig) → Buf (Elt Ideal) ℓ) (g' : Dev Cert.OddOutRefIdeal.nD → PrngReg), Pre_OddOutIdeal_finite_gate m →
    (∀ c : Dev Cert.OddOutIdeal.nD,
      m' ((c.tc : Thread Cert.OddOutRefIdeal.nD Cert.OddOutRefIdeal.τ).loc Cert.OddOutRefIdeal.main_arg0) = m ((c.tc : Thread Cert.OddOutIdeal.nD Cert.OddOutIdeal.τ).loc Cert.OddOutIdeal.main_arg0)
      ∧ m' ((c.tc : Thread Cert.OddOutRefIdeal.nD Cert.OddOutRefIdeal.τ).loc Cert.OddOutRefIdeal.main_arg1) = m ((c.tc : Thread Cert.OddOutIdeal.nD Cert.OddOutIdeal.τ).loc Cert.OddOutIdeal.main_arg1)
      ∧ m' ((c.tc : Thread Cert.OddOutRefIdeal.nD Cert.OddOutRefIdeal.τ).loc Cert.OddOutRefIdeal.main_arg2) = m ((c.tc : Thread Cert.OddOutIdeal.nD Cert.OddOutIdeal.τ).loc Cert.OddOutIdeal.main_arg2)
      ∧ m' ((c.tc : Thread Cert.OddOutRefIdeal.nD Cert.OddOutRefIdeal.τ).loc Cert.OddOutRefIdeal.main_arg3) = m ((c.tc : Thread Cert.OddOutIdeal.nD Cert.OddOutIdeal.τ).loc Cert.OddOutIdeal.main_arg3)
      ∧ m' ((c.tc : Thread Cert.OddOutRefIdeal.nD Cert.OddOutRefIdeal.τ).loc Cert.OddOutRefIdeal.main_arg4) = m ((c.tc : Thread Cert.OddOutIdeal.nD Cert.OddOutIdeal.τ).loc Cert.OddOutIdeal.main_arg4)
      ∧ m' ((c.tc : Thread Cert.OddOutRefIdeal.nD Cert.OddOutRefIdeal.τ).loc Cert.OddOutRefIdeal.main_arg5) = m ((c.tc : Thread Cert.OddOutIdeal.nD Cert.OddOutIdeal.τ).loc Cert.OddOutIdeal.main_arg5)
      ∧ m' ((c.tc : Thread Cert.OddOutRefIdeal.nD Cert.OddOutRefIdeal.τ).loc Cert.OddOutRefIdeal.main_arg6) = m ((c.tc : Thread Cert.OddOutIdeal.nD Cert.OddOutIdeal.τ).loc Cert.OddOutIdeal.main_arg6)
      ∧ m' ((c.tc : Thread Cert.OddOutRefIdeal.nD Cert.OddOutRefIdeal.τ).loc Cert.OddOutRefIdeal.main_arg7) = m ((c.tc : Thread Cert.OddOutIdeal.nD Cert.OddOutIdeal.τ).loc Cert.OddOutIdeal.main_arg7)) →
    ∃ (v0 : (c : Dev Cert.OddOutIdeal.nD) → Buf (Elt Ideal) ((c.tc : Thread Cert.OddOutIdeal.nD Cert.OddOutIdeal.τ).loc Cert.OddOutIdeal.main_v11)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v11) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
          ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
          ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4)
          ∧ r.2.mem ((c.tc : Thread Cert.OddOutIdeal.nD Cert.OddOutIdeal.τ).loc Cert.OddOutIdeal.main_arg5) = m ((c.tc : Thread Cert.OddOutIdeal.nD Cert.OddOutIdeal.τ).loc Cert.OddOutIdeal.main_arg5)
          ∧ r.2.mem ((c.tc : Thread Cert.OddOutIdeal.nD Cert.OddOutIdeal.τ).loc Cert.OddOutIdeal.main_arg6) = m ((c.tc : Thread Cert.OddOutIdeal.nD Cert.OddOutIdeal.τ).loc Cert.OddOutIdeal.main_arg6)
          ∧ r.2.mem ((c.tc : Thread Cert.OddOutIdeal.nD Cert.OddOutIdeal.τ).loc Cert.OddOutIdeal.main_arg7) = m ((c.tc : Thread Cert.OddOutIdeal.nD Cert.OddOutIdeal.τ).loc Cert.OddOutIdeal.main_arg7))
      ∧ θ_run (Cert.OddOutRefIdeal.defs (F := Ideal)) (onTc (τ := Cert.OddOutRefIdeal.τ) (Cert.OddOutRefIdeal.main (F := Ideal))) ⟨m', fun _ => 0, g'⟩ (fun r => ∀ c : Dev Cert.OddOutRefIdeal.nD,
          r.2.mem ((c.tc : Thread Cert.OddOutRefIdeal.nD Cert.OddOutRefIdeal.τ).loc Cert.OddOutRefIdeal.main_v41) = v0 c
          ∧ r.2.mem ((c.tc : Thread Cert.OddOutRefIdeal.nD Cert.OddOutRefIdeal.τ).loc Cert.OddOutRefIdeal.main_arg0) = m' ((c.tc : Thread Cert.OddOutRefIdeal.nD Cert.OddOutRefIdeal.τ).loc Cert.OddOutRefIdeal.main_arg0)
          ∧ r.2.mem ((c.tc : Thread Cert.OddOutRefIdeal.nD Cert.OddOutRefIdeal.τ).loc Cert.OddOutRefIdeal.main_arg1) = m' ((c.tc : Thread Cert.OddOutRefIdeal.nD Cert.OddOutRefIdeal.τ).loc Cert.OddOutRefIdeal.main_arg1)
          ∧ r.2.mem ((c.tc : Thread Cert.OddOutRefIdeal.nD Cert.OddOutRefIdeal.τ).loc Cert.OddOutRefIdeal.main_arg2) = m' ((c.tc : Thread Cert.OddOutRefIdeal.nD Cert.OddOutRefIdeal.τ).loc Cert.OddOutRefIdeal.main_arg2)
          ∧ r.2.mem ((c.tc : Thread Cert.OddOutRefIdeal.nD Cert.OddOutRefIdeal.τ).loc Cert.OddOutRefIdeal.main_arg3) = m' ((c.tc : Thread Cert.OddOutRefIdeal.nD Cert.OddOutRefIdeal.τ).loc Cert.OddOutRefIdeal.main_arg3)
          ∧ r.2.mem ((c.tc : Thread Cert.OddOutRefIdeal.nD Cert.OddOutRefIdeal.τ).loc Cert.OddOutRefIdeal.main_arg4) = m' ((c.tc : Thread Cert.OddOutRefIdeal.nD Cert.OddOutRefIdeal.τ).loc Cert.OddOutRefIdeal.main_arg4)
          ∧ r.2.mem ((c.tc : Thread Cert.OddOutRefIdeal.nD Cert.OddOutRefIdeal.τ).loc Cert.OddOutRefIdeal.main_arg5) = m' ((c.tc : Thread Cert.OddOutRefIdeal.nD Cert.OddOutRefIdeal.τ).loc Cert.OddOutRefIdeal.main_arg5)
          ∧ r.2.mem ((c.tc : Thread Cert.OddOutRefIdeal.nD Cert.OddOutRefIdeal.τ).loc Cert.OddOutRefIdeal.main_arg6) = m' ((c.tc : Thread Cert.OddOutRefIdeal.nD Cert.OddOutRefIdeal.τ).loc Cert.OddOutRefIdeal.main_arg6)
          ∧ r.2.mem ((c.tc : Thread Cert.OddOutRefIdeal.nD Cert.OddOutRefIdeal.τ).loc Cert.OddOutRefIdeal.main_arg7) = m' ((c.tc : Thread Cert.OddOutRefIdeal.nD Cert.OddOutRefIdeal.τ).loc Cert.OddOutRefIdeal.main_arg7))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)
      ∧ m' ((c.tc : Thread Cert.EvenInRefIdeal.nD Cert.EvenInRefIdeal.τ).loc Cert.EvenInRefIdeal.main_arg2) = m ((c.tc : Thread Cert.EvenInIdeal.nD Cert.EvenInIdeal.τ).loc Cert.EvenInIdeal.main_arg2)) →
    ∃ (v0 : (c : Dev Cert.EvenInIdeal.nD) → Buf (Elt Ideal) ((c.tc : Thread Cert.EvenInIdeal.nD Cert.EvenInIdeal.τ).loc Cert.EvenInIdeal.main_v64_0)) (v1 : (c : Dev Cert.EvenInIdeal.nD) → Buf (Elt Ideal) ((c.tc : Thread Cert.EvenInIdeal.nD Cert.EvenInIdeal.τ).loc Cert.EvenInIdeal.main_v64_1)) (v2 : (c : Dev Cert.EvenInIdeal.nD) → Buf (Elt Ideal) ((c.tc : Thread Cert.EvenInIdeal.nD Cert.EvenInIdeal.τ).loc Cert.EvenInIdeal.main_v64_2)) (v3 : (c : Dev Cert.EvenInIdeal.nD) → Buf (Elt Ideal) ((c.tc : Thread Cert.EvenInIdeal.nD Cert.EvenInIdeal.τ).loc Cert.EvenInIdeal.main_v64_3)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v64_0) = v0 c
          ∧ r.2.mem ((c.tc : Thread Cert.EvenInIdeal.nD Cert.EvenInIdeal.τ).loc Cert.EvenInIdeal.main_v64_1) = v1 c
          ∧ r.2.mem ((c.tc : Thread Cert.EvenInIdeal.nD Cert.EvenInIdeal.τ).loc Cert.EvenInIdeal.main_v64_2) = v2 c
          ∧ r.2.mem ((c.tc : Thread Cert.EvenInIdeal.nD Cert.EvenInIdeal.τ).loc Cert.EvenInIdeal.main_v64_3) = v3 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v37) = v0 c
          ∧ r.2.mem ((c.tc : Thread Cert.EvenInRefIdeal.nD Cert.EvenInRefIdeal.τ).loc Cert.EvenInRefIdeal.main_v78) = v1 c
          ∧ r.2.mem ((c.tc : Thread Cert.EvenInRefIdeal.nD Cert.EvenInRefIdeal.τ).loc Cert.EvenInRefIdeal.main_v80) = v2 c
          ∧ r.2.mem ((c.tc : Thread Cert.EvenInRefIdeal.nD Cert.EvenInRefIdeal.τ).loc Cert.EvenInRefIdeal.main_v81) = v3 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1)
          ∧ r.2.mem ((c.tc : Thread Cert.EvenInRefIdeal.nD Cert.EvenInRefIdeal.τ).loc Cert.EvenInRefIdeal.main_arg2) = m' ((c.tc : Thread Cert.EvenInRefIdeal.nD Cert.EvenInRefIdeal.τ).loc Cert.EvenInRefIdeal.main_arg2))

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)
      ∧ m' ((c.tc : Thread Cert.OddInRefIdeal.nD Cert.OddInRefIdeal.τ).loc Cert.OddInRefIdeal.main_arg2) = m ((c.tc : Thread Cert.OddInIdeal.nD Cert.OddInIdeal.τ).loc Cert.OddInIdeal.main_arg2)
      ∧ m' ((c.tc : Thread Cert.OddInRefIdeal.nD Cert.OddInRefIdeal.τ).loc Cert.OddInRefIdeal.main_arg3) = m ((c.tc : Thread Cert.OddInIdeal.nD Cert.OddInIdeal.τ).loc Cert.OddInIdeal.main_arg3)
      ∧ m' ((c.tc : Thread Cert.OddInRefIdeal.nD Cert.OddInRefIdeal.τ).loc Cert.OddInRefIdeal.main_arg4) = m ((c.tc : Thread Cert.OddInIdeal.nD Cert.OddInIdeal.τ).loc Cert.OddInIdeal.main_arg4)
      ∧ m' ((c.tc : Thread Cert.OddInRefIdeal.nD Cert.OddInRefIdeal.τ).loc Cert.OddInRefIdeal.main_arg5) = m ((c.tc : Thread Cert.OddInIdeal.nD Cert.OddInIdeal.τ).loc Cert.OddInIdeal.main_arg5)
      ∧ m' ((c.tc : Thread Cert.OddInRefIdeal.nD Cert.OddInRefIdeal.τ).loc Cert.OddInRefIdeal.main_arg6) = m ((c.tc : Thread Cert.OddInIdeal.nD Cert.OddInIdeal.τ).loc Cert.OddInIdeal.main_arg6)
      ∧ m' ((c.tc : Thread Cert.OddInRefIdeal.nD Cert.OddInRefIdeal.τ).loc Cert.OddInRefIdeal.main_arg7) = m ((c.tc : Thread Cert.OddInIdeal.nD Cert.OddInIdeal.τ).loc Cert.OddInIdeal.main_arg7)
      ∧ m' ((c.tc : Thread Cert.OddInRefIdeal.nD Cert.OddInRefIdeal.τ).loc Cert.OddInRefIdeal.main_arg8) = m ((c.tc : Thread Cert.OddInIdeal.nD Cert.OddInIdeal.τ).loc Cert.OddInIdeal.main_arg8)
      ∧ m' ((c.tc : Thread Cert.OddInRefIdeal.nD Cert.OddInRefIdeal.τ).loc Cert.OddInRefIdeal.main_arg9) = m ((c.tc : Thread Cert.OddInIdeal.nD Cert.OddInIdeal.τ).loc Cert.OddInIdeal.main_arg9)) →
    ∃ (v0 : (c : Dev Cert.OddInIdeal.nD) → Buf (Elt Ideal) ((c.tc : Thread Cert.OddInIdeal.nD Cert.OddInIdeal.τ).loc Cert.OddInIdeal.main_v36_2)) (v1 : (c : Dev Cert.OddInIdeal.nD) → Buf (Elt Ideal) ((c.tc : Thread Cert.OddInIdeal.nD Cert.OddInIdeal.τ).loc Cert.OddInIdeal.main_v36_3)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v36_2) = v0 c
          ∧ r.2.mem ((c.tc : Thread Cert.OddInIdeal.nD Cert.OddInIdeal.τ).loc Cert.OddInIdeal.main_v36_3) = v1 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
          ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
          ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3)
          ∧ r.2.mem ((c.tc : Thread Cert.OddInIdeal.nD Cert.OddInIdeal.τ).loc Cert.OddInIdeal.main_arg4) = m ((c.tc : Thread Cert.OddInIdeal.nD Cert.OddInIdeal.τ).loc Cert.OddInIdeal.main_arg4)
          ∧ r.2.mem ((c.tc : Thread Cert.OddInIdeal.nD Cert.OddInIdeal.τ).loc Cert.OddInIdeal.main_arg5) = m ((c.tc : Thread Cert.OddInIdeal.nD Cert.OddInIdeal.τ).loc Cert.OddInIdeal.main_arg5)
          ∧ r.2.mem ((c.tc : Thread Cert.OddInIdeal.nD Cert.OddInIdeal.τ).loc Cert.OddInIdeal.main_arg6) = m ((c.tc : Thread Cert.OddInIdeal.nD Cert.OddInIdeal.τ).loc Cert.OddInIdeal.main_arg6)
          ∧ r.2.mem ((c.tc : Thread Cert.OddInIdeal.nD Cert.OddInIdeal.τ).loc Cert.OddInIdeal.main_arg7) = m ((c.tc : Thread Cert.OddInIdeal.nD Cert.OddInIdeal.τ).loc Cert.OddInIdeal.main_arg7)
          ∧ r.2.mem ((c.tc : Thread Cert.OddInIdeal.nD Cert.OddInIdeal.τ).loc Cert.OddInIdeal.main_arg8) = m ((c.tc : Thread Cert.OddInIdeal.nD Cert.OddInIdeal.τ).loc Cert.OddInIdeal.main_arg8)
          ∧ r.2.mem ((c.tc : Thread Cert.OddInIdeal.nD Cert.OddInIdeal.τ).loc Cert.OddInIdeal.main_arg9) = m ((c.tc : Thread Cert.OddInIdeal.nD Cert.OddInIdeal.τ).loc Cert.OddInIdeal.main_arg9))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v27) = v0 c
          ∧ r.2.mem ((c.tc : Thread Cert.OddInRefIdeal.nD Cert.OddInRefIdeal.τ).loc Cert.OddInRefIdeal.main_v28) = v1 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1)
          ∧ r.2.mem ((c.tc : Thread Cert.OddInRefIdeal.nD Cert.OddInRefIdeal.τ).loc Cert.OddInRefIdeal.main_arg2) = m' ((c.tc : Thread Cert.OddInRefIdeal.nD Cert.OddInRefIdeal.τ).loc Cert.OddInRefIdeal.main_arg2)
          ∧ r.2.mem ((c.tc : Thread Cert.OddInRefIdeal.nD Cert.OddInRefIdeal.τ).loc Cert.OddInRefIdeal.main_arg3) = m' ((c.tc : Thread Cert.OddInRefIdeal.nD Cert.OddInRefIdeal.τ).loc Cert.OddInRefIdeal.main_arg3)
          ∧ r.2.mem ((c.tc : Thread Cert.OddInRefIdeal.nD Cert.OddInRefIdeal.τ).loc Cert.OddInRefIdeal.main_arg4) = m' ((c.tc : Thread Cert.OddInRefIdeal.nD Cert.OddInRefIdeal.τ).loc Cert.OddInRefIdeal.main_arg4)
          ∧ r.2.mem ((c.tc : Thread Cert.OddInRefIdeal.nD Cert.OddInRefIdeal.τ).loc Cert.OddInRefIdeal.main_arg5) = m' ((c.tc : Thread Cert.OddInRefIdeal.nD Cert.OddInRefIdeal.τ).loc Cert.OddInRefIdeal.main_arg5)
          ∧ r.2.mem ((c.tc : Thread Cert.OddInRefIdeal.nD Cert.OddInRefIdeal.τ).loc Cert.OddInRefIdeal.main_arg6) = m' ((c.tc : Thread Cert.OddInRefIdeal.nD Cert.OddInRefIdeal.τ).loc Cert.OddInRefIdeal.main_arg6)
          ∧ r.2.mem ((c.tc : Thread Cert.OddInRefIdeal.nD Cert.OddInRefIdeal.τ).loc Cert.OddInRefIdeal.main_arg7) = m' ((c.tc : Thread Cert.OddInRefIdeal.nD Cert.OddInRefIdeal.τ).loc Cert.OddInRefIdeal.main_arg7)
          ∧ r.2.mem ((c.tc : Thread Cert.OddInRefIdeal.nD Cert.OddInRefIdeal.τ).loc Cert.OddInRefIdeal.main_arg8) = m' ((c.tc : Thread Cert.OddInRefIdeal.nD Cert.OddInRefIdeal.τ).loc Cert.OddInRefIdeal.main_arg8)
          ∧ r.2.mem ((c.tc : Thread Cert.OddInRefIdeal.nD Cert.OddInRefIdeal.τ).loc Cert.OddInRefIdeal.main_arg9) = m' ((c.tc : Thread Cert.OddInRefIdeal.nD Cert.OddInRefIdeal.τ).loc Cert.OddInRefIdeal.main_arg9))

def preserves_EvenOut_EvenOutIdeal : Prop :=
  True

def algebraic_EvenOutIdeal_EvenOutRefIdeal [hEvenOutIdeal : Cert.EvenOutIdeal.Facts] [hEvenOutRefIdeal : Cert.EvenOutRefIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutRefIdeal.nD Cert.EvenOutRefIdeal.τ Cert.EvenOutRefIdeal.sig) → Buf (Elt Ideal) ℓ) (g' : Dev Cert.EvenOutRefIdeal.nD → PrngReg), Pre_EvenOutIdeal m →
    (∀ c : Dev Cert.EvenOutIdeal.nD,
      m' ((c.tc : Thread Cert.EvenOutRefIdeal.nD Cert.EvenOutRefIdeal.τ).loc Cert.EvenOutRefIdeal.main_arg0) = m ((c.tc : Thread Cert.EvenOutIdeal.nD Cert.EvenOutIdeal.τ).loc Cert.EvenOutIdeal.main_arg0)
      ∧ m' ((c.tc : Thread Cert.EvenOutRefIdeal.nD Cert.EvenOutRefIdeal.τ).loc Cert.EvenOutRefIdeal.main_arg1) = m ((c.tc : Thread Cert.EvenOutIdeal.nD Cert.EvenOutIdeal.τ).loc Cert.EvenOutIdeal.main_arg1)
      ∧ m' ((c.tc : Thread Cert.EvenOutRefIdeal.nD Cert.EvenOutRefIdeal.τ).loc Cert.EvenOutRefIdeal.main_arg2) = m ((c.tc : Thread Cert.EvenOutIdeal.nD Cert.EvenOutIdeal.τ).loc Cert.EvenOutIdeal.main_arg2)
      ∧ m' ((c.tc : Thread Cert.EvenOutRefIdeal.nD Cert.EvenOutRefIdeal.τ).loc Cert.EvenOutRefIdeal.main_arg3) = m ((c.tc : Thread Cert.EvenOutIdeal.nD Cert.EvenOutIdeal.τ).loc Cert.EvenOutIdeal.main_arg3)
      ∧ m' ((c.tc : Thread Cert.EvenOutRefIdeal.nD Cert.EvenOutRefIdeal.τ).loc Cert.EvenOutRefIdeal.main_arg4) = m ((c.tc : Thread Cert.EvenOutIdeal.nD Cert.EvenOutIdeal.τ).loc Cert.EvenOutIdeal.main_arg4)
      ∧ m' ((c.tc : Thread Cert.EvenOutRefIdeal.nD Cert.EvenOutRefIdeal.τ).loc Cert.EvenOutRefIdeal.main_arg5) = m ((c.tc : Thread Cert.EvenOutIdeal.nD Cert.EvenOutIdeal.τ).loc Cert.EvenOutIdeal.main_arg5)
      ∧ m' ((c.tc : Thread Cert.EvenOutRefIdeal.nD Cert.EvenOutRefIdeal.τ).loc Cert.EvenOutRefIdeal.main_arg6) = m ((c.tc : Thread Cert.EvenOutIdeal.nD Cert.EvenOutIdeal.τ).loc Cert.EvenOutIdeal.main_arg6)) →
    ∃ (v0 : (c : Dev Cert.EvenOutIdeal.nD) → Buf (Elt Ideal) ((c.tc : Thread Cert.EvenOutIdeal.nD Cert.EvenOutIdeal.τ).loc Cert.EvenOutIdeal.main_v61)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v61) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
          ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
          ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5)
          ∧ r.2.mem ((c.tc : Thread Cert.EvenOutIdeal.nD Cert.EvenOutIdeal.τ).loc Cert.EvenOutIdeal.main_arg6) = m ((c.tc : Thread Cert.EvenOutIdeal.nD Cert.EvenOutIdeal.τ).loc Cert.EvenOutIdeal.main_arg6))
      ∧ θ_run (Cert.EvenOutRefIdeal.defs (F := Ideal)) (onTc (τ := Cert.EvenOutRefIdeal.τ) (Cert.EvenOutRefIdeal.main (F := Ideal))) ⟨m', fun _ => 0, g'⟩ (fun r => ∀ c : Dev Cert.EvenOutRefIdeal.nD,
          r.2.mem ((c.tc : Thread Cert.EvenOutRefIdeal.nD Cert.EvenOutRefIdeal.τ).loc Cert.EvenOutRefIdeal.main_v160) = v0 c
          ∧ r.2.mem ((c.tc : Thread Cert.EvenOutRefIdeal.nD Cert.EvenOutRefIdeal.τ).loc Cert.EvenOutRefIdeal.main_arg0) = m' ((c.tc : Thread Cert.EvenOutRefIdeal.nD Cert.EvenOutRefIdeal.τ).loc Cert.EvenOutRefIdeal.main_arg0)
          ∧ r.2.mem ((c.tc : Thread Cert.EvenOutRefIdeal.nD Cert.EvenOutRefIdeal.τ).loc Cert.EvenOutRefIdeal.main_arg1) = m' ((c.tc : Thread Cert.EvenOutRefIdeal.nD Cert.EvenOutRefIdeal.τ).loc Cert.EvenOutRefIdeal.main_arg1)
          ∧ r.2.mem ((c.tc : Thread Cert.EvenOutRefIdeal.nD Cert.EvenOutRefIdeal.τ).loc Cert.EvenOutRefIdeal.main_arg2) = m' ((c.tc : Thread Cert.EvenOutRefIdeal.nD Cert.EvenOutRefIdeal.τ).loc Cert.EvenOutRefIdeal.main_arg2)
          ∧ r.2.mem ((c.tc : Thread Cert.EvenOutRefIdeal.nD Cert.EvenOutRefIdeal.τ).loc Cert.EvenOutRefIdeal.main_arg3) = m' ((c.tc : Thread Cert.EvenOutRefIdeal.nD Cert.EvenOutRefIdeal.τ).loc Cert.EvenOutRefIdeal.main_arg3)
          ∧ r.2.mem ((c.tc : Thread Cert.EvenOutRefIdeal.nD Cert.EvenOutRefIdeal.τ).loc Cert.EvenOutRefIdeal.main_arg4) = m' ((c.tc : Thread Cert.EvenOutRefIdeal.nD Cert.EvenOutRefIdeal.τ).loc Cert.EvenOutRefIdeal.main_arg4)
          ∧ r.2.mem ((c.tc : Thread Cert.EvenOutRefIdeal.nD Cert.EvenOutRefIdeal.τ).loc Cert.EvenOutRefIdeal.main_arg5) = m' ((c.tc : Thread Cert.EvenOutRefIdeal.nD Cert.EvenOutRefIdeal.τ).loc Cert.EvenOutRefIdeal.main_arg5)
          ∧ r.2.mem ((c.tc : Thread Cert.EvenOutRefIdeal.nD Cert.EvenOutRefIdeal.τ).loc Cert.EvenOutRefIdeal.main_arg6) = m' ((c.tc : Thread Cert.EvenOutRefIdeal.nD Cert.EvenOutRefIdeal.τ).loc Cert.EvenOutRefIdeal.main_arg6))

def Claim : Prop :=
  ∃ (hFfn : Cert.Ffn.Facts) (hFfnIdeal : Cert.FfnIdeal.Facts) (hFfnRefIdeal : Cert.FfnRefIdeal.Facts) (hKernel : Cert.Kernel.Facts) (hKernelIdeal : Cert.KernelIdeal.Facts) (hReferenceIdeal : Cert.ReferenceIdeal.Facts) (hOddOut : Cert.OddOut.Facts) (hOddOutIdeal : Cert.OddOutIdeal.Facts) (hOddOutRefIdeal : Cert.OddOutRefIdeal.Facts) (hEvenIn : Cert.EvenIn.Facts) (hEvenInIdeal : Cert.EvenInIdeal.Facts) (hEvenInRefIdeal : Cert.EvenInRefIdeal.Facts) (hOddIn : Cert.OddIn.Facts) (hOddInIdeal : Cert.OddInIdeal.Facts) (hOddInRefIdeal : Cert.OddInRefIdeal.Facts) (hEvenOut : Cert.EvenOut.Facts) (hEvenOutIdeal : Cert.EvenOutIdeal.Facts) (hEvenOutRefIdeal : Cert.EvenOutRefIdeal.Facts) (hPre_finite : Cert.Pre_finite.Facts) (hPre_finite_gate : Cert.Pre_finite_gate.Facts),
    quiescent_Ffn (hFfn := hFfn)
    ∧ quiescent_FfnIdeal (hFfnIdeal := hFfnIdeal)
    ∧ quiescent_FfnRefIdeal (hFfnRefIdeal := hFfnRefIdeal)
    ∧ quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_OddOut (hOddOut := hOddOut)
    ∧ quiescent_OddOutIdeal (hOddOutIdeal := hOddOutIdeal)
    ∧ quiescent_OddOutIdeal_pre_finite_gate (hOddOutIdeal := hOddOutIdeal) (hPre_finite_gate := hPre_finite_gate)
    ∧ quiescent_OddOutRefIdeal (hOddOutRefIdeal := hOddOutRefIdeal)
    ∧ quiescent_OddOutRefIdeal_pre_finite_gate (hOddOutRefIdeal := hOddOutRefIdeal) (hPre_finite_gate := hPre_finite_gate)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_OddIn (hOddIn := hOddIn)
    ∧ quiescent_OddInIdeal (hOddInIdeal := hOddInIdeal)
    ∧ quiescent_OddInRefIdeal (hOddInRefIdeal := hOddInRefIdeal)
    ∧ quiescent_EvenOut (hEvenOut := hEvenOut)
    ∧ quiescent_EvenOutIdeal (hEvenOutIdeal := hEvenOutIdeal)
    ∧ quiescent_EvenOutRefIdeal (hEvenOutRefIdeal := hEvenOutRefIdeal)
    ∧ preserves_Ffn_FfnIdeal
    ∧ algebraic_FfnIdeal_FfnRefIdeal (hFfnIdeal := hFfnIdeal) (hFfnRefIdeal := hFfnRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_OddOut_OddOutIdeal
    ∧ algebraic_OddOutIdeal_OddOutRefIdeal_pre_finite_gate (hOddOutIdeal := hOddOutIdeal) (hOddOutRefIdeal := hOddOutRefIdeal) (hPre_finite_gate := hPre_finite_gate)
    ∧ preserves_EvenIn_EvenInIdeal
    ∧ algebraic_EvenInIdeal_EvenInRefIdeal (hEvenInIdeal := hEvenInIdeal) (hEvenInRefIdeal := hEvenInRefIdeal)
    ∧ preserves_OddIn_OddInIdeal
    ∧ algebraic_OddInIdeal_OddInRefIdeal (hOddInIdeal := hOddInIdeal) (hOddInRefIdeal := hOddInRefIdeal)
    ∧ preserves_EvenOut_EvenOutIdeal
    ∧ algebraic_EvenOutIdeal_EvenOutRefIdeal (hEvenOutIdeal := hEvenOutIdeal) (hEvenOutRefIdeal := hEvenOutRefIdeal)
-- ==== Pre_finite.lean ====
abbrev S32768x768 : Shape := ⟨2, ![32768, 768]⟩
abbrev S32768x256 : Shape := ⟨2, ![32768, 256]⟩
abbrev S12 : Shape := ⟨1, ![12]⟩
abbrev S_ : Shape := ⟨0, ![]⟩

class Facts : Prop where
  bitsLt_bf16_f32 : FTy.bits .bf16 < FTy.bits .f32
  bcast_S_S32768x768 : S_.BroadcastsInDim S32768x768 (![] : Fin 0 → Fin S32768x768.rank)
  reducesTo_S32768x768_S_d0_1 : S32768x768.ReducesTo [0, 1] S_
  h_S_ : 0 < S_.numel
  bcast_S_S32768x256 : S_.BroadcastsInDim S32768x256 (![] : Fin 0 → Fin S32768x256.rank)
  reducesTo_S32768x256_S_d0_1 : S32768x256.ReducesTo [0, 1] S_
  bcast_S_S12 : S_.BroadcastsInDim S12 (![] : Fin 0 → Fin S12.rank)
  reducesTo_S12_S_d0 : S12.ReducesTo [0] S_

variable [Facts]

def fn {F : FTy → Type} [FloatOps F] (main_arg0 : FVec F S32768x768 .bf16) (main_arg1 : FVec F S32768x256 .bf16) (main_arg2 : FVec F S32768x256 .bf16) (main_arg3 : FVec F S12 .f32) : IVec S_ 1 :=
  let main_v0 : FVec F S32768x768 .f32 := (extf .f32 · bitsLt_bf16_f32) main_arg0
  let main_v1 : FVec F S32768x768 .f32 := Host.absf main_v0
  let main_cst : FVec F S_ .f32 := constant S_ .f32 0x7F800000#32
  let main_v2 : FVec F S32768x768 .f32 := broadcastInDim S32768x768 ![] bcast_S_S32768x768 main_cst
  let main_v3 : IVec S32768x768 1 := cmpf .olt main_v1 main_v2
  let main_c : IVec S_ 1 := constantI S_ 1 1#1
  let main_v4 : IVec S_ 1 := (fun x v => Host.reduce IntOp.andi x v reducesTo_S32768x768_S_d0_1 h_S_) main_v3 main_c
  let main_v5 : FVec F S32768x256 .f32 := (extf .f32 · bitsLt_bf16_f32) main_arg1
  let main_v6 : FVec F S32768x256 .f32 := Host.absf main_v5
  let main_cst_0 : FVec F S_ .f32 := constant S_ .f32 0x7F800000#32
  let main_v7 : FVec F S32768x256 .f32 := broadcastInDim S32768x256 ![] bcast_S_S32768x256 main_cst_0
  let main_v8 : IVec S32768x256 1 := cmpf .olt main_v6 main_v7
  let main_c_1 : IVec S_ 1 := constantI S_ 1 1#1
  let main_v9 : IVec S_ 1 := (fun x v => Host.reduce IntOp.andi x v reducesTo_S32768x256_S_d0_1 h_S_) main_v8 main_c_1
  let main_v10 : IVec S_ 1 := andi main_v4 main_v9
  let main_v11 : FVec F S12 .f32 := Host.absf main_arg3
  let main_cst_2 : FVec F S_ .f32 := constant S_ .f32 0x7F800000#32
  let main_v12 : FVec F S12 .f32 := broadcastInDim S12 ![] bcast_S_S12 main_cst_2
  let main_v13 : IVec S12 1 := cmpf .olt main_v11 main_v12
  let main_c_3 : IVec S_ 1 := constantI S_ 1 1#1
  let main_v14 : IVec S_ 1 := (fun x v => Host.reduce IntOp.andi x v reducesTo_S12_S_d0 h_S_) main_v13 main_c_3
  let main_v15 : IVec S_ 1 := andi main_v10 main_v14
  main_v15
-- ==== Pre_finite_gate.lean ====
abbrev S32768x1024 : Shape := ⟨2, ![32768, 1024]⟩
abbrev S32768x512 : Shape := ⟨2, ![32768, 512]⟩
abbrev S4x6x1024 : Shape := ⟨3, ![4, 6, 1024]⟩
abbrev S2x1024 : Shape := ⟨2, ![2, 1024]⟩
abbrev S2x1536x1024 : Shape := ⟨3, ![2, 1536, 1024]⟩
abbrev S_ : Shape := ⟨0, ![]⟩

class Facts : Prop where
  bitsLt_bf16_f32 : FTy.bits .bf16 < FTy.bits .f32
  bcast_S_S32768x1024 : S_.BroadcastsInDim S32768x1024 (![] : Fin 0 → Fin S32768x1024.rank)
  reducesTo_S32768x1024_S_d0_1 : S32768x1024.ReducesTo [0, 1] S_
  h_S_ : 0 < S_.numel

variable [Facts]

def fn {F : FTy → Type} [FloatOps F] (main_arg0 : FVec F S32768x1024 .f32) (main_arg1 : FVec F S32768x512 .bf16) (main_arg2 : FVec F S32768x1024 .bf16) (main_arg3 : FVec F S32768x1024 .bf16) (main_arg4 : FVec F S32768x1024 .bf16) (main_arg5 : FVec F S4x6x1024 .f32) (main_arg6 : FVec F S2x1024 .f32) (main_arg7 : FVec F S2x1536x1024 .f32) : IVec S_ 1 :=
  let main_v0 : FVec F S32768x1024 .f32 := (extf .f32 · bitsLt_bf16_f32) main_arg4
  let main_v1 : FVec F S32768x1024 .f32 := Host.absf main_v0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  let main_c : IVec S_ 1 := constantI S_ 1 1#1
  let main_v4 : IVec S_ 1 := (fun x v => Host.reduce IntOp.andi x v reducesTo_S32768x1024_S_d0_1 h_S_) main_v3 main_c
  main_v4
-- ==== Ffn.lean ====
abbrev S8x4096x1024 : Shape := ⟨3, ![8, 4096, 1024]⟩
abbrev S4x6x1024 : Shape := ⟨3, ![4, 6, 1024]⟩
abbrev S4x2x1024x2816 : Shape := ⟨4, ![4, 2, 1024, 2816]⟩
abbrev S4x2x2816x1024 : Shape := ⟨4, ![4, 2, 2816, 1024]⟩
abbrev S32768x1024 : Shape := ⟨2, ![32768, 1024]⟩
abbrev S1x6x1024 : Shape := ⟨3, ![1, 6, 1024]⟩
abbrev S6x1024 : Shape := ⟨2, ![6, 1024]⟩
abbrev S6x1x1024 : Shape := ⟨3, ![6, 1, 1024]⟩
abbrev S1x1x1024 : Shape := ⟨3, ![1, 1, 1024]⟩
abbrev S1x1024 : Shape := ⟨2, ![1, 1024]⟩
abbrev S1024x1024 : Shape := ⟨2, ![1024, 1024]⟩
abbrev S1x1x1024x2816 : Shape := ⟨4, ![1, 1, 1024, 2816]⟩
abbrev S1x1x2816x1024 : Shape := ⟨4, ![1, 1, 2816, 1024]⟩
abbrev S512x1024 : Shape := ⟨2, ![512, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x1x256x1024 : Shape := ⟨4, ![1, 1, 256, 1024]⟩
abbrev S256x1024 : Shape := ⟨2, ![256, 1024]⟩

abbrev nBuf : Space → Nat
  | .hbm => 17
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S4x6x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S32768x1024, .f32⟩
  | .hbm, ⟨6, _⟩ => ⟨S4x2x1024x2816, .bf16⟩
  | .hbm, ⟨7, _⟩ => ⟨S4x2x1024x2816, .bf16⟩
  | .hbm, ⟨8, _⟩ => ⟨S4x2x2816x1024, .bf16⟩
  | .hbm, ⟨9, _⟩ => ⟨S1x6x1024, .f32⟩
  | .hbm, ⟨10, _⟩ => ⟨S6x1024, .f32⟩
  | .hbm, ⟨11, _⟩ => ⟨S6x1x1024, .f32⟩
  | .hbm, ⟨12, _⟩ => ⟨S1x1x1024, .f32⟩
  | .hbm, ⟨13, _⟩ => ⟨S1x1024, .f32⟩
  | .hbm, ⟨14, _⟩ => ⟨S1x1x1024, .f32⟩
  | .hbm, ⟨15, _⟩ => ⟨S1x1024, .f32⟩
  | .hbm, ⟨16, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1x1024x2816, .bf16⟩
  | .local _ .vmem, ⟨5, _⟩ => ⟨S1x1x1024x2816, .bf16⟩
  | .local _ .vmem, ⟨6, _⟩ => ⟨S1x1x2816x1024, .bf16⟩
  | .local _ .vmem, ⟨7, _⟩ => ⟨S1024x1024, .f32⟩
  | .local _ .vmem, ⟨8, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S8x4096x1024 : Shape := ⟨3, ![8, 4096, 1024]⟩
abbrev S4x6x1024 : Shape := ⟨3, ![4, 6, 1024]⟩
abbrev S4x2x1024x2816 : Shape := ⟨4, ![4, 2, 1024, 2816]⟩
abbrev S4x2x2816x1024 : Shape := ⟨4, ![4, 2, 2816, 1024]⟩
abbrev S1x6x1024 : Shape := ⟨3, ![1, 6, 1024]⟩
abbrev S6x1024 : Shape := ⟨2, ![6, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩
abbrev S32768x1024 : Shape := ⟨2, ![32768, 1024]⟩

abbrev nBuf : Space → Nat
  | .hbm => 67
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S4x6x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S1x6x1024, .f32⟩
  | .hbm, ⟨6, _⟩ => ⟨S6x1024, .f32⟩
  | .hbm, ⟨7, _⟩ => ⟨S1x1x1024x2816, .f32⟩
  | .hbm, ⟨8, _⟩ => ⟨S1024x2816, .f32⟩
  | .hbm, ⟨9, _⟩ => ⟨S1x1x1024x2816, .f32⟩
  | .hbm, ⟨10, _⟩ => ⟨S1024x2816, .f32⟩
  | .hbm, ⟨11, _⟩ => ⟨S1x1x2816x1024, .f32⟩
  | .hbm, ⟨12, _⟩ => ⟨S2816x1024, .f32⟩
  | .hbm, ⟨13, _⟩ => ⟨S1x1024, .f32⟩
  | .hbm, ⟨14, _⟩ => ⟨S1024, .f32⟩
  | .hbm, ⟨15, _⟩ => ⟨S8x4096x1024, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S8x4096x1, .f32⟩
  | .hbm, ⟨26, _⟩ => ⟨S8x4096x1024, .f32⟩
  | .hbm, ⟨27, _⟩ => ⟨S8x4096x1024, .f32⟩
  | .hbm, ⟨28, _⟩ => ⟨S1x1x1024, .f32⟩
  | .hbm, ⟨29, _⟩ => ⟨S8x4096x1024, .f32⟩
  | .hbm, ⟨30, _⟩ => ⟨S8x4096x1024, .f32⟩
  | .hbm, ⟨31, _⟩ => ⟨S8x4096x2816, .f32⟩
  | .hbm, ⟨32, _⟩ => ⟨S8x4096x2816, .f32⟩
  | .hbm, ⟨33, _⟩ => ⟨S8x4096x2816, .f32⟩
  | .hbm, ⟨34, _⟩ => ⟨S_, .f32⟩
  | .hbm, ⟨35, _⟩ => ⟨S8x4096x2816, .f32⟩
  | .hbm, ⟨36, _⟩ => ⟨S8x4096x2816, .f32⟩
  | .hbm, ⟨37, _⟩ => ⟨S_, .f32⟩
  | .hbm, ⟨38, _⟩ => ⟨S8x4096x2816, .f32⟩
  | .hbm, ⟨39, _⟩ => ⟨S8x4096x2816, .f32⟩
  | .hbm, ⟨40, _⟩ => ⟨S8x4096x2816, .f32⟩
  | .hbm, ⟨41, _⟩ => ⟨S8x4096x2816, .f32⟩
  | .hbm, ⟨42, _⟩ => ⟨S8x4096x2816, .f32⟩
  | .hbm, ⟨43, _⟩ => ⟨S8x4096x1024, .f32⟩
  | .hbm, ⟨44, _⟩ => ⟨S1x1024, .f32⟩
  | .hbm, ⟨45, _⟩ => ⟨S1024, .f32⟩
  | .hbm, ⟨46, _⟩ => ⟨S8x4096x1024, .f32⟩
  | .hbm, ⟨47, _⟩ => ⟨S_, .f32⟩
  | .hbm, ⟨48, _⟩ => ⟨S8x4096, .f32⟩
  | .hbm, ⟨49, _⟩ => ⟨S8x4096x1, .f32⟩
  | .hbm, ⟨50, _⟩ => ⟨S_, .f32⟩
  | .hbm, ⟨51, _⟩ => ⟨S8x4096x1, .f32⟩
  | .hbm, ⟨52, _⟩ => ⟨S8x4096x1, .f32⟩
  | .hbm, ⟨53, _⟩ => ⟨S_, .f32⟩
  | .hbm, ⟨54, _⟩ => ⟨S8x4096x1, .f32⟩
  | .hbm, ⟨55, _⟩ => ⟨S8x4096x1, .f32⟩
  | .hbm, ⟨56, _⟩ => ⟨S8x4096x1, .f32⟩
  | .hbm, ⟨57, _⟩ => ⟨S8x4096x1024, .f32⟩
  | .hbm, ⟨58, _⟩ => ⟨S8x4096x1024, .f32⟩
  | .hbm, ⟨59, _⟩ => ⟨S1x1x1024, .f32⟩
  | .hbm, ⟨60, _⟩ => ⟨S8x4096x1024, .f32⟩
  | .hbm, ⟨61, _⟩ => ⟨S8x4096x1024, .f32⟩
  | .hbm, ⟨62, _⟩ => ⟨S_, .f32⟩
  | .hbm, ⟨63, _⟩ => ⟨S8x4096x1024, .f32⟩
  | .hbm, ⟨64, _⟩ => ⟨S8x4096x1024, .f32⟩
  | .hbm, ⟨65, _⟩ => ⟨S8x4096x1024, .f32⟩
  | .hbm, ⟨66, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_2 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_cst_4 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== Kernel.lean ====
abbrev S32768x768 : Shape := ⟨2, ![32768, 768]⟩
abbrev S32768x256 : Shape := ⟨2, ![32768, 256]⟩
abbrev S12 : Shape := ⟨1, ![12]⟩
abbrev S2048x768 : Shape := ⟨2, ![2048, 768]⟩
abbrev S128x256 : Shape := ⟨2, ![128, 256]⟩
abbrev S2048x256 : Shape := ⟨2, ![2048, 256]⟩
abbrev S2304x256 : Shape := ⟨2, ![2304, 256]⟩
abbrev S256x2304 : Shape := ⟨2, ![256, 2304]⟩
abbrev S384x256 : Shape := ⟨2, ![384, 256]⟩
abbrev S384x128 : Shape := ⟨2, ![384, 128]⟩
abbrev S384x384 : Shape := ⟨2, ![384, 384]⟩
abbrev S1536x256 : Shape := ⟨2, ![1536, 256]⟩
abbrev S384x1536 : Shape := ⟨2, ![384, 1536]⟩
abbrev S128x384 : Shape := ⟨2, ![128, 384]⟩
abbrev S1 : Shape := ⟨1, ![1]⟩
abbrev S1x128 : Shape := ⟨2, ![1, 128]⟩
abbrev S1x384 : Shape := ⟨2, ![1, 384]⟩
abbrev S384 : Shape := ⟨1, ![384]⟩
abbrev S64x384 : Shape := ⟨2, ![64, 384]⟩
abbrev S256x384 : Shape := ⟨2, ![256, 384]⟩

abbrev nBuf : Space → Nat
  | .hbm => 5
  | .vmem => 16
  | .smem => 1
  | _ => 0

abbrev bufTy : (tb : Table) → Fin (tcTables nBuf tb) → BufTy
  | .hbm, ⟨0, _⟩ => ⟨S32768x768, .bf16⟩
  | .hbm, ⟨1, _⟩ => ⟨S32768x256, .bf16⟩
  | .hbm, ⟨2, _⟩ => ⟨S32768x256, .bf16⟩
  | .hbm, ⟨3, _⟩ => ⟨S12, .f32⟩
  | .hbm, ⟨4, _⟩ => ⟨S32768x768, .bf16⟩
  | .local _ .vmem, ⟨0, _⟩ => ⟨S2048x768, .bf16⟩
  | .local _ .vmem, ⟨1, _⟩ => ⟨S2048x768, .bf16⟩
  | .local _ .vmem, ⟨2, _⟩ => ⟨S128x256, .bf16⟩
  | .local _ .vmem, ⟨3, _⟩ => ⟨S128x256, .bf16⟩
  | .local _ .vmem, ⟨4, _⟩ => ⟨S2048x256, .bf16⟩
  | .local _ .vmem, ⟨5, _⟩ => ⟨S2048x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S2048x256, .bf16⟩
  | .local _ .vmem, ⟨11, _⟩ => ⟨S2048x256, .bf16⟩
  | .local _ .vmem, ⟨12, _⟩ => ⟨S128x256, .bf16⟩
  | .local _ .vmem, ⟨13, _⟩ => ⟨S128x256, .bf16⟩
  | .local _ .vmem, ⟨14, _⟩ => ⟨S2048x768, .bf16⟩
  | .local _ .vmem, ⟨15, _⟩ => ⟨S2048x768, .bf16⟩
  | .local _ .smem, ⟨0, _⟩ => ⟨S12, .f32⟩
  | _, _ => ⟨S32768x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S32768x768 : Shape := ⟨2, ![32768, 768]⟩
abbrev S32768x256 : Shape := ⟨2, ![32768, 256]⟩
abbrev S12 : Shape := ⟨1, ![12]⟩
abbrev S8x32x128x3x4x64 : Shape := ⟨6, ![8, 32, 128, 3, 4, 64]⟩
abbrev S8x32x128x4x3x64 : Shape := ⟨6, ![8, 32, 128, 4, 3, 64]⟩
abbrev S8x4096x4x64 : Shape := ⟨4, ![8, 4096, 4, 64]⟩
abbrev S_ : Shape := ⟨0, ![]⟩
abbrev S8x4352x4x64 : Shape := ⟨4, ![8, 4352, 4, 64]⟩
abbrev S8x34x128x4x64 : Shape := ⟨5, ![8, 34, 128, 4, 64]⟩
abbrev S8x32x128x4x64 : Shape := ⟨5, ![8, 32, 128, 4, 64]⟩
abbrev S8x32x384x4x64 : Shape := ⟨5, ![8, 32, 384, 4, 64]⟩
abbrev S8x32x4x384x128x3 : Shape := ⟨6, ![8, 32, 4, 384, 128, 3]⟩
abbrev S8x32x4x3x128x384 : Shape := ⟨6, ![8, 32, 4, 3, 128, 384]⟩
abbrev S32 : Shape := ⟨1, ![32]⟩
abbrev S32x1x1 : Shape := ⟨3, ![32, 1, 1]⟩
abbrev S128 : Shape := ⟨1, ![128]⟩
abbrev S1x128x1 : Shape := ⟨3, ![1, 128, 1]⟩
abbrev S32x128x1 : Shape := ⟨3, ![32, 128, 1]⟩
abbrev S384 : Shape := ⟨1, ![384]⟩
abbrev S1x1x384 : Shape := ⟨3, ![1, 1, 384]⟩
abbrev S32x1x384 : Shape := ⟨3, ![32, 1, 384]⟩
abbrev S32x128x384 : Shape := ⟨3, ![32, 128, 384]⟩
abbrev S1x32x1x1x128x384 : Shape := ⟨6, ![1, 32, 1, 1, 128, 384]⟩
abbrev S4x3 : Shape := ⟨2, ![4, 3]⟩
abbrev S1x1x4x3x1x1 : Shape := ⟨6, ![1, 1, 4, 3, 1, 1]⟩
abbrev S8x32x4x3x128 : Shape := ⟨5, ![8, 32, 4, 3, 128]⟩
abbrev S8x32x4x3x128x1 : Shape := ⟨6, ![8, 32, 4, 3, 128, 1]⟩
abbrev S8x32x4x64x3x128 : Shape := ⟨6, ![8, 32, 4, 64, 3, 128]⟩

abbrev nBuf : Space → Nat
  | .hbm => 97
  | .vmem => 0
  | .smem => 0
  | _ => 0

abbrev bufTy : (tb : Table) → Fin (tcTables nBuf tb) → BufTy
  | .hbm, ⟨0, _⟩ => ⟨S32768x768, .bf16⟩
  | .hbm, ⟨1, _⟩ => ⟨S32768x256, .bf16⟩
  | .hbm, ⟨2, _⟩ => ⟨S32768x256, .bf16⟩
  | .hbm, ⟨3, _⟩ => ⟨S12, .f32⟩
  | .hbm, ⟨4, _⟩ => ⟨S32768x768, .f32⟩
  | .hbm, ⟨5, _⟩ => ⟨S8x32x128x3x4x64, .f32⟩
  | .hbm, ⟨6, _⟩ => ⟨S8x32x128x4x3x64, .f32⟩
  | .hbm, ⟨7, _⟩ => ⟨S32768x256, .f32⟩
  | .hbm, ⟨8, _⟩ => ⟨S8x4096x4x64, .f32⟩
  | .hbm, ⟨9, _⟩ => ⟨S_, .i32⟩
  | .hbm, ⟨10, _⟩ => ⟨S_, .f32⟩
  | .hbm, ⟨11, _⟩ => ⟨S8x4352x4x64, .f32⟩
  | .hbm, ⟨12, _⟩ => ⟨S8x34x128x4x64, .f32⟩
  | .hbm, ⟨13, _⟩ => ⟨S8x32x128x4x64, .f32⟩
  | .hbm, ⟨14, _⟩ => ⟨S8x32x128x4x64, .f32⟩
  | .hbm, ⟨15, _⟩ => ⟨S8x32x128x4x64, .f32⟩
  | .hbm, ⟨16, _⟩ => ⟨S8x32x384x4x64, .f32⟩
  | .hbm, ⟨17, _⟩ => ⟨S32768x256, .f32⟩
  | .hbm, ⟨18, _⟩ => ⟨S8x4096x4x64, .f32⟩
  | .hbm, ⟨19, _⟩ => ⟨S_, .i32⟩
  | .hbm, ⟨20, _⟩ => ⟨S_, .f32⟩
  | .hbm, ⟨21, _⟩ => ⟨S8x4352x4x64, .f32⟩
  | .hbm, ⟨22, _⟩ => ⟨S8x34x128x4x64, .f32⟩
  | .hbm, ⟨23, _⟩ => ⟨S8x32x128x4x64, .f32⟩
  | .hbm, ⟨24, _⟩ => ⟨S8x32x128x4x64, .f32⟩
  | .hbm, ⟨25, _⟩ => ⟨S8x32x128x4x64, .f32⟩
  | .hbm, ⟨26, _⟩ => ⟨S8x32x384x4x64, .f32⟩
  | .hbm, ⟨27, _⟩ => ⟨S8x32x4x384x128x3, .f32⟩
  | .hbm, ⟨28, _⟩ => ⟨S8x32x4x3x128x384, .f32⟩
  | .hbm, ⟨29, _⟩ => ⟨S_, .f32⟩
  | .hbm, ⟨30, _⟩ => ⟨S_, .f32⟩
  | .hbm, ⟨31, _⟩ => ⟨S8x32x4x3x128x384, .f32⟩
  | .hbm, ⟨32, _⟩ => ⟨S8x32x4x3x128x384, .f32⟩
  | .hbm, ⟨33, _⟩ => ⟨S32, .i32⟩
  | .hbm, ⟨34, _⟩ => ⟨S32x1x1, .i32⟩
  | .hbm, ⟨35, _⟩ => ⟨S_, .i32⟩
  | .hbm, ⟨36, _⟩ => ⟨S32x1x1, .i32⟩
  | .hbm, ⟨37, _⟩ => ⟨S32x1x1, .i32⟩
  | .hbm, ⟨38, _⟩ => ⟨S128, .i32⟩
  | .hbm, ⟨39, _⟩ => ⟨S1x128x1, .i32⟩
  | .hbm, ⟨40, _⟩ => ⟨S32x128x1, .i32⟩
  | .hbm, ⟨41, _⟩ => ⟨S32x128x1, .i32⟩
  | .hbm, ⟨42, _⟩ => ⟨S32x128x1, .i32⟩
  | .hbm, ⟨43, _⟩ => ⟨S_, .i32⟩
  | .hbm, ⟨44, _⟩ => ⟨S32x1x1, .i32⟩
  | .hbm, ⟨45, _⟩ => ⟨S32x1x1, .i32⟩
  | .hbm, ⟨46, _⟩ => ⟨S384, .i32⟩
  | .hbm, ⟨47, _⟩ => ⟨S1x1x384, .i32⟩
  | .hbm, ⟨48, _⟩ => ⟨S32x1x384, .i32⟩
  | .hbm, ⟨49, _⟩ => ⟨S32x1x384, .i32⟩
  | .hbm, ⟨50, _⟩ => ⟨S32x1x384, .i32⟩
  | .hbm, ⟨51, _⟩ => ⟨S32x128x384, .i32⟩
  | .hbm, ⟨52, _⟩ => ⟨S32x128x384, .i32⟩
  | .hbm, ⟨53, _⟩ => ⟨S32x128x384, .i32⟩
  | .hbm, ⟨54, _⟩ => ⟨S32x128x384, .i32⟩
  | .hbm, ⟨55, _⟩ => ⟨S_, .i32⟩
  | .hbm, ⟨56, _⟩ => ⟨S32x128x384, .i32⟩
  | .hbm, ⟨57, _⟩ => ⟨S32x128x384, .i1⟩
  | .hbm, ⟨58, _⟩ => ⟨S_, .i32⟩
  | .hbm, ⟨59, _⟩ => ⟨S32x1x384, .i32⟩
  | .hbm, ⟨60, _⟩ => ⟨S32x1x384, .i1⟩
  | .hbm, ⟨61, _⟩ => ⟨S32x128x384, .i1⟩
  | .hbm, ⟨62, _⟩ => ⟨S32x128x384, .i1⟩
  | .hbm, ⟨63, _⟩ => ⟨S_, .i32⟩
  | .hbm, ⟨64, _⟩ => ⟨S32x1x384, .i32⟩
  | .hbm, ⟨65, _⟩ => ⟨S32x1x384, .i1⟩
  | .hbm, ⟨66, _⟩ => ⟨S32x128x384, .i1⟩
  | .hbm, ⟨67, _⟩ => ⟨S32x128x384, .i1⟩
  | .hbm, ⟨68, _⟩ => ⟨S1x32x1x1x128x384, .i1⟩
  | .hbm, ⟨69, _⟩ => ⟨S_, .f32⟩
  | .hbm, ⟨70, _⟩ => ⟨S_, .f32⟩
  | .hbm, ⟨71, _⟩ => ⟨S8x32x4x3x128x384, .i1⟩
  | .hbm, ⟨72, _⟩ => ⟨S8x32x4x3x128x384, .f32⟩
  | .hbm, ⟨73, _⟩ => ⟨S8x32x4x3x128x384, .f32⟩
  | .hbm, ⟨74, _⟩ => ⟨S4x3, .f32⟩
  | .hbm, ⟨75, _⟩ => ⟨S1x1x4x3x1x1, .f32⟩
  | .hbm, ⟨76, _⟩ => ⟨S_, .f32⟩
  | .hbm, ⟨77, _⟩ => ⟨S8x32x4x3x128, .f32⟩
  | .hbm, ⟨78, _⟩ => ⟨S8x32x4x3x128x1, .f32⟩
  | .hbm, ⟨79, _⟩ => ⟨S8x32x4x3x128x1, .f32⟩
  | .hbm, ⟨80, _⟩ => ⟨S8x32x4x3x128x1, .f32⟩
  | .hbm, ⟨81, _⟩ => ⟨S8x32x4x3x128x384, .f32⟩
  | .hbm, ⟨82, _⟩ => ⟨S8x32x4x3x128x384, .f32⟩
  | .hbm, ⟨83, _⟩ => ⟨S8x32x4x3x128x384, .f32⟩
  | .hbm, ⟨84, _⟩ => ⟨S_, .f32⟩
  | .hbm, ⟨85, _⟩ => ⟨S8x32x4x3x128, .f32⟩
  | .hbm, ⟨86, _⟩ => ⟨S8x32x4x3x128x1, .f32⟩
  | .hbm, ⟨87, _⟩ => ⟨S8x32x4x3x128x1, .f32⟩
  | .hbm, ⟨88, _⟩ => ⟨S8x32x4x3x128x1, .f32⟩
  | .hbm, ⟨89, _⟩ => ⟨S8x32x4x3x128x1, .f32⟩
  | .hbm, ⟨90, _⟩ => ⟨S8x32x4x3x128x1, .f32⟩
  | .hbm, ⟨91, _⟩ => ⟨S8x32x4x3x128x384, .f32⟩
  | .hbm, ⟨92, _⟩ => ⟨S8x32x4x3x128x384, .f32⟩
  | .hbm, ⟨93, _⟩ => ⟨S8x32x4x64x3x128, .f32⟩
  | .hbm, ⟨94, _⟩ => ⟨S8x32x128x3x4x64, .f32⟩
  | .hbm, ⟨95, _⟩ => ⟨S32768x768, .f32⟩
  | .hbm, ⟨96, _⟩ => ⟨S32768x768, .bf16⟩
  | _, _ => ⟨S32768x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_call1_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_2 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c_3 : Ref sig .tc := ⟨.hbm, 55, rfl⟩
abbrev main_v44 : Ref sig .tc := ⟨.hbm, 56, rfl⟩
abbrev main_v45 : Ref sig .tc := ⟨.hbm, 57, rfl⟩
abbrev main_c_4 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_c_5 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_6 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_7 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_8 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩

abbrev nD : Nat := 1
abbrev τ : Topo := Topo.v7x

variable {F : FTy → Type} [FloatOps F]
-- ==== OddOut.lean ====
abbrev S32768x1024 : Shape := ⟨2, ![32768, 1024]⟩
abbrev S32768x512 : Shape := ⟨2, ![32768, 512]⟩
abbrev S4x6x1024 : Shape := ⟨3, ![4, 6, 1024]⟩
abbrev S2x1024 : Shape := ⟨2, ![2, 1024]⟩
abbrev S2x1536x1024 : Shape := ⟨3, ![2, 1536, 1024]⟩
abbrev S1x6x1024 : Shape := ⟨3, ![1, 6, 1024]⟩
abbrev S6x1024 : Shape := ⟨2, ![6, 1024]⟩
abbrev S6x1x1024 : Shape := ⟨3, ![6, 1, 1024]⟩
abbrev S1x1024 : Shape := ⟨2, ![1, 1024]⟩
abbrev S1024 : Shape := ⟨1, ![1024]⟩
abbrev S1x1536x1024 : Shape := ⟨3, ![1, 1536, 1024]⟩
abbrev S1536x1024 : Shape := ⟨2, ![1536, 1024]⟩
abbrev S1x1x1024 : Shape := ⟨3, ![1, 1, 1024]⟩
abbrev S1024x1024 : Shape := ⟨2, ![1024, 1024]⟩
abbrev S1024x512 : Shape := ⟨2, ![1024, 512]⟩
abbrev S1024x1 : Shape := ⟨2, ![1024, 1]⟩
abbrev S512x1024 : Shape := ⟨2, ![512, 1024]⟩

abbrev nBuf : Space → Nat
  | .hbm => 20
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x1024, .bf16⟩
  | .hbm, ⟨3, _⟩ => ⟨S32768x1024, .bf16⟩
  | .hbm, ⟨4, _⟩ => ⟨S32768x1024, .bf16⟩
  | .hbm, ⟨5, _⟩ => ⟨S4x6x1024, .f32⟩
  | .hbm, ⟨6, _⟩ => ⟨S2x1024, .f32⟩
  | .hbm, ⟨7, _⟩ => ⟨S2x1536x1024, .f32⟩
  | .hbm, ⟨8, _⟩ => ⟨S1x6x1024, .f32⟩
  | .hbm, ⟨9, _⟩ => ⟨S6x1024, .f32⟩
  | .hbm, ⟨10, _⟩ => ⟨S6x1x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1x1536x1024, .f32⟩
  | .hbm, ⟨15, _⟩ => ⟨S1536x1024, .f32⟩
  | .hbm, ⟨16, _⟩ => ⟨S1536x1024, .bf16⟩
  | .hbm, ⟨17, _⟩ => ⟨S1x1x1024, .f32⟩
  | .hbm, ⟨18, _⟩ => ⟨S1x1024, .f32⟩
  | .hbm, ⟨19, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1536x1024, .bf16⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1536x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OddOutRefIdeal.lean ====
abbrev S32768x1024 : Shape := ⟨2, ![32768, 1024]⟩
abbrev S32768x512 : Shape := ⟨2, ![32768, 512]⟩
abbrev S4x6x1024 : Shape := ⟨3, ![4, 6, 1024]⟩
abbrev S2x1024 : Shape := ⟨2, ![2, 1024]⟩
abbrev S2x1536x1024 : Shape := ⟨3, ![2, 1536, 1024]⟩
abbrev S_ : Shape := ⟨0, ![]⟩
abbrev S1x1024 : Shape := ⟨2, ![1, 1024]⟩
abbrev S1024 : Shape := ⟨1, ![1024]⟩
abbrev S32768 : Shape := ⟨1, ![32768]⟩
abbrev S32768x1 : Shape := ⟨2, ![32768, 1]⟩
abbrev S32768x1536 : Shape := ⟨2, ![32768, 1536]⟩
abbrev S1x1536x1024 : Shape := ⟨3, ![1, 1536, 1024]⟩
abbrev S1536x1024 : Shape := ⟨2, ![1536, 1024]⟩
abbrev S1x1x1024 : Shape := ⟨3, ![1, 1, 1024]⟩

abbrev nBuf : Space → Nat
  | .hbm => 64
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x1024, .bf16⟩
  | .hbm, ⟨3, _⟩ => ⟨S32768x1024, .bf16⟩
  | .hbm, ⟨4, _⟩ => ⟨S32768x1024, .bf16⟩
  | .hbm, ⟨5, _⟩ => ⟨S4x6x1024, .f32⟩
  | .hbm, ⟨6, _⟩ => ⟨S2x1024, .f32⟩
  | .hbm, ⟨7, _⟩ => ⟨S2x1536x1024, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S_, .f32⟩
  | .hbm, ⟨15, _⟩ => ⟨S32768x1024, .f32⟩
  | .hbm, ⟨16, _⟩ => ⟨S32768x1024, .f32⟩
  | .hbm, ⟨17, _⟩ => ⟨S_, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S1x1024, .f32⟩
  | .hbm, ⟨23, _⟩ => ⟨S1024, .f32⟩
  | .hbm, ⟨24, _⟩ => ⟨S32768x1024, .f32⟩
  | .hbm, ⟨25, _⟩ => ⟨S_, .f32⟩
  | .hbm, ⟨26, _⟩ => ⟨S32768, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1, .f32⟩
  | .hbm, ⟨35, _⟩ => ⟨S32768x1024, .f32⟩
  | .hbm, ⟨36, _⟩ => ⟨S32768x1024, .f32⟩
  | .hbm, ⟨37, _⟩ => ⟨S1x1024, .f32⟩
  | .hbm, ⟨38, _⟩ => ⟨S32768x1024, .f32⟩
  | .hbm, ⟨39, _⟩ => ⟨S32768x1024, .f32⟩
  | .hbm, ⟨40, _⟩ => ⟨S32768x512, .f32⟩
  | .hbm, ⟨41, _⟩ => ⟨S32768x1536, .f32⟩
  | .hbm, ⟨42, _⟩ => ⟨S1x1536x1024, .f32⟩
  | .hbm, ⟨43, _⟩ => ⟨S1536x1024, .f32⟩
  | .hbm, ⟨44, _⟩ => ⟨S32768x1024, .f32⟩
  | .hbm, ⟨45, _⟩ => ⟨S1x1x1024, .f32⟩
  | .hbm, ⟨46, _⟩ => ⟨S1024, .f32⟩
  | .hbm, ⟨47, _⟩ => ⟨S32768x1024, .f32⟩
  | .hbm, ⟨48, _⟩ => ⟨S_, .f32⟩
  | .hbm, ⟨49, _⟩ => ⟨S32768, .f32⟩
  | .hbm, ⟨50, _⟩ => ⟨S32768x1, .f32⟩
  | .hbm, ⟨51, _⟩ => ⟨S_, .f32⟩
  | .hbm, ⟨52, _⟩ => ⟨S32768x1, .f32⟩
  | .hbm, ⟨53, _⟩ => ⟨S32768x1, .f32⟩
  | .hbm, ⟨54, _⟩ => ⟨S_, .f32⟩
  | .hbm, ⟨55, _⟩ => ⟨S32768x1, .f32⟩
  | .hbm, ⟨56, _⟩ => ⟨S32768x1, .f32⟩
  | .hbm, ⟨57, _⟩ => ⟨S32768x1, .f32⟩
  | .hbm, ⟨58, _⟩ => ⟨S32768x1024, .f32⟩
  | .hbm, ⟨59, _⟩ => ⟨S32768x1024, .f32⟩
  | .hbm, ⟨60, _⟩ => ⟨S1x1024, .f32⟩
  | .hbm, ⟨61, _⟩ => ⟨S32768x1024, .f32⟩
  | .hbm, ⟨62, _⟩ => ⟨S32768x1024, .f32⟩
  | .hbm, ⟨63, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_v10 : Ref sig .tc := ⟨.hbm, 27, rfl⟩
abbrev main_cst_0 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_2 : Ref sig .tc := ⟨.hbm, 48, rfl⟩
abbrev main_v29 : Ref sig .tc := ⟨.hbm, 49, rfl⟩
abbrev main_v30 : Ref sig .tc := ⟨.hbm, 50, rfl⟩
abbrev main_cst_3 : Ref sig .tc := ⟨.hbm, 51, rfl⟩
abbrev main_v31 : Ref sig .tc := ⟨.hbm, 52, rfl⟩
abbrev main_v32 : Ref sig .tc := ⟨.hbm, 53, rfl⟩
abbrev main_cst_4 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩

abbrev nD : Nat := 1
abbrev τ : Topo := Topo.v7x

variable {F : FTy → Type} [FloatOps F]
-- ==== EvenIn.lean ====
abbrev S32768x1024 : Shape := ⟨2, ![32768, 1024]⟩
abbrev S4x6x1024 : Shape := ⟨3, ![4, 6, 1024]⟩
abbrev S2x1024x1536 : Shape := ⟨3, ![2, 1024, 1536]⟩
abbrev S12 : Shape := ⟨1, ![12]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S12x1 : Shape := ⟨2, ![12, 1]⟩
abbrev S64 : Shape := ⟨1, ![64]⟩
abbrev S1x64 : Shape := ⟨2, ![1, 64]⟩
abbrev S12x64 : Shape := ⟨2, ![12, 64]⟩
abbrev S768 : Shape := ⟨1, ![768]⟩
abbrev S256 : Shape := ⟨1, ![256]⟩
abbrev S512 : Shape := ⟨1, ![512]⟩
abbrev S1536 : Shape := ⟨1, ![1536]⟩
abbrev S1x6x1024 : Shape := ⟨3, ![1, 6, 1024]⟩
abbrev S6x1024 : Shape := ⟨2, ![6, 1024]⟩
abbrev S6x1x1024 : Shape := ⟨3, ![6, 1, 1024]⟩
abbrev S1x1x1024 : Shape := ⟨3, ![1, 1, 1024]⟩
abbrev S1x1024 : Shape := ⟨2, ![1, 1024]⟩
abbrev S1x1024x1536 : Shape := ⟨3, ![1, 1024, 1536]⟩
abbrev S1024x1536 : Shape := ⟨2, ![1024, 1536]⟩
abbrev S1536x1 : Shape := ⟨2, ![1536, 1]⟩
abbrev S32768x256 : Shape := ⟨2, ![32768, 256]⟩
abbrev S32768x768 : Shape := ⟨2, ![32768, 768]⟩
abbrev S1024x1024 : Shape := ⟨2, ![1024, 1024]⟩
abbrev S1024x128 : Shape := ⟨2, ![1024, 128]⟩
abbrev S1024x256 : Shape := ⟨2, ![1024, 256]⟩
abbrev S1024x768 : Shape := ⟨2, ![1024, 768]⟩
abbrev S1024 : Shape := ⟨1, ![1024]⟩
abbrev S1024x1 : Shape := ⟨2, ![1024, 1]⟩

abbrev nBuf : Space → Nat
  | .hbm => 83
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S4x6x1024, .f32⟩
  | .hbm, ⟨2, _⟩ => ⟨S2x1024x1536, .f32⟩
  | .hbm, ⟨3, _⟩ => ⟨S12, .i32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S4096, .f32⟩
  | .hbm, ⟨21, _⟩ => ⟨S4096x1, .f32⟩
  | .hbm, ⟨22, _⟩ => ⟨S1x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S_, .f32⟩
  | .hbm, ⟨29, _⟩ => ⟨S4096x32, .f32⟩
  | .hbm, ⟨30, _⟩ => ⟨S4096x64, .f32⟩
  | .hbm, ⟨31, _⟩ => ⟨S1x4096x1x64, .f32⟩
  | .hbm, ⟨32, _⟩ => ⟨S1x4096x2x64, .f32⟩
  | .hbm, ⟨33, _⟩ => ⟨S4096x128, .f32⟩
  | .hbm, ⟨34, _⟩ => ⟨S4096x32, .f32⟩
  | .hbm, ⟨35, _⟩ => ⟨S4096x64, .f32⟩
  | .hbm, ⟨36, _⟩ => ⟨S1x4096x1x64, .f32⟩
  | .hbm, ⟨37, _⟩ => ⟨S1x4096x2x64, .f32⟩
  | .hbm, ⟨38, _⟩ => ⟨S4096x128, .f32⟩
  | .hbm, ⟨39, _⟩ => ⟨S4096x64, .f32⟩
  | .hbm, ⟨40, _⟩ => ⟨S1x4096x1x64, .f32⟩
  | .hbm, ⟨41, _⟩ => ⟨S1x4096x2x64, .f32⟩
  | .hbm, ⟨42, _⟩ => ⟨S4096x128, .f32⟩
  | .hbm, ⟨43, _⟩ => ⟨S12x1, .i32⟩
  | .hbm, ⟨44, _⟩ => ⟨S_, .i32⟩
  | .hbm, ⟨45, _⟩ => ⟨S12x1, .i32⟩
  | .hbm, ⟨46, _⟩ => ⟨S12x1, .i32⟩
  | .hbm, ⟨47, _⟩ => ⟨S64, .i32⟩
  | .hbm, ⟨48, _⟩ => ⟨S1x64, .i32⟩
  | .hbm, ⟨49, _⟩ => ⟨S12x64, .i32⟩
  | .hbm, ⟨50, _⟩ => ⟨S12x64, .i32⟩
  | .hbm, ⟨51, _⟩ => ⟨S12x64, .i32⟩
  | .hbm, ⟨52, _⟩ => ⟨S768, .i32⟩
  | .hbm, ⟨53, _⟩ => ⟨S256, .i32⟩
  | .hbm, ⟨54, _⟩ => ⟨S_, .i32⟩
  | .hbm, ⟨55, _⟩ => ⟨S768, .i32⟩
  | .hbm, ⟨56, _⟩ => ⟨S768, .i32⟩
  | .hbm, ⟨57, _⟩ => ⟨S512, .i32⟩
  | .hbm, ⟨58, _⟩ => ⟨S_, .i32⟩
  | .hbm, ⟨59, _⟩ => ⟨S512, .i32⟩
  | .hbm, ⟨60, _⟩ => ⟨S512, .i32⟩
  | .hbm, ⟨61, _⟩ => ⟨S1536, .i32⟩
  | .hbm, ⟨62, _⟩ => ⟨S1x6x1024, .f32⟩
  | .hbm, ⟨63, _⟩ => ⟨S6x1024, .f32⟩
  | .hbm, ⟨64, _⟩ => ⟨S6x1x1024, .f32⟩
  | .hbm, ⟨65, _⟩ => ⟨S1x1x1024, .f32⟩
  | .hbm, ⟨66, _⟩ => ⟨S1x1024, .f32⟩
  | .hbm, ⟨67, _⟩ => ⟨S1x1024x1536, .f32⟩
  | .hbm, ⟨68, _⟩ => ⟨S1024x1536, .f32⟩
  | .hbm, ⟨69, _⟩ => ⟨S_, .i32⟩
  | .hbm, ⟨70, _⟩ => ⟨S1536, .i32⟩
  | .hbm, ⟨71, _⟩ => ⟨S1536, .i1⟩
  | .hbm, ⟨72, _⟩ => ⟨S_, .i32⟩
  | .hbm, ⟨73, _⟩ => ⟨S1536, .i32⟩
  | .hbm, ⟨74, _⟩ => ⟨S1536, .i32⟩
  | .hbm, ⟨75, _⟩ => ⟨S1536, .i32⟩
  | .hbm, ⟨76, _⟩ => ⟨S1536x1, .i32⟩
  | .hbm, ⟨77, _⟩ => ⟨S1024x1536, .f32⟩
  | .hbm, ⟨78, _⟩ => ⟨S1024x1536, .bf16⟩
  | .hbm, ⟨79, _⟩ => ⟨S32768x256, .f32⟩
  | .hbm, ⟨80, _⟩ => ⟨S32768x768, .bf16⟩
  | .hbm, ⟨81, _⟩ => ⟨S32768x256, .bf16⟩
  | .hbm, ⟨82, _⟩ => ⟨S32768x256, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1536, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x256, .f32⟩
  | .local _ .vmem, ⟨11, _⟩ => ⟨S1024x256, .f32⟩
  | .local _ .vmem, ⟨12, _⟩ => ⟨S1024x768, .bf16⟩
  | .local _ .vmem, ⟨13, _⟩ => ⟨S1024x768, .bf16⟩
  | .local _ .vmem, ⟨14, _⟩ => ⟨S1024x256, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_c_6 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_c_7 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_c_8 : Ref sig .tc := ⟨.hbm, 69, rfl⟩
abbrev main_v56 : Ref sig .tc := ⟨.hbm, 70, rfl⟩
abbrev main_v57 : Ref sig .tc := ⟨.hbm, 71, rfl⟩
abbrev main_c_9 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64_0 : Ref sig .tc := ⟨.hbm, 79, rfl⟩
abbrev main_v64_1 : Ref sig .tc := ⟨.hbm, 80, rfl⟩
abbrev main_v64_2 : Ref sig .tc := ⟨.hbm, 81, rfl⟩
abbrev main_v64_3 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== EvenInRefIdeal.lean ====
abbrev S32768x1024 : Shape := ⟨2, ![32768, 1024]⟩
abbrev S4x6x1024 : Shape := ⟨3, ![4, 6, 1024]⟩
abbrev S2x1024x1536 : Shape := ⟨3, ![2, 1024, 1536]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S1x1x1024 : Shape := ⟨3, ![1, 1, 1024]⟩
abbrev S1024 : Shape := ⟨1, ![1024]⟩
abbrev S32768 : Shape := ⟨1, ![32768]⟩
abbrev S32768x1 : Shape := ⟨2, ![32768, 1]⟩
abbrev S1x1024 : Shape := ⟨2, ![1, 1024]⟩
abbrev S1x1024x1536 : Shape := ⟨3, ![1, 1024, 1536]⟩
abbrev S1024x1536 : Shape := ⟨2, ![1024, 1536]⟩
abbrev S32768x1536 : Shape := ⟨2, ![32768, 1536]⟩
abbrev S32768x256 : Shape := ⟨2, ![32768, 256]⟩
abbrev S32768x768 : Shape := ⟨2, ![32768, 768]⟩
abbrev S8x4096x12x64 : Shape := ⟨4, ![8, 4096, 12, 64]⟩
abbrev S8x4096x12x32 : Shape := ⟨4, ![8, 4096, 12, 32]⟩
abbrev S1x4096x1x32 : Shape := ⟨4, ![1, 4096, 1, 32]⟩
abbrev S8x4096x4x64 : Shape := ⟨4, ![8, 4096, 4, 64]⟩
abbrev S8x4096x4x32 : Shape := ⟨4, ![8, 4096, 4, 32]⟩
abbrev S32768x4x3x64 : Shape := ⟨4, ![32768, 4, 3, 64]⟩
abbrev S32768x3x4x64 : Shape := ⟨4, ![32768, 3, 4, 64]⟩

abbrev nBuf : Space → Nat
  | .hbm => 94
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x6x1024, .f32⟩
  | .hbm, ⟨2, _⟩ => ⟨S2x1024x1536, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S4096, .f32⟩
  | .hbm, ⟨20, _⟩ => ⟨S4096x1, .f32⟩
  | .hbm, ⟨21, _⟩ => ⟨S1x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S1x1x1024, .f32⟩
  | .hbm, ⟨28, _⟩ => ⟨S1024, .f32⟩
  | .hbm, ⟨29, _⟩ => ⟨S32768x1024, .f32⟩
  | .hbm, ⟨30, _⟩ => ⟨S_, .f32⟩
  | .hbm, ⟨31, _⟩ => ⟨S32768, .f32⟩
  | .hbm, ⟨32, _⟩ => ⟨S32768x1, .f32⟩
  | .hbm, ⟨33, _⟩ => ⟨S_, .f32⟩
  | .hbm, ⟨34, _⟩ => ⟨S32768x1, .f32⟩
  | .hbm, ⟨35, _⟩ => ⟨S32768x1, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S32768x1, .f32⟩
  | .hbm, ⟨40, _⟩ => ⟨S32768x1024, .f32⟩
  | .hbm, ⟨41, _⟩ => ⟨S32768x1024, .f32⟩
  | .hbm, ⟨42, _⟩ => ⟨S1x1024, .f32⟩
  | .hbm, ⟨43, _⟩ => ⟨S32768x1024, .f32⟩
  | .hbm, ⟨44, _⟩ => ⟨S32768x1024, .f32⟩
  | .hbm, ⟨45, _⟩ => ⟨S1x1024x1536, .f32⟩
  | .hbm, ⟨46, _⟩ => ⟨S1024x1536, .f32⟩
  | .hbm, ⟨47, _⟩ => ⟨S32768x1536, .f32⟩
  | .hbm, ⟨48, _⟩ => ⟨S32768x256, .f32⟩
  | .hbm, ⟨49, _⟩ => ⟨S32768x768, .f32⟩
  | .hbm, ⟨50, _⟩ => ⟨S8x4096x12x64, .f32⟩
  | .hbm, ⟨51, _⟩ => ⟨S8x4096x12x32, .f32⟩
  | .hbm, ⟨52, _⟩ => ⟨S8x4096x12x32, .f32⟩
  | .hbm, ⟨53, _⟩ => ⟨S1x4096x1x32, .f32⟩
  | .hbm, ⟨54, _⟩ => ⟨S1x4096x1x32, .f32⟩
  | .hbm, ⟨55, _⟩ => ⟨S8x4096x12x32, .f32⟩
  | .hbm, ⟨56, _⟩ => ⟨S8x4096x12x32, .f32⟩
  | .hbm, ⟨57, _⟩ => ⟨S8x4096x12x32, .f32⟩
  | .hbm, ⟨58, _⟩ => ⟨S8x4096x12x32, .f32⟩
  | .hbm, ⟨59, _⟩ => ⟨S8x4096x12x32, .f32⟩
  | .hbm, ⟨60, _⟩ => ⟨S8x4096x12x32, .f32⟩
  | .hbm, ⟨61, _⟩ => ⟨S8x4096x12x32, .f32⟩
  | .hbm, ⟨62, _⟩ => ⟨S8x4096x12x32, .f32⟩
  | .hbm, ⟨63, _⟩ => ⟨S8x4096x12x32, .f32⟩
  | .hbm, ⟨64, _⟩ => ⟨S8x4096x12x32, .f32⟩
  | .hbm, ⟨65, _⟩ => ⟨S8x4096x12x64, .f32⟩
  | .hbm, ⟨66, _⟩ => ⟨S_, .f32⟩
  | .hbm, ⟨67, _⟩ => ⟨S8x4096x12x64, .f32⟩
  | .hbm, ⟨68, _⟩ => ⟨S8x4096x12x64, .f32⟩
  | .hbm, ⟨69, _⟩ => ⟨S32768x256, .f32⟩
  | .hbm, ⟨70, _⟩ => ⟨S8x4096x4x64, .f32⟩
  | .hbm, ⟨71, _⟩ => ⟨S8x4096x4x32, .f32⟩
  | .hbm, ⟨72, _⟩ => ⟨S8x4096x4x32, .f32⟩
  | .hbm, ⟨73, _⟩ => ⟨S1x4096x1x32, .f32⟩
  | .hbm, ⟨74, _⟩ => ⟨S1x4096x1x32, .f32⟩
  | .hbm, ⟨75, _⟩ => ⟨S8x4096x4x32, .f32⟩
  | .hbm, ⟨76, _⟩ => ⟨S8x4096x4x32, .f32⟩
  | .hbm, ⟨77, _⟩ => ⟨S8x4096x4x32, .f32⟩
  | .hbm, ⟨78, _⟩ => ⟨S8x4096x4x32, .f32⟩
  | .hbm, ⟨79, _⟩ => ⟨S8x4096x4x32, .f32⟩
  | .hbm, ⟨80, _⟩ => ⟨S8x4096x4x32, .f32⟩
  | .hbm, ⟨81, _⟩ => ⟨S8x4096x4x32, .f32⟩
  | .hbm, ⟨82, _⟩ => ⟨S8x4096x4x32, .f32⟩
  | .hbm, ⟨83, _⟩ => ⟨S8x4096x4x32, .f32⟩
  | .hbm, ⟨84, _⟩ => ⟨S8x4096x4x32, .f32⟩
  | .hbm, ⟨85, _⟩ => ⟨S8x4096x4x64, .f32⟩
  | .hbm, ⟨86, _⟩ => ⟨S32768x256, .f32⟩
  | .hbm, ⟨87, _⟩ => ⟨S32768x4x3x64, .f32⟩
  | .hbm, ⟨88, _⟩ => ⟨S32768x3x4x64, .f32⟩
  | .hbm, ⟨89, _⟩ => ⟨S32768x768, .f32⟩
  | .hbm, ⟨90, _⟩ => ⟨S32768x768, .bf16⟩
  | .hbm, ⟨91, _⟩ => ⟨S32768x256, .f32⟩
  | .hbm, ⟨92, _⟩ => ⟨S32768x256, .bf16⟩
  | .hbm, ⟨93, _⟩ => ⟨S32768x256, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_7 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩

abbrev nD : Nat := 1
abbrev τ : Topo := Topo.v7x

variable {F : FTy → Type} [FloatOps F]
-- ==== OddIn.lean ====
abbrev S32768x1024 : Shape := ⟨2, ![32768, 1024]⟩
abbrev S4x6x1024 : Shape := ⟨3, ![4, 6, 1024]⟩
abbrev S2x1024x4128 : Shape := ⟨3, ![2, 1024, 4128]⟩
abbrev S2x31x512 : Shape := ⟨3, ![2, 31, 512]⟩
abbrev S2x512 : Shape := ⟨2, ![2, 512]⟩
abbrev S2x4x2048 : Shape := ⟨3, ![2, 4, 2048]⟩
abbrev S2x2048 : Shape := ⟨2, ![2, 2048]⟩
abbrev S2x2x16 : Shape := ⟨3, ![2, 2, 16]⟩
abbrev S1x1024x4128 : Shape := ⟨3, ![1, 1024, 4128]⟩
abbrev S1024x4128 : Shape := ⟨2, ![1024, 4128]⟩
abbrev S1024x1024 : Shape := ⟨2, ![1024, 1024]⟩
abbrev S1024x2048 : Shape := ⟨2, ![1024, 2048]⟩
abbrev S1024x3072 : Shape := ⟨2, ![1024, 3072]⟩
abbrev S1024x32 : Shape := ⟨2, ![1024, 32]⟩
abbrev S_ : Shape := ⟨0, ![]⟩
abbrev S1024x128 : Shape := ⟨2, ![1024, 128]⟩
abbrev S1x2x16 : Shape := ⟨3, ![1, 2, 16]⟩
abbrev S2x16 : Shape := ⟨2, ![2, 16]⟩
abbrev S1x32 : Shape := ⟨2, ![1, 32]⟩
abbrev S1x128 : Shape := ⟨2, ![1, 128]⟩
abbrev S1x6x1024 : Shape := ⟨3, ![1, 6, 1024]⟩
abbrev S6x1024 : Shape := ⟨2, ![6, 1024]⟩
abbrev S6x1x1024 : Shape := ⟨3, ![6, 1, 1024]⟩
abbrev S1x1x1024 : Shape := ⟨3, ![1, 1, 1024]⟩
abbrev S1x1024 : Shape := ⟨2, ![1, 1024]⟩
abbrev S1x31x512 : Shape := ⟨3, ![1, 31, 512]⟩
abbrev S31x512 : Shape := ⟨2, ![31, 512]⟩
abbrev S1x512 : Shape := ⟨2, ![1, 512]⟩
abbrev S512 : Shape := ⟨1, ![512]⟩
abbrev S1x4x2048 : Shape := ⟨3, ![1, 4, 2048]⟩
abbrev S4x2048 : Shape := ⟨2, ![4, 2048]⟩
abbrev S1x2048 : Shape := ⟨2, ![1, 2048]⟩
abbrev S2048 : Shape := ⟨1, ![2048]⟩
abbrev S32768x512 : Shape := ⟨2, ![32768, 512]⟩
abbrev S32768x2048 : Shape := ⟨2, ![32768, 2048]⟩
abbrev S32768x128 : Shape := ⟨2, ![32768, 128]⟩
abbrev S16x1024 : Shape := ⟨2, ![16, 1024]⟩
abbrev S1024x512 : Shape := ⟨2, ![1024, 512]⟩
abbrev S1056x1024 : Shape := ⟨2, ![1056, 1024]⟩
abbrev S1056x512 : Shape := ⟨2, ![1056, 512]⟩
abbrev S1056x2048 : Shape := ⟨2, ![1056, 2048]⟩
abbrev S16 : Shape := ⟨1, ![16]⟩
abbrev S16x1 : Shape := ⟨2, ![16, 1]⟩
abbrev S1024 : Shape := ⟨1, ![1024]⟩
abbrev S1024x1 : Shape := ⟨2, ![1024, 1]⟩
abbrev S1056x1 : Shape := ⟨2, ![1056, 1]⟩
abbrev S160x128 : Shape := ⟨2, ![160, 128]⟩
abbrev S128x128 : Shape := ⟨2, ![128, 128]⟩
abbrev S144x128 : Shape := ⟨2, ![144, 128]⟩

abbrev nBuf : Space → Nat
  | .hbm => 54
  | .vmem => 29
  | .smem => 0
  | _ => 0

abbrev bufTy : (tb : Table) → Fin (tcTables nBuf tb) → BufTy
  | .hbm, ⟨0, _⟩ => ⟨S32768x1024, .f32⟩
  | .hbm, ⟨1, _⟩ => ⟨S4x6x1024, .f32⟩
  | .hbm, ⟨2, _⟩ => ⟨S2x1024x4128, .f32⟩
  | .hbm, ⟨3, _⟩ => ⟨S2x31x512, .f32⟩
  | .hbm, ⟨4, _⟩ => ⟨S2x512, .f32⟩
  | .hbm, ⟨5, _⟩ => ⟨S2x512, .f32⟩
  | .hbm, ⟨6, _⟩ => ⟨S2x512, .f32⟩
  | .hbm, ⟨7, _⟩ => ⟨S2x4x2048, .f32⟩
  | .hbm, ⟨8, _⟩ => ⟨S2x2048, .f32⟩
  | .hbm, ⟨9, _⟩ => ⟨S2x2x16, .f32⟩
  | .hbm, ⟨10, _⟩ => ⟨S1x1024x4128, .f32⟩
  | .hbm, ⟨11, _⟩ => ⟨S1024x4128, .f32⟩
  | .hbm, ⟨12, _⟩ => ⟨S1024x1024, .f32⟩
  | .hbm, ⟨13, _⟩ => ⟨S1024x2048, .f32⟩
  | .hbm, ⟨14, _⟩ => ⟨S1024x3072, .f32⟩
  | .hbm, ⟨15, _⟩ => ⟨S1024x3072, .bf16⟩
  | .hbm, ⟨16, _⟩ => ⟨S1024x1024, .f32⟩
  | .hbm, ⟨17, _⟩ => ⟨S1024x1024, .bf16⟩
  | .hbm, ⟨18, _⟩ => ⟨S1024x32, .f32⟩
  | .hbm, ⟨19, _⟩ => ⟨S_, .i32⟩
  | .hbm, ⟨20, _⟩ => ⟨S_, .f32⟩
  | .hbm, ⟨21, _⟩ => ⟨S1024x128, .f32⟩
  | .hbm, ⟨22, _⟩ => ⟨S1024x128, .bf16⟩
  | .hbm, ⟨23, _⟩ => ⟨S1x2x16, .f32⟩
  | .hbm, ⟨24, _⟩ => ⟨S2x16, .f32⟩
  | .hbm, ⟨25, _⟩ => ⟨S1x32, .f32⟩
  | .hbm, ⟨26, _⟩ => ⟨S_, .i32⟩
  | .hbm, ⟨27, _⟩ => ⟨S_, .f32⟩
  | .hbm, ⟨28, _⟩ => ⟨S1x128, .f32⟩
  | .hbm, ⟨29, _⟩ => ⟨S1x6x1024, .f32⟩
  | .hbm, ⟨30, _⟩ => ⟨S6x1024, .f32⟩
  | .hbm, ⟨31, _⟩ => ⟨S6x1x1024, .f32⟩
  | .hbm, ⟨32, _⟩ => ⟨S1x1x1024, .f32⟩
  | .hbm, ⟨33, _⟩ => ⟨S1x1024, .f32⟩
  | .hbm, ⟨34, _⟩ => ⟨S1x31x512, .f32⟩
  | .hbm, ⟨35, _⟩ => ⟨S31x512, .f32⟩
  | .hbm, ⟨36, _⟩ => ⟨S1x512, .f32⟩
  | .hbm, ⟨37, _⟩ => ⟨S512, .f32⟩
  | .hbm, ⟨38, _⟩ => ⟨S1x512, .f32⟩
  | .hbm, ⟨39, _⟩ => ⟨S1x512, .f32⟩
  | .hbm, ⟨40, _⟩ => ⟨S512, .f32⟩
  | .hbm, ⟨41, _⟩ => ⟨S1x512, .f32⟩
  | .hbm, ⟨42, _⟩ => ⟨S1x512, .f32⟩
  | .hbm, ⟨43, _⟩ => ⟨S512, .f32⟩
  | .hbm, ⟨44, _⟩ => ⟨S1x512, .f32⟩
  | .hbm, ⟨45, _⟩ => ⟨S1x4x2048, .f32⟩
  | .hbm, ⟨46, _⟩ => ⟨S4x2048, .f32⟩
  | .hbm, ⟨47, _⟩ => ⟨S1x2048, .f32⟩
  | .hbm, ⟨48, _⟩ => ⟨S2048, .f32⟩
  | .hbm, ⟨49, _⟩ => ⟨S1x2048, .f32⟩
  | .hbm, ⟨50, _⟩ => ⟨S32768x512, .bf16⟩
  | .hbm, ⟨51, _⟩ => ⟨S32768x2048, .bf16⟩
  | .hbm, ⟨52, _⟩ => ⟨S32768x1024, .bf16⟩
  | .hbm, ⟨53, _⟩ => ⟨S32768x128, .f32⟩
  | .local _ .vmem, ⟨0, _⟩ => ⟨S16x1024, .f32⟩
  | .local _ .vmem, ⟨1, _⟩ => ⟨S16x1024, .f32⟩
  | .local _ .vmem, ⟨2, _⟩ => ⟨S1024x1024, .f32⟩
  | .local _ .vmem, ⟨3, _⟩ => ⟨S1024x1024, .f32⟩
  | .local _ .vmem, ⟨4, _⟩ => ⟨S16x1024, .f32⟩
  | .local _ .vmem, ⟨5, _⟩ => ⟨S16x1024, .f32⟩
  | .local _ .vmem, ⟨6, _⟩ => ⟨S1x1024, .f32⟩
  | .local _ .vmem, ⟨7, _⟩ => ⟨S1024x3072, .bf16⟩
  | .local _ .vmem, ⟨8, _⟩ => ⟨S1024x1024, .bf16⟩
  | .local _ .vmem, ⟨9, _⟩ => ⟨S1024x128, .bf16⟩
  | .local _ .vmem, ⟨10, _⟩ => ⟨S31x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S4x2048, .f32⟩
  | .local _ .vmem, ⟨15, _⟩ => ⟨S1x2048, .f32⟩
  | .local _ .vmem, ⟨16, _⟩ => ⟨S1x128, .f32⟩
  | .local _ .vmem, ⟨17, _⟩ => ⟨S1024x512, .bf16⟩
  | .local _ .vmem, ⟨18, _⟩ => ⟨S1024x512, .bf16⟩
  | .local _ .vmem, ⟨19, _⟩ => ⟨S1024x2048, .bf16⟩
  | .local _ .vmem, ⟨20, _⟩ => ⟨S1024x2048, .bf16⟩
  | .local _ .vmem, ⟨21, _⟩ => ⟨S1024x1024, .bf16⟩
  | .local _ .vmem, ⟨22, _⟩ => ⟨S1024x1024, .bf16⟩
  | .local _ .vmem, ⟨23, _⟩ => ⟨S1024x128, .f32⟩
  | .local _ .vmem, ⟨24, _⟩ => ⟨S1024x128, .f32⟩
  | .local _ .vmem, ⟨25, _⟩ => ⟨S1056x1024, .bf16⟩
  | .local _ .vmem, ⟨26, _⟩ => ⟨S1056x512, .f32⟩
  | .local _ .vmem, ⟨27, _⟩ => ⟨S1056x2048, .f32⟩
  | .local _ .vmem, ⟨28, _⟩ => ⟨S1024x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_call0_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_0 : Ref sig .tc := ⟨.hbm, 26, rfl⟩
abbrev main_call1_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36_0 : Ref sig .tc := ⟨.hbm, 50, rfl⟩
abbrev main_v36_1 : Ref sig .tc := ⟨.hbm, 51, rfl⟩
abbrev main_v36_2 : Ref sig .tc := ⟨.hbm, 52, rfl⟩
abbrev main_v36_3 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_64 : BitVec 32 := 0#32
  let c8_i32 : BitVec 32 := 8#32
  let v149 : BitVec 32 := Scalar.addi c0_i32_64 c8_i32
  let c1_i32_65 : BitVec 32 := 1#32
  ⟨c0_i32_64, v149, c1_i32_65⟩
def k0_mult1 (k0_t1 : Fin k0_t1_loop.trips) : BitVec 32 :=
  let c0_i32_64 : BitVec 32 := 0#32
  let c1_i32_65 : BitVec 32 := 1#32
  let arg23 : BitVec 32 := Scf.iv c0_i32_64 c1_i32_65 k0_t1
  let c128_i32 : BitVec 32 := 128#32
  let v183 : BitVec 32 := Scalar.muli arg23 c128_i32
  v183
def k0_off1 (k0_t1 : Fin k0_t1_loop.trips) : Fin 2 → Nat :=
  let c0_i32_64 : BitVec 32 := 0#32
  let c1_i32_65 : BitVec 32 := 1#32
  let arg23 : BitVec 32 := Scf.iv c0_i32_64 c1_i32_65 k0_t1
  let c128_i32 : BitVec 32 := 128#32
  let v183 : BitVec 32 := Scalar.muli arg23 c128_i32
  let v184 : BitVec 32 := v183
  let v185 : Index := Scalar.indexCast v184
  let c0_85 : Index := 0#32
  ![v185.toNat, 0]
def k0_off2 (k0_t1 : Fin k0_t1_loop.trips) : Fin 2 → Nat :=
  let c0_i32_64 : BitVec 32 := 0#32
  let c1_i32_65 : BitVec 32 := 1#32
  let arg23 : BitVec 32 := Scf.iv c0_i32_64 c1_i32_65 k0_t1
  let c128_i32 : BitVec 32 := 128#32
  let v183 : BitVec 32 := Scalar.muli arg23 c128_i32
  let v184 : BitVec 32 := v183
  let v384 : Index := Scalar.indexCast v184
  let c0_121 : Index := 0#32
  ![v384.toNat, 0]
def k0_off3 (k0_t1 : Fin k0_t1_loop.trips) : Fin 2 → Nat :=
  let c0_i32_64 : BitVec 32 := 0#32
  let c1_i32_65 : BitVec 32 := 1#32
  let arg23 : BitVec 32 := Scf.iv c0_i32_64 c1_i32_65 k0_t1
  let c128_i32 : BitVec 32 := 128#32
  let v183 : BitVec 32 := Scalar.muli arg23 c128_i32
  let v184 : BitVec 32 := v183
  let v388 : Index := Scalar.indexCast v184
  let c128 : Index := 128#32
  ![v388.toNat, 128]
def k0_off4 (k0_t1 : Fin k0_t1_loop.trips) : Fin 2 → Nat :=
  let c0_i32_64 : BitVec 32 := 0#32
  let c1_i32_65 : BitVec 32 := 1#32
  let arg23 : BitVec 32 := Scf.iv c0_i32_64 c1_i32_65 k0_t1
  let c128_i32 : BitVec 32 := 128#32
  let v183 : BitVec 32 := Scalar.muli arg23 c128_i32
  let v184 : BitVec 32 := v183
  let v587 : Index := Scalar.indexCast v184
  let c128_193 : Index := 128#32
  ![v587.toNat, 128]
def k0_off5 (k0_t1 : Fin k0_t1_loop.trips) : Fin 2 → Nat :=
  let c0_i32_64 : BitVec 32 := 0#32
  let c1_i32_65 : BitVec 32 := 1#32
  let arg23 : BitVec 32 := Scf.iv c0_i32_64 c1_i32_65 k0_t1
  let c128_i32 : BitVec 32 := 128#32
  let v183 : BitVec 32 := Scalar.muli arg23 c128_i32
  let v184 : BitVec 32 := v183
  let v591 : Index := Scalar.indexCast v184
  let c256 : Index := 256#32
  ![v591.toNat, 256]
def k0_off6 (k0_t1 : Fin k0_t1_loop.trips) : Fin 2 → Nat :=
  let c0_i32_64 : BitVec 32 := 0#32
  let c1_i32_65 : BitVec 32 := 1#32
  let arg23 : BitVec 32 := Scf.iv c0_i32_64 c1_i32_65 k0_t1
  let c128_i32 : BitVec 32 := 128#32
  let v183 : BitVec 32 := Scalar.muli arg23 c128_i32
  let v184 : BitVec 32 := v183
  let v790 : Index := Scalar.indexCast v184
  let c256_265 : Index := 256#32
  ![v790.toNat, 256]
def k0_off7 (k0_t1 : Fin k0_t1_loop.trips) : Fin 2 → Nat :=
  let c0_i32_64 : BitVec 32 := 0#32
  let c1_i32_65 : BitVec 32 := 1#32
  let arg23 : BitVec 32 := Scf.iv c0_i32_64 c1_i32_65 k0_t1
  let c128_i32 : BitVec 32 := 128#32
  let v183 : BitVec 32 := Scalar.muli arg23 c128_i32
  let v184 : BitVec 32 := v183
  let v794 : Index := Scalar.indexCast v184
  let c384 : Index := 384#32
  ![v794.toNat, 384]
def k0_off8 (k0_t1 : Fin k0_t1_loop.trips) : Fin 2 → Nat :=
  let c0_i32_64 : BitVec 32 := 0#32
  let c1_i32_65 : BitVec 32 := 1#32
  let arg23 : BitVec 32 := Scf.iv c0_i32_64 c1_i32_65 k0_t1
  let c128_i32 : BitVec 32 := 128#32
  let v183 : BitVec 32 := Scalar.muli arg23 c128_i32
  let v184 : BitVec 32 := v183
  let v993 : Index := Scalar.indexCast v184
  let c384_337 : Index := 384#32
  ![v993.toNat, 384]
@[reducible] def k0_t2_loop : Scf.Loop 32 :=
  let c0_i32_81 : BitVec 32 := 0#32
  let c8_i32_82 : BitVec 32 := 8#32
  let v182 : BitVec 32 := Scalar.addi c0_i32_81 c8_i32_82
  let c1_i32_83 : BitVec 32 := 1#32
  ⟨c0_i32_81, v182, c1_i32_83⟩
def k0_mult2 (k0_t2 : Fin k0_t2_loop.trips) : BitVec 32 :=
  let c0_i32_81 : BitVec 32 := 0#32
  let c1_i32_83 : BitVec 32 := 1#32
  let arg23 : BitVec 32 := Scf.iv c0_i32_81 c1_i32_83 k0_t2
  let c128_i32 : BitVec 32 := 128#32
  let v183 : BitVec 32 := Scalar.muli arg23 c128_i32
  v183
def k0_off9 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let c128_i32 : BitVec 32 := 128#32
  let v183 : BitVec 32 := Scalar.muli arg23 c128_i32
  let v184 : BitVec 32 := v183
  let c16_i32_85 : BitVec 32 := 16#32
  let v185 : BitVec 32 := Scalar.addi v184 c16_i32_85
  let c8_i32_86 : BitVec 32 := 8#32
  let v186 : BitVec 32 := Scalar.subi v185 c8_i32_86
  let v187 : Index := Scalar.indexCast v186
  let c0_87 : Index := 0#32
  ![v187.toNat, 0]
def k0_off10 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let c128_i32 : BitVec 32 := 128#32
  let v183 : BitVec 32 := Scalar.muli arg23 c128_i32
  let v184 : BitVec 32 := v183
  let v226 : Index := Scalar.indexCast v184
  let c0_96 : Index := 0#32
  ![v226.toNat, 0]
def k0_off11 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let c128_i32 : BitVec 32 := 128#32
  let v183 : BitVec 32 := Scalar.muli arg23 c128_i32
  let v184 : BitVec 32 := v183
  let c16_i32_97 : BitVec 32 := 16#32
  let v228 : BitVec 32 := Scalar.addi v184 c16_i32_97
  let c8_i32_98 : BitVec 32 := 8#32
  let v229 : BitVec 32 := Scalar.subi v228 c8_i32_98
  let v230 : Index := Scalar.indexCast v229
  let c128 : Index := 128#32
  ![v230.toNat, 128]
def k0_off12 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let c128_i32 : BitVec 32 := 128#32
  let v183 : BitVec 32 := Scalar.muli arg23 c128_i32
  let v184 : BitVec 32 := v183
  let v269 : Index := Scalar.indexCast v184
  let c128_113 : Index := 128#32
  ![v269.toNat, 128]
def k0_off13 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let c128_i32 : BitVec 32 := 128#32
  let v183 : BitVec 32 := Scalar.muli arg23 c128_i32
  let v184 : BitVec 32 := v183
  let c16_i32_114 : BitVec 32 := 16#32
  let v271 : BitVec 32 := Scalar.addi v184 c16_i32_114
  let c8_i32_115 : BitVec 32 := 8#32
  let v272 : BitVec 32 := Scalar.subi v271 c8_i32_115
  let v273 : Index := Scalar.indexCast v272
  let c256 : Index := 256#32
  ![v273.toNat, 256]
def k0_off14 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let c128_i32 : BitVec 32 := 128#32
  let v183 : BitVec 32 := Scalar.muli arg23 c128_i32
  let v184 : BitVec 32 := v183
  let v312 : Index := Scalar.indexCast v184
  let c256_130 : Index := 256#32
  ![v312.toNat, 256]
def k0_off15 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let c128_i32 : BitVec 32 := 128#32
  let v183 : BitVec 32 := Scalar.muli arg23 c128_i32
  let v184 : BitVec 32 := v183
  let c16_i32_131 : BitVec 32 := 16#32
  let v314 : BitVec 32 := Scalar.addi v184 c16_i32_131
  let c8_i32_132 : BitVec 32 := 8#32
  let v315 : BitVec 32 := Scalar.subi v314 c8_i32_132
  let v316 : Index := Scalar.indexCast v315
  let c384 : Index := 384#32
  ![v316.toNat, 384]
def k0_off16 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let c128_i32 : BitVec 32 := 128#32
  let v183 : BitVec 32 := Scalar.muli arg23 c128_i32
  let v184 : BitVec 32 := v183
  let v355 : Index := Scalar.indexCast v184
  let c384_147 : Index := 384#32
  ![v355.toNat, 384]
def k0_off17 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let c128_i32 : BitVec 32 := 128#32
  let v183 : BitVec 32 := Scalar.muli arg23 c128_i32
  let v184 : BitVec 32 := v183
  let c16_i32_148 : BitVec 32 := 16#32
  let v357 : BitVec 32 := Scalar.addi v184 c16_i32_148
  let c8_i32_149 : BitVec 32 := 8#32
  let v358 : BitVec 32 := Scalar.subi v357 c8_i32_149
  let v359 : Index := Scalar.indexCast v358
  let c512_150 : Index := 512#32
  ![v359.toNat, 512]
def k0_off18 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let c128_i32 : BitVec 32 := 128#32
  let v183 : BitVec 32 := Scalar.muli arg23 c128_i32
  let v184 : BitVec 32 := v183
  let v398 : Index := Scalar.indexCast v184
  let c512_165 : Index := 512#32
  ![v398.toNat, 512]
def k0_off19 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let c128_i32 : BitVec 32 := 128#32
  let v183 : BitVec 32 := Scalar.muli arg23 c128_i32
  let v184 : BitVec 32 := v183
  let c16_i32_166 : BitVec 32 := 16#32
  let v400 : BitVec 32 := Scalar.addi v184 c16_i32_166
  let c8_i32_167 : BitVec 32 := 8#32
  let v401 : BitVec 32 := Scalar.subi v400 c8_i32_167
  let v402 : Index := Scalar.indexCast v401
  let c640 : Index := 640#32
  ![v402.toNat, 640]
def k0_off20 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let c128_i32 : BitVec 32 := 128#32
  let v183 : BitVec 32 := Scalar.muli arg23 c128_i32
  let v184 : BitVec 32 := v183
  let v441 : Index := Scalar.indexCast v184
  let c640_182 : Index := 640#32
  ![v441.toNat, 640]
def k0_off21 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let c128_i32 : BitVec 32 := 128#32
  let v183 : BitVec 32 := Scalar.muli arg23 c128_i32
  let v184 : BitVec 32 := v183
  let c16_i32_183 : BitVec 32 := 16#32
  let v443 : BitVec 32 := Scalar.addi v184 c16_i32_183
  let c8_i32_184 : BitVec 32 := 8#32
  let v444 : BitVec 32 := Scalar.subi v443 c8_i32_184
  let v445 : Index := Scalar.indexCast v444
  let c768 : Index := 768#32
  ![v445.toNat, 768]
def k0_off22 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let c128_i32 : BitVec 32 := 128#32
  let v183 : BitVec 32 := Scalar.muli arg23 c128_i32
  let v184 : BitVec 32 := v183
  let v484 : Index := Scalar.indexCast v184
  let c768_199 : Index := 768#32
  ![v484.toNat, 768]
def k0_off23 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let c128_i32 : BitVec 32 := 128#32
  let v183 : BitVec 32 := Scalar.muli arg23 c128_i32
  let v184 : BitVec 32 := v183
  let c16_i32_200 : BitVec 32 := 16#32
  let v486 : BitVec 32 := Scalar.addi v184 c16_i32_200
  let c8_i32_201 : BitVec 32 := 8#32
  let v487 : BitVec 32 := Scalar.subi v486 c8_i32_201
  let v488 : Index := Scalar.indexCast v487
  let c896 : Index := 896#32
  ![v488.toNat, 896]
def k0_off24 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let c128_i32 : BitVec 32 := 128#32
  let v183 : BitVec 32 := Scalar.muli arg23 c128_i32
  let v184 : BitVec 32 := v183
  let v527 : Index := Scalar.indexCast v184
  let c896_216 : Index := 896#32
  ![v527.toNat, 896]
def k0_off25 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let c128_i32 : BitVec 32 := 128#32
  let v183 : BitVec 32 := Scalar.muli arg23 c128_i32
  let v184 : BitVec 32 := v183
  let c16_i32_217 : BitVec 32 := 16#32
  let v529 : BitVec 32 := Scalar.addi v184 c16_i32_217
  let c8_i32_218 : BitVec 32 := 8#32
  let v530 : BitVec 32 := Scalar.subi v529 c8_i32_218
  let v531 : Index := Scalar.indexCast v530
  let c1024_219 : Index := 1024#32
  ![v531.toNat, 1024]
def k0_off26 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let c128_i32 : BitVec 32 := 128#32
  let v183 : BitVec 32 := Scalar.muli arg23 c128_i32
  let v184 : BitVec 32 := v183
  let v570 : Index := Scalar.indexCast v184
  let c1024_234 : Index := 1024#32
  ![v570.toNat, 1024]
def k0_off27 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let c128_i32 : BitVec 32 := 128#32
  let v183 : BitVec 32 := Scalar.muli arg23 c128_i32
  let v184 : BitVec 32 := v183
  let c16_i32_235 : BitVec 32 := 16#32
  let v572 : BitVec 32 := Scalar.addi v184 c16_i32_235
  let c8_i32_236 : BitVec 32 := 8#32
  let v573 : BitVec 32 := Scalar.subi v572 c8_i32_236
  let v574 : Index := Scalar.indexCast v573
  let c1152 : Index := 1152#32
  ![v574.toNat, 1152]
def k0_off28 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let c128_i32 : BitVec 32 := 128#32
  let v183 : BitVec 32 := Scalar.muli arg23 c128_i32
  let v184 : BitVec 32 := v183
  let v613 : Index := Scalar.indexCast v184
  let c1152_251 : Index := 1152#32
  ![v613.toNat, 1152]
def k0_off29 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let c128_i32 : BitVec 32 := 128#32
  let v183 : BitVec 32 := Scalar.muli arg23 c128_i32
  let v184 : BitVec 32 := v183
  let c16_i32_252 : BitVec 32 := 16#32
  let v615 : BitVec 32 := Scalar.addi v184 c16_i32_252
  let c8_i32_253 : BitVec 32 := 8#32
  let v616 : BitVec 32 := Scalar.subi v615 c8_i32_253
  let v617 : Index := Scalar.indexCast v616
  let c1280 : Index := 1280#32
  ![v617.toNat, 1280]
def k0_off30 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let c128_i32 : BitVec 32 := 128#32
  let v183 : BitVec 32 := Scalar.muli arg23 c128_i32
  let v184 : BitVec 32 := v183
  let v656 : Index := Scalar.indexCast v184
  let c1280_268 : Index := 1280#32
  ![v656.toNat, 1280]
def k0_off31 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let c128_i32 : BitVec 32 := 128#32
  let v183 : BitVec 32 := Scalar.muli arg23 c128_i32
  let v184 : BitVec 32 := v183
  let c16_i32_269 : BitVec 32 := 16#32
  let v658 : BitVec 32 := Scalar.addi v184 c16_i32_269
  let c8_i32_270 : BitVec 32 := 8#32
  let v659 : BitVec 32 := Scalar.subi v658 c8_i32_270
  let v660 : Index := Scalar.indexCast v659
  let c1408 : Index := 1408#32
  ![v660.toNat, 1408]
def k0_off32 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let c128_i32 : BitVec 32 := 128#32
  let v183 : BitVec 32 := Scalar.muli arg23 c128_i32
  let v184 : BitVec 32 := v183
  let v699 : Index := Scalar.indexCast v184
  let c1408_285 : Index := 1408#32
  ![v699.toNat, 1408]
def k0_off33 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let c128_i32 : BitVec 32 := 128#32
  let v183 : BitVec 32 := Scalar.muli arg23 c128_i32
  let v184 : BitVec 32 := v183
  let c16_i32_286 : BitVec 32 := 16#32
  let v701 : BitVec 32 := Scalar.addi v184 c16_i32_286
  let c8_i32_287 : BitVec 32 := 8#32
  let v702 : BitVec 32 := Scalar.subi v701 c8_i32_287
  let v703 : Index := Scalar.indexCast v702
  let c1536_288 : Index := 1536#32
  ![v703.toNat, 1536]
def k0_off34 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let c128_i32 : BitVec 32 := 128#32
  let v183 : BitVec 32 := Scalar.muli arg23 c128_i32
  let v184 : BitVec 32 := v183
  let v742 : Index := Scalar.indexCast v184
  let c1536_303 : Index := 1536#32
  ![v742.toNat, 1536]
def k0_off35 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let c128_i32 : BitVec 32 := 128#32
  let v183 : BitVec 32 := Scalar.muli arg23 c128_i32
  let v184 : BitVec 32 := v183
  let c16_i32_304 : BitVec 32 := 16#32
  let v744 : BitVec 32 := Scalar.addi v184 c16_i32_304
  let c8_i32_305 : BitVec 32 := 8#32
  let v745 : BitVec 32 := Scalar.subi v744 c8_i32_305
  let v746 : Index := Scalar.indexCast v745
  let c1664 : Index := 1664#32
  ![v746.toNat, 1664]
def k0_off36 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let c128_i32 : BitVec 32 := 128#32
  let v183 : BitVec 32 := Scalar.muli arg23 c128_i32
  let v184 : BitVec 32 := v183
  let v785 : Index := Scalar.indexCast v184
  let c1664_320 : Index := 1664#32
  ![v785.toNat, 1664]
def k0_off37 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let c128_i32 : BitVec 32 := 128#32
  let v183 : BitVec 32 := Scalar.muli arg23 c128_i32
  let v184 : BitVec 32 := v183
  let c16_i32_321 : BitVec 32 := 16#32
  let v787 : BitVec 32 := Scalar.addi v184 c16_i32_321
  let c8_i32_322 : BitVec 32 := 8#32
  let v788 : BitVec 32 := Scalar.subi v787 c8_i32_322
  let v789 : Index := Scalar.indexCast v788
  let c1792 : Index := 1792#32
  ![v789.toNat, 1792]
def k0_off38 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let c128_i32 : BitVec 32 := 128#32
  let v183 : BitVec 32 := Scalar.muli arg23 c128_i32
  let v184 : BitVec 32 := v183
  let v828 : Index := Scalar.indexCast v184
  let c1792_337 : Index := 1792#32
  ![v828.toNat, 1792]
def k0_off39 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let c128_i32 : BitVec 32 := 128#32
  let v183 : BitVec 32 := Scalar.muli arg23 c128_i32
  let v184 : BitVec 32 := v183
  let c16_i32_338 : BitVec 32 := 16#32
  let v830 : BitVec 32 := Scalar.addi v184 c16_i32_338
  let c8_i32_339 : BitVec 32 := 8#32
  let v831 : BitVec 32 := Scalar.subi v830 c8_i32_339
  let v832 : Index := Scalar.indexCast v831
  let c1920 : Index := 1920#32
  ![v832.toNat, 1920]
def k0_off40 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let c128_i32 : BitVec 32 := 128#32
  let v183 : BitVec 32 := Scalar.muli arg23 c128_i32
  let v184 : BitVec 32 := v183
  let v871 : Index := Scalar.indexCast v184
  let c1920_354 : Index := 1920#32
  ![v871.toNat, 1920]
def cc0_transform_0 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S31x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== OddInRefIdeal.lean ====
abbrev S32768x1024 : Shape := ⟨2, ![32768, 1024]⟩
abbrev S4x6x1024 : Shape := ⟨3, ![4, 6, 1024]⟩
abbrev S2x1024x4128 : Shape := ⟨3, ![2, 1024, 4128]⟩
abbrev S2x31x512 : Shape := ⟨3, ![2, 31, 512]⟩
abbrev S2x512 : Shape := ⟨2, ![2, 512]⟩
abbrev S2x4x2048 : Shape := ⟨3, ![2, 4, 2048]⟩
abbrev S2x2048 : Shape := ⟨2, ![2, 2048]⟩
abbrev S2x2x16 : Shape := ⟨3, ![2, 2, 16]⟩
abbrev S1x1x1024 : Shape := ⟨3, ![1, 1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1x1024x4128 : Shape := ⟨3, ![1, 1024, 4128]⟩
abbrev S1024x4128 : Shape := ⟨2, ![1024, 4128]⟩
abbrev S32768x4128 : Shape := ⟨2, ![32768, 4128]⟩
abbrev S32768x32 : Shape := ⟨2, ![32768, 32]⟩
abbrev S1x2x16 : Shape := ⟨3, ![1, 2, 16]⟩
abbrev S2x16 : Shape := ⟨2, ![2, 16]⟩
abbrev S32 : Shape := ⟨1, ![32]⟩
abbrev S1x32 : Shape := ⟨2, ![1, 32]⟩
abbrev S32768x128 : Shape := ⟨2, ![32768, 128]⟩

abbrev nBuf : Space → Nat
  | .hbm => 57
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x6x1024, .f32⟩
  | .hbm, ⟨2, _⟩ => ⟨S2x1024x4128, .f32⟩
  | .hbm, ⟨3, _⟩ => ⟨S2x31x512, .f32⟩
  | .hbm, ⟨4, _⟩ => ⟨S2x512, .f32⟩
  | .hbm, ⟨5, _⟩ => ⟨S2x512, .f32⟩
  | .hbm, ⟨6, _⟩ => ⟨S2x512, .f32⟩
  | .hbm, ⟨7, _⟩ => ⟨S2x4x2048, .f32⟩
  | .hbm, ⟨8, _⟩ => ⟨S2x2048, .f32⟩
  | .hbm, ⟨9, _⟩ => ⟨S2x2x16, .f32⟩
  | .hbm, ⟨10, _⟩ => ⟨S1x1x1024, .f32⟩
  | .hbm, ⟨11, _⟩ => ⟨S1024, .f32⟩
  | .hbm, ⟨12, _⟩ => ⟨S32768x1024, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S32768x1, .f32⟩
  | .hbm, ⟨23, _⟩ => ⟨S32768x1024, .f32⟩
  | .hbm, ⟨24, _⟩ => ⟨S32768x1024, .f32⟩
  | .hbm, ⟨25, _⟩ => ⟨S1x1024, .f32⟩
  | .hbm, ⟨26, _⟩ => ⟨S32768x1024, .f32⟩
  | .hbm, ⟨27, _⟩ => ⟨S32768x1024, .f32⟩
  | .hbm, ⟨28, _⟩ => ⟨S1x1024x4128, .f32⟩
  | .hbm, ⟨29, _⟩ => ⟨S1024x4128, .f32⟩
  | .hbm, ⟨30, _⟩ => ⟨S32768x4128, .f32⟩
  | .hbm, ⟨31, _⟩ => ⟨S32768x1024, .f32⟩
  | .hbm, ⟨32, _⟩ => ⟨S32768x32, .f32⟩
  | .hbm, ⟨33, _⟩ => ⟨S1x2x16, .f32⟩
  | .hbm, ⟨34, _⟩ => ⟨S2x16, .f32⟩
  | .hbm, ⟨35, _⟩ => ⟨S32, .f32⟩
  | .hbm, ⟨36, _⟩ => ⟨S1x32, .f32⟩
  | .hbm, ⟨37, _⟩ => ⟨S32768x32, .f32⟩
  | .hbm, ⟨38, _⟩ => ⟨S32768x32, .f32⟩
  | .hbm, ⟨39, _⟩ => ⟨S_, .i32⟩
  | .hbm, ⟨40, _⟩ => ⟨S_, .f32⟩
  | .hbm, ⟨41, _⟩ => ⟨S32768x128, .f32⟩
  | .hbm, ⟨42, _⟩ => ⟨S32768x1024, .bf16⟩
  | .hbm, ⟨43, _⟩ => ⟨S_, .f32⟩
  | .hbm, ⟨44, _⟩ => ⟨S32768x128, .f32⟩
  | .hbm, ⟨45, _⟩ => ⟨S32768x128, .f32⟩
  | .hbm, ⟨46, _⟩ => ⟨S32768x128, .f32⟩
  | .hbm, ⟨47, _⟩ => ⟨S32768x128, .f32⟩
  | .hbm, ⟨48, _⟩ => ⟨S32768x128, .i1⟩
  | .hbm, ⟨49, _⟩ => ⟨S32768x128, .f32⟩
  | .hbm, ⟨50, _⟩ => ⟨S32768x128, .f32⟩
  | .hbm, ⟨51, _⟩ => ⟨S32768x128, .f32⟩
  | .hbm, ⟨52, _⟩ => ⟨S32768x128, .f32⟩
  | .hbm, ⟨53, _⟩ => ⟨S32768x128, .f32⟩
  | .hbm, ⟨54, _⟩ => ⟨S32768x128, .f32⟩
  | .hbm, ⟨55, _⟩ => ⟨S32768x128, .f32⟩
  | .hbm, ⟨56, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c : Ref sig .tc := ⟨.hbm, 39, rfl⟩
abbrev main_call0_v0 : Ref sig .tc := ⟨.hbm, 40, rfl⟩
abbrev main_v26 : Ref sig .tc := ⟨.hbm, 41, rfl⟩
abbrev main_v27 : Ref sig .tc := ⟨.hbm, 42, rfl⟩
abbrev main_call1_cst : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_v28 : Ref sig .tc := ⟨.hbm, 56, rfl⟩

abbrev nD : Nat := 1
abbrev τ : Topo := Topo.v7x

variable {F : FTy → Type} [FloatOps F]
-- ==== EvenOut.lean ====
abbrev S32768x1024 : Shape := ⟨2, ![32768, 1024]⟩
abbrev S32768x256 : Shape := ⟨2, ![32768, 256]⟩
abbrev S32768x768 : Shape := ⟨2, ![32768, 768]⟩
abbrev S4x6x1024 : Shape := ⟨3, ![4, 6, 1024]⟩
abbrev S2x4x64x64 : Shape := ⟨4, ![2, 4, 64, 64]⟩
abbrev S2x256 : Shape := ⟨2, ![2, 256]⟩
abbrev S2x1024x1024 : Shape := ⟨3, ![2, 1024, 1024]⟩
abbrev S4 : Shape := ⟨1, ![4]⟩
abbrev S12 : Shape := ⟨1, ![12]⟩
abbrev S16 : Shape := ⟨1, ![16]⟩
abbrev S16x1 : Shape := ⟨2, ![16, 1]⟩
abbrev S_ : Shape := ⟨0, ![]⟩
abbrev S4x64 : Shape := ⟨2, ![4, 64]⟩
abbrev S256 : Shape := ⟨1, ![256]⟩
abbrev S1x256 : Shape := ⟨2, ![1, 256]⟩
abbrev S16x256 : Shape := ⟨2, ![16, 256]⟩
abbrev S12x1 : Shape := ⟨2, ![12, 1]⟩
abbrev S64 : Shape := ⟨1, ![64]⟩
abbrev S1x64 : Shape := ⟨2, ![1, 64]⟩
abbrev S12x64 : Shape := ⟨2, ![12, 64]⟩
abbrev S768 : Shape := ⟨1, ![768]⟩
abbrev S1x4x64x64 : Shape := ⟨4, ![1, 4, 64, 64]⟩
abbrev S4x64x64 : Shape := ⟨3, ![4, 64, 64]⟩
abbrev S1x64x64 : Shape := ⟨3, ![1, 64, 64]⟩
abbrev S64x64 : Shape := ⟨2, ![64, 64]⟩
abbrev S64x256 : Shape := ⟨2, ![64, 256]⟩
abbrev S256x256 : Shape := ⟨2, ![256, 256]⟩
abbrev S1024 : Shape := ⟨1, ![1024]⟩
abbrev S1x6x1024 : Shape := ⟨3, ![1, 6, 1024]⟩
abbrev S6x1024 : Shape := ⟨2, ![6, 1024]⟩
abbrev S6x1x1024 : Shape := ⟨3, ![6, 1, 1024]⟩
abbrev S1x1024x1024 : Shape := ⟨3, ![1, 1024, 1024]⟩
abbrev S1024x1024 : Shape := ⟨2, ![1024, 1024]⟩
abbrev S1024x1 : Shape := ⟨2, ![1024, 1]⟩
abbrev S1x1x1024 : Shape := ⟨3, ![1, 1, 1024]⟩
abbrev S1x1024 : Shape := ⟨2, ![1, 1024]⟩
abbrev S8x256 : Shape := ⟨2, ![8, 256]⟩
abbrev S1024x256 : Shape := ⟨2, ![1024, 256]⟩
abbrev S1024x768 : Shape := ⟨2, ![1024, 768]⟩
abbrev S1040x256 : Shape := ⟨2, ![1040, 256]⟩
abbrev S256x1024 : Shape := ⟨2, ![256, 1024]⟩
abbrev S768x1024 : Shape := ⟨2, ![768, 1024]⟩

abbrev nBuf : Space → Nat
  | .hbm => 85
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S32768x768, .bf16⟩
  | .hbm, ⟨3, _⟩ => ⟨S4x6x1024, .f32⟩
  | .hbm, ⟨4, _⟩ => ⟨S2x4x64x64, .f32⟩
  | .hbm, ⟨5, _⟩ => ⟨S2x256, .f32⟩
  | .hbm, ⟨6, _⟩ => ⟨S2x1024x1024, .f32⟩
  | .hbm, ⟨7, _⟩ => ⟨S4, .i32⟩
  | .hbm, ⟨8, _⟩ => ⟨S12, .i32⟩
  | .hbm, ⟨9, _⟩ => ⟨S16, .i32⟩
  | .hbm, ⟨10, _⟩ => ⟨S16x1, .i32⟩
  | .hbm, ⟨11, _⟩ => ⟨S_, .i32⟩
  | .hbm, ⟨12, _⟩ => ⟨S16x1, .i32⟩
  | .hbm, ⟨13, _⟩ => ⟨S16x1, .i32⟩
  | .hbm, ⟨14, _⟩ => ⟨S4x64, .i32⟩
  | .hbm, ⟨15, _⟩ => ⟨S256, .i32⟩
  | .hbm, ⟨16, _⟩ => ⟨S1x256, .i32⟩
  | .hbm, ⟨17, _⟩ => ⟨S1x256, .i32⟩
  | .hbm, ⟨18, _⟩ => ⟨S16x256, .i32⟩
  | .hbm, ⟨19, _⟩ => ⟨S16x256, .i32⟩
  | .hbm, ⟨20, _⟩ => ⟨S16x256, .i1⟩
  | .hbm, ⟨21, _⟩ => ⟨S_, .i32⟩
  | .hbm, ⟨22, _⟩ => ⟨S1x256, .i32⟩
  | .hbm, ⟨23, _⟩ => ⟨S1x256, .i32⟩
  | .hbm, ⟨24, _⟩ => ⟨S16x256, .i32⟩
  | .hbm, ⟨25, _⟩ => ⟨S16x256, .i32⟩
  | .hbm, ⟨26, _⟩ => ⟨S16x256, .i1⟩
  | .hbm, ⟨27, _⟩ => ⟨S16x256, .i1⟩
  | .hbm, ⟨28, _⟩ => ⟨S16x256, .f32⟩
  | .hbm, ⟨29, _⟩ => ⟨S12x1, .i32⟩
  | .hbm, ⟨30, _⟩ => ⟨S_, .i32⟩
  | .hbm, ⟨31, _⟩ => ⟨S12x1, .i32⟩
  | .hbm, ⟨32, _⟩ => ⟨S12x1, .i32⟩
  | .hbm, ⟨33, _⟩ => ⟨S64, .i32⟩
  | .hbm, ⟨34, _⟩ => ⟨S1x64, .i32⟩
  | .hbm, ⟨35, _⟩ => ⟨S12x64, .i32⟩
  | .hbm, ⟨36, _⟩ => ⟨S12x64, .i32⟩
  | .hbm, ⟨37, _⟩ => ⟨S12x64, .i32⟩
  | .hbm, ⟨38, _⟩ => ⟨S768, .i32⟩
  | .hbm, ⟨39, _⟩ => ⟨S1x4x64x64, .f32⟩
  | .hbm, ⟨40, _⟩ => ⟨S4x64x64, .f32⟩
  | .hbm, ⟨41, _⟩ => ⟨S1x64x64, .f32⟩
  | .hbm, ⟨42, _⟩ => ⟨S64x64, .f32⟩
  | .hbm, ⟨43, _⟩ => ⟨S1x64x64, .f32⟩
  | .hbm, ⟨44, _⟩ => ⟨S64x64, .f32⟩
  | .hbm, ⟨45, _⟩ => ⟨S1x64x64, .f32⟩
  | .hbm, ⟨46, _⟩ => ⟨S64x64, .f32⟩
  | .hbm, ⟨47, _⟩ => ⟨S1x64x64, .f32⟩
  | .hbm, ⟨48, _⟩ => ⟨S64x64, .f32⟩
  | .hbm, ⟨49, _⟩ => ⟨S_, .f32⟩
  | .hbm, ⟨50, _⟩ => ⟨S64x256, .f32⟩
  | .hbm, ⟨51, _⟩ => ⟨S_, .f32⟩
  | .hbm, ⟨52, _⟩ => ⟨S64x256, .f32⟩
  | .hbm, ⟨53, _⟩ => ⟨S_, .f32⟩
  | .hbm, ⟨54, _⟩ => ⟨S64x256, .f32⟩
  | .hbm, ⟨55, _⟩ => ⟨S_, .f32⟩
  | .hbm, ⟨56, _⟩ => ⟨S64x256, .f32⟩
  | .hbm, ⟨57, _⟩ => ⟨S256x256, .f32⟩
  | .hbm, ⟨58, _⟩ => ⟨S256x256, .bf16⟩
  | .hbm, ⟨59, _⟩ => ⟨S256, .i32⟩
  | .hbm, ⟨60, _⟩ => ⟨S_, .i32⟩
  | .hbm, ⟨61, _⟩ => ⟨S768, .i32⟩
  | .hbm, ⟨62, _⟩ => ⟨S768, .i32⟩
  | .hbm, ⟨63, _⟩ => ⟨S1024, .i32⟩
  | .hbm, ⟨64, _⟩ => ⟨S1x6x1024, .f32⟩
  | .hbm, ⟨65, _⟩ => ⟨S6x1024, .f32⟩
  | .hbm, ⟨66, _⟩ => ⟨S6x1x1024, .f32⟩
  | .hbm, ⟨67, _⟩ => ⟨S1x256, .f32⟩
  | .hbm, ⟨68, _⟩ => ⟨S256, .f32⟩
  | .hbm, ⟨69, _⟩ => ⟨S1x256, .f32⟩
  | .hbm, ⟨70, _⟩ => ⟨S1x1024x1024, .f32⟩
  | .hbm, ⟨71, _⟩ => ⟨S1024x1024, .f32⟩
  | .hbm, ⟨72, _⟩ => ⟨S_, .i32⟩
  | .hbm, ⟨73, _⟩ => ⟨S1024, .i32⟩
  | .hbm, ⟨74, _⟩ => ⟨S1024, .i1⟩
  | .hbm, ⟨75, _⟩ => ⟨S_, .i32⟩
  | .hbm, ⟨76, _⟩ => ⟨S1024, .i32⟩
  | .hbm, ⟨77, _⟩ => ⟨S1024, .i32⟩
  | .hbm, ⟨78, _⟩ => ⟨S1024, .i32⟩
  | .hbm, ⟨79, _⟩ => ⟨S1024x1, .i32⟩
  | .hbm, ⟨80, _⟩ => ⟨S1024x1024, .f32⟩
  | .hbm, ⟨81, _⟩ => ⟨S1024x1024, .bf16⟩
  | .hbm, ⟨82, _⟩ => ⟨S1x1x1024, .f32⟩
  | .hbm, ⟨83, _⟩ => ⟨S1x1024, .f32⟩
  | .hbm, ⟨84, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S8x256, .f32⟩
  | .local _ .vmem, ⟨3, _⟩ => ⟨S8x256, .f32⟩
  | .local _ .vmem, ⟨4, _⟩ => ⟨S1024x256, .f32⟩
  | .local _ .vmem, ⟨5, _⟩ => ⟨S1024x256, .f32⟩
  | .local _ .vmem, ⟨6, _⟩ => ⟨S8x256, .f32⟩
  | .local _ .vmem, ⟨7, _⟩ => ⟨S8x256, .f32⟩
  | .local _ .vmem, ⟨8, _⟩ => ⟨S1024x768, .bf16⟩
  | .local _ .vmem, ⟨9, _⟩ => ⟨S1024x768, .bf16⟩
  | .local _ .vmem, ⟨10, _⟩ => ⟨S16x256, .f32⟩
  | .local _ .vmem, ⟨11, _⟩ => ⟨S1x256, .i32⟩
  | .local _ .vmem, ⟨12, _⟩ => ⟨S256x256, .bf16⟩
  | .local _ .vmem, ⟨13, _⟩ => ⟨S1x256, .f32⟩
  | .local _ .vmem, ⟨14, _⟩ => ⟨S1024x1024, .bf16⟩
  | .local _ .vmem, ⟨15, _⟩ => ⟨S1x1024, .f32⟩
  | .local _ .vmem, ⟨16, _⟩ => ⟨S1024x1024, .f32⟩
  | .local _ .vmem, ⟨17, _⟩ => ⟨S1024x1024, .f32⟩
  | .local _ .vmem, ⟨18, _⟩ => ⟨S1040x256, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_v0 : Ref sig .tc := ⟨.hbm, 9, rfl⟩
abbrev main_v1 : Ref sig .tc := ⟨.hbm, 10, rfl⟩
abbrev main_c_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_call0_cst : Ref sig .tc := ⟨.hbm, 49, rfl⟩
abbrev main_call0_v4 : Ref sig .tc := ⟨.hbm, 50, rfl⟩
abbrev main_call0_cst_0 : Ref sig .tc := ⟨.hbm, 51, rfl⟩
abbrev main_call0_v5 : Ref sig .tc := ⟨.hbm, 52, rfl⟩
abbrev main_call0_cst_1 : Ref sig .tc := ⟨.hbm, 53, rfl⟩
abbrev main_call0_v6 : Ref sig .tc := ⟨.hbm, 54, rfl⟩
abbrev main_call0_cst_2 : Ref sig .tc := ⟨.hbm, 55, rfl⟩
abbrev main_call0_v7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_4 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_5 : Ref sig .tc := ⟨.hbm, 72, rfl⟩
abbrev main_v51 : Ref sig .tc := ⟨.hbm, 73, rfl⟩
abbrev main_v52 : Ref sig .tc := ⟨.hbm, 74, rfl⟩
abbrev main_c_6 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== EvenOutRefIdeal.lean ====
abbrev S32768x1024 : Shape := ⟨2, ![32768, 1024]⟩
abbrev S32768x256 : Shape := ⟨2, ![32768, 256]⟩
abbrev S32768x768 : Shape := ⟨2, ![32768, 768]⟩
abbrev S4x6x1024 : Shape := ⟨3, ![4, 6, 1024]⟩
abbrev S2x4x64x64 : Shape := ⟨4, ![2, 4, 64, 64]⟩
abbrev S2x256 : Shape := ⟨2, ![2, 256]⟩
abbrev S2x1024x1024 : Shape := ⟨3, ![2, 1024, 1024]⟩
abbrev S8x4096x256 : Shape := ⟨3, ![8, 4096, 256]⟩
abbrev S4096 : Shape := ⟨1, ![4096]⟩
abbrev S8x4096x64 : Shape := ⟨3, ![8, 4096, 64]⟩
abbrev S_ : Shape := ⟨0, ![]⟩
abbrev S8x4098x64 : Shape := ⟨3, ![8, 4098, 64]⟩
abbrev S1x4096x1 : Shape := ⟨3, ![1, 4096, 1]⟩
abbrev S8x4100x64 : Shape := ⟨3, ![8, 4100, 64]⟩
abbrev S8x4104x64 : Shape := ⟨3, ![8, 4104, 64]⟩
abbrev S8x4112x64 : Shape := ⟨3, ![8, 4112, 64]⟩
abbrev S8x4096x1x64 : Shape := ⟨4, ![8, 4096, 1, 64]⟩
abbrev S8x4096x4x64 : Shape := ⟨4, ![8, 4096, 4, 64]⟩
abbrev S1x4x64x64 : Shape := ⟨4, ![1, 4, 64, 64]⟩
abbrev S4x64x64 : Shape := ⟨3, ![4, 64, 64]⟩
abbrev S4x64x8x4096 : Shape := ⟨4, ![4, 64, 8, 4096]⟩
abbrev S1x256 : Shape := ⟨2, ![1, 256]⟩
abbrev S256 : Shape := ⟨1, ![256]⟩
abbrev S32768x3x4x64 : Shape := ⟨4, ![32768, 3, 4, 64]⟩
abbrev S32768x4x3x64 : Shape := ⟨4, ![32768, 4, 3, 64]⟩
abbrev S1x1024x1024 : Shape := ⟨3, ![1, 1024, 1024]⟩
abbrev S1024x1024 : Shape := ⟨2, ![1024, 1024]⟩
abbrev S1x1x1024 : Shape := ⟨3, ![1, 1, 1024]⟩
abbrev S1024 : Shape := ⟨1, ![1024]⟩
abbrev S32768 : Shape := ⟨1, ![32768]⟩
abbrev S32768x1 : Shape := ⟨2, ![32768, 1]⟩
abbrev S1x1024 : Shape := ⟨2, ![1, 1024]⟩

abbrev nBuf : Space → Nat
  | .hbm => 247
  | .vmem => 0
  | .smem => 0
  | _ => 0

abbrev hbmTy0_0 (i : Nat) : BufTy := match i % 128 with
  | 0 => ⟨S32768x1024, .f32⟩
  | 1 => ⟨S32768x256, .f32⟩
  | 2 => ⟨S32768x768, .bf16⟩
  | 3 => ⟨S4x6x1024, .f32⟩
  | 4 => ⟨S2x4x64x64, .f32⟩
  | 5 => ⟨S2x256, .f32⟩
  | 6 => ⟨S2x1024x1024, .f32⟩
  | 7 => ⟨S8x4096x256, .f32⟩
  | 8 => ⟨S4096, .i32⟩
  | 9 => ⟨S8x4096x64, .f32⟩
  | 10 => ⟨S_, .i32⟩
  | 11 => ⟨S_, .f32⟩
  | 12 => ⟨S8x4098x64, .f32⟩
  | 13 => ⟨S_, .i32⟩
  | 14 => ⟨S4096, .i32⟩
  | 15 => ⟨S4096, .i32⟩
  | 16 => ⟨S_, .i32⟩
  | 17 => ⟨S4096, .i32⟩
  | 18 => ⟨S4096, .i32⟩
  | 19 => ⟨S_, .i32⟩
  | 20 => ⟨S_, .i32⟩
  | 21 => ⟨S_, .i32⟩
  | 22 => ⟨S4096, .i32⟩
  | 23 => ⟨S4096, .i32⟩
  | 24 => ⟨S_, .i32⟩
  | 25 => ⟨S4096, .i32⟩
  | 26 => ⟨S4096, .i32⟩
  | 27 => ⟨S_, .i32⟩
  | 28 => ⟨S4096, .i32⟩
  | 29 => ⟨S4096, .i32⟩
  | 30 => ⟨S_, .i32⟩
  | 31 => ⟨S_, .i32⟩
  | 32 => ⟨S_, .i32⟩
  | 33 => ⟨S4096, .i32⟩
  | 34 => ⟨S4096, .i32⟩
  | 35 => ⟨S_, .i32⟩
  | 36 => ⟨S4096, .i32⟩
  | 37 => ⟨S4096, .i32⟩
  | 38 => ⟨S4096, .i32⟩
  | 39 => ⟨S8x4096x64, .f32⟩
  | 40 => ⟨S8x4096x64, .f32⟩
  | 41 => ⟨S8x4096x64, .f32⟩
  | 42 => ⟨S4096, .f32⟩
  | 43 => ⟨S1x4096x1, .f32⟩
  | 44 => ⟨S8x4096x64, .f32⟩
  | 45 => ⟨S8x4096x64, .f32⟩
  | 46 => ⟨S8x4096x64, .f32⟩
  | 47 => ⟨S8x4096x64, .f32⟩
  | 48 => ⟨S_, .i32⟩
  | 49 => ⟨S_, .f32⟩
  | 50 => ⟨S8x4100x64, .f32⟩
  | 51 => ⟨S_, .i32⟩
  | 52 => ⟨S4096, .i32⟩
  | 53 => ⟨S4096, .i32⟩
  | 54 => ⟨S_, .i32⟩
  | 55 => ⟨S4096, .i32⟩
  | 56 => ⟨S4096, .i32⟩
  | 57 => ⟨S_, .i32⟩
  | 58 => ⟨S_, .i32⟩
  | 59 => ⟨S_, .i32⟩
  | 60 => ⟨S4096, .i32⟩
  | 61 => ⟨S4096, .i32⟩
  | 62 => ⟨S_, .i32⟩
  | 63 => ⟨S4096, .i32⟩
  | 64 => ⟨S4096, .i32⟩
  | 65 => ⟨S_, .i32⟩
  | 66 => ⟨S4096, .i32⟩
  | 67 => ⟨S4096, .i32⟩
  | 68 => ⟨S_, .i32⟩
  | 69 => ⟨S_, .i32⟩
  | 70 => ⟨S_, .i32⟩
  | 71 => ⟨S4096, .i32⟩
  | 72 => ⟨S4096, .i32⟩
  | 73 => ⟨S_, .i32⟩
  | 74 => ⟨S4096, .i32⟩
  | 75 => ⟨S4096, .i32⟩
  | 76 => ⟨S4096, .i32⟩
  | 77 => ⟨S8x4096x64, .f32⟩
  | 78 => ⟨S8x4096x64, .f32⟩
  | 79 => ⟨S8x4096x64, .f32⟩
  | 80 => ⟨S8x4096x64, .f32⟩
  | 81 => ⟨S8x4096x64, .f32⟩
  | 82 => ⟨S8x4096x64, .f32⟩
  | 83 => ⟨S8x4096x64, .f32⟩
  | 84 => ⟨S4096, .f32⟩
  | 85 => ⟨S1x4096x1, .f32⟩
  | 86 => ⟨S8x4096x64, .f32⟩
  | 87 => ⟨S8x4096x64, .f32⟩
  | 88 => ⟨S8x4096x64, .f32⟩
  | 89 => ⟨S8x4096x64, .f32⟩
  | 90 => ⟨S_, .i32⟩
  | 91 => ⟨S_, .f32⟩
  | 92 => ⟨S8x4104x64, .f32⟩
  | 93 => ⟨S_, .i32⟩
  | 94 => ⟨S4096, .i32⟩
  | 95 => ⟨S4096, .i32⟩
  | 96 => ⟨S_, .i32⟩
  | 97 => ⟨S4096, .i32⟩
  | 98 => ⟨S4096, .i32⟩
  | 99 => ⟨S_, .i32⟩
  | 100 => ⟨S_, .i32⟩
  | 101 => ⟨S_, .i32⟩
  | 102 => ⟨S4096, .i32⟩
  | 103 => ⟨S4096, .i32⟩
  | 104 => ⟨S_, .i32⟩
  | 105 => ⟨S4096, .i32⟩
  | 106 => ⟨S4096, .i32⟩
  | 107 => ⟨S_, .i32⟩
  | 108 => ⟨S4096, .i32⟩
  | 109 => ⟨S4096, .i32⟩
  | 110 => ⟨S_, .i32⟩
  | 111 => ⟨S_, .i32⟩
  | 112 => ⟨S_, .i32⟩
  | 113 => ⟨S4096, .i32⟩
  | 114 => ⟨S4096, .i32⟩
  | 115 => ⟨S_, .i32⟩
  | 116 => ⟨S4096, .i32⟩
  | 117 => ⟨S4096, .i32⟩
  | 118 => ⟨S4096, .i32⟩
  | 119 => ⟨S8x4096x64, .f32⟩
  | 120 => ⟨S8x4096x64, .f32⟩
  | 121 => ⟨S8x4096x64, .f32⟩
  | 122 => ⟨S8x4096x64, .f32⟩
  | 123 => ⟨S8x4096x64, .f32⟩
  | 124 => ⟨S8x4096x64, .f32⟩
  | 125 => ⟨S8x4096x64, .f32⟩
  | 126 => ⟨S8x4096x64, .f32⟩
  | 127 => ⟨S8x4096x64, .f32⟩
  | _ => ⟨S32768x1024, .f32⟩

abbrev hbmTy0_1 (i : Nat) : BufTy := match i % 128 with
  | 0 => ⟨S8x4096x64, .f32⟩
  | 1 => ⟨S8x4096x64, .f32⟩
  | 2 => ⟨S8x4096x64, .f32⟩
  | 3 => ⟨S8x4096x64, .f32⟩
  | 4 => ⟨S8x4096x64, .f32⟩
  | 5 => ⟨S8x4096x64, .f32⟩
  | 6 => ⟨S4096, .f32⟩
  | 7 => ⟨S1x4096x1, .f32⟩
  | 8 => ⟨S8x4096x64, .f32⟩
  | 9 => ⟨S8x4096x64, .f32⟩
  | 10 => ⟨S8x4096x64, .f32⟩
  | 11 => ⟨S8x4096x64, .f32⟩
  | 12 => ⟨S_, .i32⟩
  | 13 => ⟨S_, .f32⟩
  | 14 => ⟨S8x4112x64, .f32⟩
  | 15 => ⟨S_, .i32⟩
  | 16 => ⟨S4096, .i32⟩
  | 17 => ⟨S4096, .i32⟩
  | 18 => ⟨S_, .i32⟩
  | 19 => ⟨S4096, .i32⟩
  | 20 => ⟨S4096, .i32⟩
  | 21 => ⟨S_, .i32⟩
  | 22 => ⟨S_, .i32⟩
  | 23 => ⟨S_, .i32⟩
  | 24 => ⟨S4096, .i32⟩
  | 25 => ⟨S4096, .i32⟩
  | 26 => ⟨S_, .i32⟩
  | 27 => ⟨S4096, .i32⟩
  | 28 => ⟨S4096, .i32⟩
  | 29 => ⟨S_, .i32⟩
  | 30 => ⟨S4096, .i32⟩
  | 31 => ⟨S4096, .i32⟩
  | 32 => ⟨S_, .i32⟩
  | 33 => ⟨S_, .i32⟩
  | 34 => ⟨S_, .i32⟩
  | 35 => ⟨S4096, .i32⟩
  | 36 => ⟨S4096, .i32⟩
  | 37 => ⟨S_, .i32⟩
  | 38 => ⟨S4096, .i32⟩
  | 39 => ⟨S4096, .i32⟩
  | 40 => ⟨S4096, .i32⟩
  | 41 => ⟨S8x4096x64, .f32⟩
  | 42 => ⟨S8x4096x64, .f32⟩
  | 43 => ⟨S8x4096x64, .f32⟩
  | 44 => ⟨S8x4096x64, .f32⟩
  | 45 => ⟨S8x4096x64, .f32⟩
  | 46 => ⟨S8x4096x64, .f32⟩
  | 47 => ⟨S8x4096x64, .f32⟩
  | 48 => ⟨S8x4096x64, .f32⟩
  | 49 => ⟨S8x4096x64, .f32⟩
  | 50 => ⟨S8x4096x64, .f32⟩
  | 51 => ⟨S8x4096x64, .f32⟩
  | 52 => ⟨S8x4096x64, .f32⟩
  | 53 => ⟨S8x4096x64, .f32⟩
  | 54 => ⟨S8x4096x64, .f32⟩
  | 55 => ⟨S8x4096x64, .f32⟩
  | 56 => ⟨S8x4096x64, .f32⟩
  | 57 => ⟨S8x4096x64, .f32⟩
  | 58 => ⟨S8x4096x64, .f32⟩
  | 59 => ⟨S8x4096x64, .f32⟩
  | 60 => ⟨S8x4096x64, .f32⟩
  | 61 => ⟨S8x4096x64, .f32⟩
  | 62 => ⟨S8x4096x64, .f32⟩
  | 63 => ⟨S8x4096x64, .f32⟩
  | 64 => ⟨S8x4096x64, .f32⟩
  | 65 => ⟨S8x4096x64, .f32⟩
  | 66 => ⟨S8x4096x64, .f32⟩
  | 67 => ⟨S8x4096x64, .f32⟩
  | 68 => ⟨S8x4096x64, .f32⟩
  | 69 => ⟨S8x4096x64, .f32⟩
  | 70 => ⟨S8x4096x64, .f32⟩
  | 71 => ⟨S8x4096x64, .f32⟩
  | 72 => ⟨S4096, .f32⟩
  | 73 => ⟨S1x4096x1, .f32⟩
  | 74 => ⟨S8x4096x64, .f32⟩
  | 75 => ⟨S8x4096x64, .f32⟩
  | 76 => ⟨S8x4096x64, .f32⟩
  | 77 => ⟨S8x4096x1x64, .f32⟩
  | 78 => ⟨S8x4096x1x64, .f32⟩
  | 79 => ⟨S8x4096x1x64, .f32⟩
  | 80 => ⟨S8x4096x1x64, .f32⟩
  | 81 => ⟨S8x4096x4x64, .f32⟩
  | 82 => ⟨S1x4x64x64, .f32⟩
  | 83 => ⟨S4x64x64, .f32⟩
  | 84 => ⟨S4x64x8x4096, .f32⟩
  | 85 => ⟨S8x4096x4x64, .f32⟩
  | 86 => ⟨S32768x256, .f32⟩
  | 87 => ⟨S1x256, .f32⟩
  | 88 => ⟨S256, .f32⟩
  | 89 => ⟨S1x256, .f32⟩
  | 90 => ⟨S32768x256, .f32⟩
  | 91 => ⟨S32768x256, .f32⟩
  | 92 => ⟨S32768x768, .f32⟩
  | 93 => ⟨S32768x3x4x64, .f32⟩
  | 94 => ⟨S32768x4x3x64, .f32⟩
  | 95 => ⟨S32768x768, .f32⟩
  | 96 => ⟨S32768x1024, .f32⟩
  | 97 => ⟨S1x1024x1024, .f32⟩
  | 98 => ⟨S1024x1024, .f32⟩
  | 99 => ⟨S32768x1024, .f32⟩
  | 100 => ⟨S1x1x1024, .f32⟩
  | 101 => ⟨S1024, .f32⟩
  | 102 => ⟨S32768x1024, .f32⟩
  | 103 => ⟨S_, .f32⟩
  | 104 => ⟨S32768, .f32⟩
  | 105 => ⟨S32768x1, .f32⟩
  | 106 => ⟨S_, .f32⟩
  | 107 => ⟨S32768x1, .f32⟩
  | 108 => ⟨S32768x1, .f32⟩
  | 109 => ⟨S_, .f32⟩
  | 110 => ⟨S32768x1, .f32⟩
  | 111 => ⟨S32768x1, .f32⟩
  | 112 => ⟨S32768x1, .f32⟩
  | 113 => ⟨S32768x1024, .f32⟩
  | 114 => ⟨S32768x1024, .f32⟩
  | 115 => ⟨S1x1024, .f32⟩
  | 116 => ⟨S32768x1024, .f32⟩
  | 117 => ⟨S32768x1024, .f32⟩
  | 118 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_c_3 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v8 : Ref sig .tc := ⟨.hbm, 26, rfl⟩
abbrev main_c_4 : Ref sig .tc := ⟨.hbm, 27, rfl⟩
abbrev main_v9 : Ref sig .tc := ⟨.hbm, 28, rfl⟩
abbrev main_v10 : Ref sig .tc := ⟨.hbm, 29, rfl⟩
abbrev main_c_5 : Ref sig .tc := ⟨.hbm, 30, rfl⟩
abbrev main_c_6 : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_c_7 : Ref sig .tc := ⟨.hbm, 48, rfl⟩
abbrev main_call3_v0 : Ref sig .tc := ⟨.hbm, 49, rfl⟩
abbrev main_v22 : Ref sig .tc := ⟨.hbm, 50, rfl⟩
abbrev main_c_8 : Ref sig .tc := ⟨.hbm, 51, rfl⟩
abbrev main_v23 : Ref sig .tc := ⟨.hbm, 52, rfl⟩
abbrev main_v24 : Ref sig .tc := ⟨.hbm, 53, rfl⟩
abbrev main_c_9 : Ref sig .tc := ⟨.hbm, 54, rfl⟩
abbrev main_v25 : Ref sig .tc := ⟨.hbm, 55, rfl⟩
abbrev main_v26 : Ref sig .tc := ⟨.hbm, 56, rfl⟩
abbrev main_c_10 : Ref sig .tc := ⟨.hbm, 57, rfl⟩
abbrev main_c_11 : Ref sig .tc := ⟨.hbm, 58, rfl⟩
abbrev main_call4_v0 : Ref sig .tc := ⟨.hbm, 59, rfl⟩
abbrev main_call4_v1 : Ref sig .tc := ⟨.hbm, 60, rfl⟩
abbrev main_call4_v2 : Ref sig .tc := ⟨.hbm, 61, rfl⟩
abbrev main_call4_v3 : Ref sig .tc := ⟨.hbm, 62, rfl⟩
abbrev main_call4_v4 : Ref sig .tc := ⟨.hbm, 63, rfl⟩
abbrev main_v27 : Ref sig .tc := ⟨.hbm, 64, rfl⟩
abbrev main_c_12 : Ref sig .tc := ⟨.hbm, 65, rfl⟩
abbrev main_v28 : Ref sig .tc := ⟨.hbm, 66, rfl⟩
abbrev main_v29 : Ref sig .tc := ⟨.hbm, 67, rfl⟩
abbrev main_c_13 : Ref sig .tc := ⟨.hbm, 68, rfl⟩
abbrev main_c_14 : Ref sig .tc := ⟨.hbm, 69, rfl⟩
abbrev main_call5_v0 : Ref sig .tc := ⟨.hbm, 70, rfl⟩
abbrev main_call5_v1 : Ref sig .tc := ⟨.hbm, 71, rfl⟩
abbrev main_call5_v2 : Ref sig .tc := ⟨.hbm, 72, rfl⟩
abbrev main_call5_v3 : Ref sig .tc := ⟨.hbm, 73, rfl⟩
abbrev main_call5_v4 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_c_15 : Ref sig .tc := ⟨.hbm, 90, rfl⟩
abbrev main_call6_v0 : Ref sig .tc := ⟨.hbm, 91, rfl⟩
abbrev main_v45 : Ref sig .tc := ⟨.hbm, 92, rfl⟩
abbrev main_c_16 : Ref sig .tc := ⟨.hbm, 93, rfl⟩
abbrev main_v46 : Ref sig .tc := ⟨.hbm, 94, rfl⟩
abbrev main_v47 : Ref sig .tc := ⟨.hbm, 95, rfl⟩
abbrev main_c_17 : Ref sig .tc := ⟨.hbm, 96, rfl⟩
abbrev main_v48 : Ref sig .tc := ⟨.hbm, 97, rfl⟩
abbrev main_v49 : Ref sig .tc := ⟨.hbm, 98, rfl⟩
abbrev main_c_18 : Ref sig .tc := ⟨.hbm, 99, rfl⟩
abbrev main_c_19 : Ref sig .tc := ⟨.hbm, 100, rfl⟩
abbrev main_call7_v0 : Ref sig .tc := ⟨.hbm, 101, rfl⟩
abbrev main_call7_v1 : Ref sig .tc := ⟨.hbm, 102, rfl⟩
abbrev main_call7_v2 : Ref sig .tc := ⟨.hbm, 103, rfl⟩
abbrev main_call7_v3 : Ref sig .tc := ⟨.hbm, 104, rfl⟩
abbrev main_call7_v4 : Ref sig .tc := ⟨.hbm, 105, rfl⟩
abbrev main_v50 : Ref sig .tc := ⟨.hbm, 106, rfl⟩
abbrev main_c_20 : Ref sig .tc := ⟨.hbm, 107, rfl⟩
abbrev main_v51 : Ref sig .tc := ⟨.hbm, 108, rfl⟩
abbrev main_v52 : Ref sig .tc := ⟨.hbm, 109, rfl⟩
abbrev main_c_21 : Ref sig .tc := ⟨.hbm, 110, rfl⟩
abbrev main_c_22 : Ref sig .tc := ⟨.hbm, 111, rfl⟩
abbrev main_call8_v0 : Ref sig .tc := ⟨.hbm, 112, rfl⟩
abbrev main_call8_v1 : Ref sig .tc := ⟨.hbm, 113, rfl⟩
abbrev main_call8_v2 : Ref sig .tc := ⟨.hbm, 114, rfl⟩
abbrev main_call8_v3 : Ref sig .tc := ⟨.hbm, 115, rfl⟩
abbrev main_call8_v4 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_c_23 : Ref sig .tc := ⟨.hbm, 140, rfl⟩
abbrev main_call9_v0 : Ref sig .tc := ⟨.hbm, 141, rfl⟩
abbrev main_v76 : Ref sig .tc := ⟨.hbm, 142, rfl⟩
abbrev main_c_24 : Ref sig .tc := ⟨.hbm, 143, rfl⟩
abbrev main_v77 : Ref sig .tc := ⟨.hbm, 144, rfl⟩
abbrev main_v78 : Ref sig .tc := ⟨.hbm, 145, rfl⟩
abbrev main_c_25 : Ref sig .tc := ⟨.hbm, 146, rfl⟩
abbrev main_v79 : Ref sig .tc := ⟨.hbm, 147, rfl⟩
abbrev main_v80 : Ref sig .tc := ⟨.hbm, 148, rfl⟩
abbrev main_c_26 : Ref sig .tc := ⟨.hbm, 149, rfl⟩
abbrev main_c_27 : Ref sig .tc := ⟨.hbm, 150, rfl⟩
abbrev main_call10_v0 : Ref sig .tc := ⟨.hbm, 151, rfl⟩
abbrev main_call10_v1 : Ref sig .tc := ⟨.hbm, 152, rfl⟩
abbrev main_call10_v2 : Ref sig .tc := ⟨.hbm, 153, rfl⟩
abbrev main_call10_v3 : Ref sig .tc := ⟨.hbm, 154, rfl⟩
abbrev main_call10_v4 : Ref sig .tc := ⟨.hbm, 155, rfl⟩
abbrev main_v81 : Ref sig .tc := ⟨.hbm, 156, rfl⟩
abbrev main_c_28 : Ref sig .tc := ⟨.hbm, 157, rfl⟩
abbrev main_v82 : Ref sig .tc := ⟨.hbm, 158, rfl⟩
abbrev main_v83 : Ref sig .tc := ⟨.hbm, 159, rfl⟩
abbrev main_c_29 : Ref sig .tc := ⟨.hbm, 160, rfl⟩
abbrev main_c_30 : Ref sig .tc := ⟨.hbm, 161, rfl⟩
abbrev main_call11_v0 : Ref sig .tc := ⟨.hbm, 162, rfl⟩
abbrev main_call11_v1 : Ref sig .tc := ⟨.hbm, 163, rfl⟩
abbrev main_call11_v2 : Ref sig .tc := ⟨.hbm, 164, rfl⟩
abbrev main_call11_v3 : Ref sig .tc := ⟨.hbm, 165, rfl⟩
abbrev main_call11_v4 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_v115 : Ref sig .tc := ⟨.hbm, 198, rfl⟩
abbrev main_v116 : Ref sig .tc := ⟨.hbm, 199, rfl⟩
abbrev main_v117 : Ref sig .tc := ⟨.hbm, 200, rfl⟩
abbrev main_v118 : Ref sig .tc := ⟨.hbm, 201, rfl⟩
abbrev main_v119 : Ref sig .tc := ⟨.hbm, 202, rfl⟩
abbrev main_v120 : Ref sig .tc := ⟨.hbm, 203, rfl⟩
abbrev main_v121 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩
abbrev main_v128 : Ref sig .tc := ⟨.hbm, 211, rfl⟩
abbrev main_v129 : Ref sig .tc := ⟨.hbm, 212, rfl⟩
abbrev main_v130 : Ref sig .tc := ⟨.hbm, 213, rfl⟩
abbrev main_v131 : Ref sig .tc := ⟨.hbm, 214, rfl⟩
abbrev main_v132 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_v136 : Ref sig .tc := ⟨.hbm, 219, rfl⟩
abbrev main_v137 : Ref sig .tc := ⟨.hbm, 220, rfl⟩
abbrev main_v138 : Ref sig .tc := ⟨.hbm, 221, rfl⟩
abbrev main_v139 : Ref sig .tc := ⟨.hbm, 222, rfl⟩
abbrev main_v140 : Ref sig .tc := ⟨.hbm, 223, rfl⟩
abbrev main_v141 : Ref sig .tc := ⟨.hbm, 224, rfl⟩
abbrev main_v142 : Ref sig .tc := ⟨.hbm, 225, rfl⟩
abbrev main_v143 : Ref sig .tc := ⟨.hbm, 226, rfl⟩
abbrev main_v144 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_cst : Ref sig .tc := ⟨.hbm, 231, rfl⟩
abbrev main_v148 : Ref sig .tc := ⟨.hbm, 232, rfl⟩
abbrev main_v149 : Ref sig .tc := ⟨.hbm, 233, rfl⟩
abbrev main_cst_31 : Ref sig .tc := ⟨.hbm, 234, rfl⟩
abbrev main_v150 : Ref sig .tc := ⟨.hbm, 235, rfl⟩
abbrev main_v151 : Ref sig .tc := ⟨.hbm, 236, rfl⟩
abbrev main_cst_32 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_v155 : Ref sig .tc := ⟨.hbm, 241, rfl⟩
abbrev main_v156 : Ref sig .tc := ⟨.hbm, 242, rfl⟩
abbrev main_v157 : Ref sig .tc := ⟨.hbm, 243, rfl⟩
abbrev main_v158 : Ref sig .tc := ⟨.hbm, 244, rfl⟩
abbrev main_v159 : Ref sig .tc := ⟨.hbm, 245, rfl⟩
abbrev main_v160 : Ref sig .tc := ⟨.hbm, 246, rfl⟩

abbrev nD : Nat := 1
abbrev τ : Topo := Topo.v7x

variable {F : FTy → Type} [FloatOps F]
-- ==== Proof.AttnPre.lean ====
module

public import proofs.«01_k».proof.Pre_finite
public import Idealize.ShloMosaic.Lib.Pointwise

/-!
# The precondition of the attention claim: queries, keys and sinks are real numbers
-/

@[expose] public section

set_option maxRecDepth 16384

noncomputable section

namespace Cert.Attn

open Idealize.ShloMosaic

/-- The shape relations the precondition's operations take. -/
theorem pre_facts : Cert.Pre_finite.Facts where
  bitsLt_bf16_f32 := by decide
  bcast_S_S32768x768 := by decide
  reducesTo_S32768x768_S_d0_1 := by decide
  h_S_ := by decide
  bcast_S_S32768x256 := by decide
  reducesTo_S32768x256_S_d0_1 := by decide
  bcast_S_S12 := by decide
  reducesTo_S12_S_d0 := by decide

/-- A conjunction of one-bit words over all elements of an array is one only if each of them is. -/
theorem all_of_reduce {s u : Shape} {axes : List (Fin s.rank)} (x : s.Idx → BitVec 1) (v : u.Idx → BitVec 1)
    (h : s.ReducesTo axes (⟨0, ![]⟩ : Shape)) (hu : 0 < u.numel) (j : (⟨0, ![]⟩ : Shape).Idx)
    (e : Host.reduce IntOp.andi x v h hu j = 1#1) (i : s.Idx) : x i = 1#1 := by
  rw [Host.reduce_eq_fold] at e
  have key : ∀ y z : BitVec 1, IntOp.andi y z = 1#1 ↔ y = 1#1 ∧ z = 1#1 := by decide
  have := (Finset.fold_op_rel_iff_and (op := (IntOp.andi : BitVec 1 → BitVec 1 → BitVec 1)) (r := fun _ y : BitVec 1 => y = 1#1)
    (fun {_ y z} => key y z) (c := 1#1)).1 e
  exact this.2 i (Finset.mem_filter.2 ⟨Finset.mem_univ _, funext fun a => a.elim0⟩)

/-- A magnitude below infinity is that of a real number. -/
theorem real_of_abs {s : Shape} (x : s.Idx → EReal) (i : s.Idx) (h : FloatOps.cmpf (F := Ideal) (φ := .f32) .olt (FloatOps.hostAbsf (F := Ideal) (φ := .f32) (x i)) (Ideal.ofBits .f32 0x7F800000#32) = 1#1) :
    ∃ r : ℝ, x i = r := by
  have h' : max (x i) (-(x i)) < ⊤ := by
    by_contra hn
    rw [show Ideal.ofBits .f32 0x7F800000#32 = (⊤ : EReal) by simp [Ideal.ofBits, Ideal.ieee]] at h
    have h2 : Ideal.cmp .olt (max (x i) (-(x i))) ⊤ = 1#1 := h
    simp [Ideal.cmp, hn] at h2
  have h1 : x i ≠ ⊤ := fun e => by simp [e] at h'
  have h2 : x i ≠ ⊥ := fun e => by simp [e] at h'
  exact ⟨(x i).toReal, (EReal.coe_toReal h1 h2).symm⟩

/-- What the precondition says: every query, every key and every sink is a real number. -/
theorem real_of_pre (x0 : FVec Ideal Cert.Pre_finite.S32768x768 .bf16) (x1 x2 : FVec Ideal Cert.Pre_finite.S32768x256 .bf16)
    (x3 : FVec Ideal Cert.Pre_finite.S12 .f32)
    [Cert.Pre_finite.Facts] (h : Cert.Pre_finite.fn (F := Ideal) x0 x1 x2 x3 = fun _ => 1#1) :
    (∀ i, ∃ r : ℝ, (x0 i : EReal) = r) ∧ (∀ i, ∃ r : ℝ, (x1 i : EReal) = r) ∧ ∀ i, ∃ r : ℝ, (x3 i : EReal) = r := by
  have hj := congrFun h ix0
  have key : ∀ y z : BitVec 1, IntOp.andi y z = 1#1 ↔ y = 1#1 ∧ z = 1#1 := by decide
  obtain ⟨h01, h3⟩ := (key _ _).1 hj
  obtain ⟨h0, h1⟩ := (key _ _).1 h01
  refine ⟨fun i => ?_, fun i => ?_, fun i => ?_⟩
  · exact real_of_abs x0 i (all_of_reduce _ _ _ _ _ h0 i)
  · exact real_of_abs x1 i (all_of_reduce _ _ _ _ _ h1 i)
  · exact real_of_abs x3 i (all_of_reduce _ _ _ _ _ h3 i)

end Cert.Attn
-- ==== Proof.AttnBlock.lean ====
module

public import proofs.«01_k».proof.Proof.Gen.KernelIdeal.Value
public import Idealize.ShloMosaic.Lib.Pipeline.ValueKit

/-!
# One block of 128 queries of the attention kernel

The body handles a tile of 2048 query rows as 16 blocks of 128 rows, and writes the 16 blocks out one after the
other. Here one block is written once, as functions of the block's number, and the 48 stores of the body are shown
to be that function at the 16 numbers and the 3 query groups.
-/

@[expose] public section

set_option maxRecDepth 16384

noncomputable section

namespace Cert.KernelIdeal.Attn

open Cert.KernelIdeal Cert.KernelIdeal.Gen
open Idealize.ShloMosaic Idealize.ShloMosaic.TcCoe

variable {F : FTy → Type} [FloatOps F] [Named F]

/-- The first block of the tile, counted within its sequence of 32 blocks, as the body computes it from the grid
coordinate `p`: `16 p` reduced modulo 32 to a nonnegative remainder. -/
def firstBlk (p : BitVec 32) : BitVec 32 :=
  let r : BitVec 32 := Scalar.remsi (Scalar.muli p 16#32) 32#32
  Scalar.select (Scalar.andi (Scalar.xori (Scalar.cmpi .slt r 0#32) 0#1) (Scalar.cmpi .ne r 0#32))
    (Scalar.addi r 32#32) r

/-- The key/value head a lane belongs to: the lane number divided by 64, rounded down. -/
def laneHead : IVec S384x256 32 :=
  let l : IVec S384x256 32 := iota .tc S384x256 32 [1] iota_S384x256_d1_w32
  let q : IVec S384x256 32 := divsi l (broadcast S384x256 64#32)
  let sg : IVec S384x256 32 := subi (extui 32 (cmpi .sgt l (broadcast S384x256 0#32)) natLt_1_32)
    (extui 32 (cmpi .slt l (broadcast S384x256 0#32)) natLt_1_32)
  let s64 : BitVec 32 := Scalar.subi (Scalar.extui (Scalar.cmpi .sgt 64#32 0#32)) (Scalar.extui (Scalar.cmpi .slt 64#32 0#32))
  select (andi (cmpi .ne sg (broadcast S384x256 s64))
      (cmpi .ne (remsi l (broadcast S384x256 64#32)) (broadcast S384x256 0#32)))
    (subi q (broadcast S384x256 1#32)) q

/-- The mask of one query group, keys by queries, for block `blk` of its sequence: zero where the key lies within
the window and within the sequence, minus infinity elsewhere. -/
def maskOne (blk : BitVec 32) : FVec F S384x128 .f32 :=
  let k : IVec S384x128 32 := iota .tc S384x128 32 [0] iota_S384x128_d0_w32
  let d : IVec S384x128 32 := subi k (iota .tc S384x128 32 [1] iota_S384x128_d1_w32)
  let band : IVec S384x128 1 := andi (cmpi .sge d (broadcast S384x128 0#32)) (cmpi .sle d (broadcast S384x128 256#32))
  select
    (andi (andi band (ori (cmpi .sge k (broadcast S384x128 128#32)) (broadcast S384x128 (Scalar.cmpi .sgt blk 0#32))))
      (ori (cmpi .slt k (broadcast S384x128 256#32)) (broadcast S384x128 (Scalar.cmpi .slt blk 31#32))))
    (broadcast S384x128 (Scalar.ofBits .f32 0x00000000#32)) (broadcast S384x128 (Scalar.ofBits .f32 0xFF800000#32))

/-- The mask of the three query groups side by side. -/
def mask (blk : BitVec 32) : FVec F S384x384 .f32 :=
  concatenate S384x384 1 [⟨S384x128, maskOne blk⟩, ⟨S384x128, maskOne blk⟩, ⟨S384x128, maskOne blk⟩]
    concatenates_S384x128_S384x128_S384x128_S384x384_d1

/-- The block's queries, the three groups under one another, with every lane outside head `h` cleared. -/
def headQ (h : BitVec 32) (q : FVec F S384x256 .bf16) : FVec F S384x256 .bf16 :=
  select (cmpi .eq laneHead (broadcast S384x256 h)) q (broadcast S384x256 (Scalar.ofBits .bf16 0x0000#16))

/-- The scores of the 384 keys from row `128 j` of the band against the queries of the four heads. -/
def scores (j : Fin 16) (hs : S2304x256.Slices ![128 * j.val, 0] S384x256) (keys : FVec F S2304x256 .bf16)
    (q : FVec F S384x256 .bf16) : FVec F S384x1536 .f32 :=
  matmul dot_S384x256_S1536x256_S384x1536_1_1_0_0_n_n none (extractStridedSlice S384x256 ![128 * j.val, 0] keys hs)
    (concatenate S1536x256 0 [⟨S384x256, headQ 0#32 q⟩, ⟨S384x256, headQ 1#32 q⟩, ⟨S384x256, headQ 2#32 q⟩,
      ⟨S384x256, headQ 3#32 q⟩] concatenates_S384x256_S384x256_S384x256_S384x256_S1536x256_d0)
    (constant S384x1536 .f32 0x00000000#32)

/-- One head's scores with the mask added to the first and to the last 128 keys. -/
def masked (msk : FVec F S384x384 .f32) (s : FVec F S384x384 .f32) : FVec F S384x384 .f32 :=
  concatenate S384x384 0
    [⟨S128x384, addf (extractStridedSlice S128x384 ![0, 0] s slices_S384x384_o0_0_S128x384)
        (extractStridedSlice S128x384 ![0, 0] msk slices_S384x384_o0_0_S128x384)⟩,
      ⟨S128x384, extractStridedSlice S128x384 ![128, 0] s slices_S384x384_o128_0_S128x384⟩,
      ⟨S128x384, addf (extractStridedSlice S128x384 ![256, 0] s slices_S384x384_o256_0_S128x384)
        (extractStridedSlice S128x384 ![256, 0] msk slices_S384x384_o256_0_S128x384)⟩]
    concatenates_S128x384_S128x384_S128x384_S384x384_d0

/-- The sink logits of one head's three query groups, in base two, one row. -/
def sinkRow (s0 s1 s2 : F .f32) : FVec F S1x384 .f32 :=
  concatenate S1x384 1
    [⟨S1x128, broadcast S1x128 (Scalar.mulf s0 (Named.named κ "log2e" 0x3FB8AA3B#32))⟩,
      ⟨S1x128, broadcast S1x128 (Scalar.mulf s1 (Named.named κ "log2e" 0x3FB8AA3B#32))⟩,
      ⟨S1x128, broadcast S1x128 (Scalar.mulf s2 (Named.named κ "log2e" 0x3FB8AA3B#32))⟩]
    concatenates_S1x128_S1x128_S1x128_S1x384_d1

/-- The column maxima of the masked scores, the sink among them. -/
def colMax (s : FVec F S384x384 .f32) (sk : FVec F S1x384 .f32) : FVec F S1x384 .f32 :=
  maximumf (shapeCast S1x384 (multiReduction .maximumf [0] S384 s 0xFF800000#32 reduces_S384x384_S384 (.inl rfl) rfl)
    shapeCasts_S384_S1x384) sk

/-- Two to the power of the masked scores less their column's maximum. -/
def weights (s : FVec F S384x384 .f32) (sk : FVec F S1x384 .f32) : FVec F S384x384 .f32 :=
  exp2 (subf s (broadcastTo S384x384 (colMax s sk) broadcasts_S1x384_S384x384))

/-- The column sums of the weights, the sink's weight among them. -/
def denom (s : FVec F S384x384 .f32) (sk : FVec F S1x384 .f32) : FVec F S1x384 .f32 :=
  addf (shapeCast S1x384 (multiReduction .add [0] S384 (weights s sk) 0x00000000#32 reduces_S384x384_S384 (.inl rfl) rfl)
    shapeCasts_S384_S1x384) (exp2 (subf sk (colMax s sk)))

/-- One head's result, its 64 channels by the 384 queries: the values weighted, times the reciprocal of the sum. -/
def head (vt : FVec F S64x384 .bf16) (s : FVec F S384x384 .f32) (sk : FVec F S1x384 .f32) : FVec F S64x384 .f32 :=
  mulf (matmul dot_S64x384_S384x384_S64x384_1_0_0_1_n_n none vt (truncf .bf16 (weights s sk) bitsLt_bf16_f32)
      (constant S64x384 .f32 0x00000000#32))
    (broadcastTo S64x384 (divf (broadcast S1x384 (Scalar.ofBits .f32 0x3F800000#32)) (denom s sk)) broadcasts_S1x384_S64x384)

/-- The block's result, its 384 queries by the 256 lanes of the four heads. -/
def blockOut (j : Fin 16) (hs : S2304x256.Slices ![128 * j.val, 0] S384x256)
    (hv0 : S256x2304.Slices ![0, 128 * j.val] S64x384) (hv1 : S256x2304.Slices ![64, 128 * j.val] S64x384)
    (hv2 : S256x2304.Slices ![128, 128 * j.val] S64x384) (hv3 : S256x2304.Slices ![192, 128 * j.val] S64x384)
    (keys : FVec F S2304x256 .bf16) (vals : FVec F S256x2304 .bf16) (q : FVec F S384x256 .bf16)
    (blk : BitVec 32) (sink : Fin 12 → F .f32) : FVec F S384x256 .f32 :=
  transpose S384x256 [1, 0]
    (concatenate S256x384 0
      [⟨S64x384, head (extractStridedSlice S64x384 ![0, 128 * j.val] vals hv0)
          (masked (mask blk) (extractStridedSlice S384x384 ![0, 0] (scores j hs keys q) slices_S384x1536_o0_0_S384x384))
          (sinkRow (sink 0) (sink 1) (sink 2))⟩,
        ⟨S64x384, head (extractStridedSlice S64x384 ![64, 128 * j.val] vals hv1)
          (masked (mask blk) (extractStridedSlice S384x384 ![0, 384] (scores j hs keys q) slices_S384x1536_o0_384_S384x384))
          (sinkRow (sink 3) (sink 4) (sink 5))⟩,
        ⟨S64x384, head (extractStridedSlice S64x384 ![128, 128 * j.val] vals hv2)
          (masked (mask blk) (extractStridedSlice S384x384 ![0, 768] (scores j hs keys q) slices_S384x1536_o0_768_S384x384))
          (sinkRow (sink 6) (sink 7) (sink 8))⟩,
        ⟨S64x384, head (extractStridedSlice S64x384 ![192, 128 * j.val] vals hv3)
          (masked (mask blk) (extractStridedSlice S384x384 ![0, 1152] (scores j hs keys q) slices_S384x1536_o0_1152_S384x384))
          (sinkRow (sink 9) (sink 10) (sink 11))⟩]
      concatenates_S64x384_S64x384_S64x384_S64x384_S256x384_d0) transposes_S256x384_p1_0_S384x256

/-- A block's queries of one head group lie inside the tile. -/
theorem inbQ (j : Fin 16) (g : Fin 3) : ∀ a, (![128 * j.val, 256 * g.val] : Fin 2 → Nat) a + S128x256.size a ≤ S2048x768.size a := by
  decide +revert

/-- The rows of the tile's queries that block `j` handles, the three groups under one another. -/
def queries (j : Fin 16) (x : Vec F S2048x768 .bf16) : FVec F S384x256 .bf16 :=
  concatenate S384x256 0
    [⟨S128x256, View.ld x (Rect.unit (s := S2048x768) ![128 * j.val, 256 * (0 : Fin 3).val] S128x256.size (inbQ j 0))⟩,
      ⟨S128x256, View.ld x (Rect.unit (s := S2048x768) ![128 * j.val, 256 * (1 : Fin 3).val] S128x256.size (inbQ j 1))⟩,
      ⟨S128x256, View.ld x (Rect.unit (s := S2048x768) ![128 * j.val, 256 * (2 : Fin 3).val] S128x256.size (inbQ j 2))⟩]
    concatenates_S128x256_S128x256_S128x256_S384x256_d0

/-- The band of keys or values a tile needs: the 128 rows before it, its own 2048, and the 128 after it. -/
def bandRows (a : Vec F S128x256 .bf16) (b : Vec F S2048x256 .bf16) (d : Vec F S128x256 .bf16) : FVec F S2304x256 .bf16 :=
  concatenate S2304x256 0 [⟨S128x256, a⟩, ⟨S2048x256, b⟩, ⟨S128x256, d⟩]
    concatenates_S128x256_S2048x256_S128x256_S2304x256_d0

/-- The band of values, transposed. -/
def bandCols (a : Vec F S128x256 .bf16) (b : Vec F S2048x256 .bf16) (d : Vec F S128x256 .bf16) : FVec F S256x2304 .bf16 :=
  truncf .bf16 (transpose S256x2304 [1, 0] (extf .f32 (bandRows a b d) bitsLt_bf16_f32) transposes_S2304x256_p1_0_S256x2304)
    bitsLt_bf16_f32

/-- A head group's rows lie inside the block's output. -/
theorem sliceG (g : Fin 3) : S384x256.Slices ![128 * g.val, 0] S128x256 := by decide +revert

/-- A block's window of keys lies inside the tile with its two neighbours. -/
theorem sliceK (j : Fin 16) : S2304x256.Slices ![128 * j.val, 0] S384x256 := by decide +revert

/-- A head's part of a block's window of values lies inside the transposed values. -/
theorem sliceV (h : Fin 4) (j : Fin 16) : S256x2304.Slices ![64 * h.val, 128 * j.val] S64x384 := by decide +revert

/-- What the body stores at rows `128 j` and lanes `256 g` of its output tile. -/
def stored (j : Fin 16) (g : Fin 3) (keys : FVec F S2304x256 .bf16) (vals : FVec F S256x2304 .bf16)
    (x : Vec F S2048x768 .bf16) (p : BitVec 32) (sink : Fin 12 → F .f32) : FVec F S128x256 .bf16 :=
  truncf .bf16 (extractStridedSlice S128x256 ![128 * g.val, 0]
    (blockOut j (sliceK j) (sliceV 0 j) (sliceV 1 j) (sliceV 2 j) (sliceV 3 j) keys vals (queries j x)
      (Scalar.addi (firstBlk p) (BitVec.ofNat 32 j.val)) sink) (sliceG g)) bitsLt_bf16_f32

/-- The store at block `j` and group `g`, as a piece of the output tile. -/
def piece (keys : FVec F S2304x256 .bf16) (vals : FVec F S256x2304 .bf16)
    (x : Vec F S2048x768 .bf16) (p : BitVec 32) (sink : Fin 12 → F .f32) (j : Fin 16) (g : Fin 3) :
    View.Piece (Elt F) S2048x768 .bf16 :=
  ⟨Rect.unit (s := S2048x768) ![128 * j.val, 256 * g.val] S128x256.size (inbQ j g), stored j g keys vals x p sink⟩

/-- All the pieces of the output tile, the last store first. -/
def pieces (keys : FVec F S2304x256 .bf16) (vals : FVec F S256x2304 .bf16)
    (x : Vec F S2048x768 .bf16) (p : BitVec 32) (sink : Fin 12 → F .f32) : List (View.Piece (Elt F) S2048x768 .bf16) :=
  [15, 14, 13, 12, 11, 10, 9, 8, 7, 6, 5, 4, 3, 2, 1, 0].flatMap fun j =>
    [piece keys vals x p sink j 2, piece keys vals x p sink j 1, piece keys vals x p sink j 0]

/-- A head's sink lies inside the list of sinks. -/
theorem inbS (h : Fin 12) : ∀ a, (![h.val] : Fin 1 → Nat) a + S1.size a ≤ S12.size a := by decide +revert

/-- The sink logits, one by one, as the body reads them from their buffer. -/
def sinkAt (x : Vec F S12 .f32) (h : Fin 12) : F .f32 :=
  View.ld x (Rect.unit (s := S12) ![h.val] S1.size (inbS h)) (Shape.Idx.first (show 0 < S1.numel by decide))

end Cert.KernelIdeal.Attn
-- ==== Proof.AttnRun.lean ====
module

public import proofs.«01_k».proof.Proof.AttnBlock

/-!
# What the body of the attention kernel leaves in its output tile

The body's 48 stores are the pieces of `AttnBlock`; so the tile, read at a row and a lane, is the value stored there by
the one block and group that own the place.
-/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

variable {F : FTy → Type} [FloatOps F] [Named F]
variable (m : (ℓ : Loc nD τ sig) → Buf (Elt F) ℓ)

/-- A block of 128 rows of keys or values, read whole, lies within itself. -/
theorem inb1 : ∀ a, (![0, 0] : Fin 2 → Nat) a + S128x256.size a ≤ S128x256.size a := by decide
/-- A tile of 2048 rows of keys or values, read whole, lies within itself. -/
theorem inb2 : ∀ a, (![0, 0] : Fin 2 → Nat) a + S2048x256.size a ≤ S2048x256.size a := by decide

/-- What the body stores, in order, is the list of pieces: the 48 stores are one function of the block and the group. -/
theorem run_eq (c : Dev nD) (i : grid0.Coords) (arg1 : Memref sig .tc .smem S12 .f32) (harg1 : arg1.IsWhole) (arg2 : Memref sig .tc .vmem S2048x768 .bf16) (harg2 : arg2.IsWhole) (arg3 : Memref sig .tc .vmem S128x256 .bf16) (harg3 : arg3.IsWhole) (arg4 : Memref sig .tc .vmem S2048x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S2048x256 .bf16) (harg7 : arg7.IsWhole) (arg8 : Memref sig .tc .vmem S128x256 .bf16) (harg8 : arg8.IsWhole) (arg9 : Memref sig .tc .vmem S2048x768 .bf16) (harg9 : arg9.IsWhole)
    (x0 : Vec F S12 .f32) (x1 : Vec F S2048x768 .bf16) (x2 : Vec F S128x256 .bf16) (x3 : Vec F S2048x256 .bf16) (x4 : Vec F S128x256 .bf16) (x5 : Vec F S128x256 .bf16) (x6 : Vec F S2048x256 .bf16) (x7 : Vec F S128x256 .bf16) :
    (kernelRun0_A c i arg1 harg1 arg2 harg2 arg3 harg3 arg4 harg4 arg5 harg5 arg6 harg6 arg7 harg7 arg8 harg8 arg9 harg9 x0 x1 x2 x3 x4 x5 x6 x7).1 =
    (pieces (bandRows (View.ld (arg3.view.read (Elt F) (harg3.unread x2)) (Rect.unit (s := S128x256) ![0, 0] S128x256.size inb1))
        (View.ld (arg4.view.read (Elt F) (harg4.unread x3)) (Rect.unit (s := S2048x256) ![0, 0] S2048x256.size inb2))
        (View.ld (arg5.view.read (Elt F) (harg5.unread x4)) (Rect.unit (s := S128x256) ![0, 0] S128x256.size inb1)))
      (bandCols (View.ld (arg6.view.read (Elt F) (harg6.unread x5)) (Rect.unit (s := S128x256) ![0, 0] S128x256.size inb1))
        (View.ld (arg7.view.read (Elt F) (harg7.unread x6)) (Rect.unit (s := S2048x256) ![0, 0] S2048x256.size inb2))
        (View.ld (arg8.view.read (Elt F) (harg8.unread x7)) (Rect.unit (s := S128x256) ![0, 0] S128x256.size inb1)))
      (arg2.view.read (Elt F) (harg2.unread x1)) (BitVec.ofNat 32 (i 0).val)
      (sinkAt (arg1.view.read (Elt F) (harg1.unread x0)))) := by
  sl_kernel_rfl

/-- The output tile at a grid point is its pieces, over the point's blocks of the arguments. -/
theorem outs_eq (c : Dev nD) (t : Fin cfg0.N) : outsAt0 m c t =
    View.canon (pieces (bandRows (iblk m c 2 t) (iblk m c 3 t) (iblk m c 4 t))
      (bandCols (iblk m c 5 t) (iblk m c 6 t) (iblk m c 7 t)) (iblk m c 1 t)
      (BitVec.ofNat 32 (grid0.coords t 0).val) (sinkAt (iblk m c 0 t))) := by
  have hz : ∀ a : Fin 2, (![0, 0] : Fin 2 → Nat) a = 0 := by decide
  unfold outsAt0 out0_A_8
  rw [View.read_writes_junk_eq_canon, run_eq]
  simp only [Memref.IsWhole.read_unread]
  rw [View.ld_unit_lit' _ _ hz, View.ld_unit_lit' _ _ hz, View.ld_unit_lit' _ _ hz, View.ld_unit_lit' _ _ hz,
    View.ld_unit_lit' _ _ hz, View.ld_unit_lit' _ _ hz]

/-- Some piece holds each place of the output tile. -/
theorem pieces_cover (keys : FVec F S2304x256 .bf16) (vals : FVec F S256x2304 .bf16) (x : Vec F S2048x768 .bf16)
    (p : BitVec 32) (sink : Fin 12 → F .f32) (y : S2048x768.Idx) : ∃ q ∈ pieces keys vals x p sink, y ∈ q.1.set :=
  View.cover_of_tiledL (pieces keys vals x p sink) S128x256.size (by sl_kernel_rfl) y

/-- The output tile at row `128 j + r` and lane `256 g + l` is what block `j` stores for group `g` at `(r, l)`. -/
theorem canon_pieces (keys : FVec F S2304x256 .bf16) (vals : FVec F S256x2304 .bf16) (x : Vec F S2048x768 .bf16)
    (p : BitVec 32) (sink : Fin 12 → F .f32) (j : Fin 16) (g : Fin 3) (r : Fin 128) (l : Fin 256)
    (y : S2048x768.Idx) (h0 : (y 0).val = 128 * j.val + r.val) (h1 : (y 1).val = 256 * g.val + l.val) :
    View.canon (pieces keys vals x p sink) y = stored j g keys vals x p sink (ix2 r l) := by
  refine View.canon_eq_of_allAt _ y _ (pieces_cover ..) fun q hq z hz => ?_
  obtain ⟨j', g', rfl⟩ : ∃ j' g', q = piece keys vals x p sink j' g' := by
    obtain ⟨j', _, hq⟩ := List.mem_flatMap.1 hq
    simp only [List.mem_cons, List.not_mem_nil, or_false] at hq
    rcases hq with rfl | rfl | rfl
    exacts [⟨j', 2, rfl⟩, ⟨j', 1, rfl⟩, ⟨j', 0, rfl⟩]
  have e0 : (y 0).val = 128 * j'.val + 1 * (z 0).val := by rw [← hz]; rfl
  have e1 : (y 1).val = 256 * g'.val + 1 * (z 1).val := by rw [← hz]; rfl
  have z0 : (z 0).val < 128 := (z 0).isLt
  have z1 : (z 1).val < 256 := (z 1).isLt
  obtain rfl : j' = j := Fin.ext (by omega)
  obtain rfl : g' = g := Fin.ext (by omega)
  have : z = ix2 r l := by
    refine (eq_ix2 z).trans ((ix2_inj ..).2 ⟨Fin.ext ?_, Fin.ext ?_⟩) <;> omega
  rw [this]; rfl

end Cert.KernelIdeal.Attn
-- ==== Proof.AttnWords.lean ====
module

public import proofs.«01_k».proof.Proof.AttnBlock
public import Idealize.ShloMosaic.Lib.Pointwise
public import Idealize.ShloMosaic.Lib.WordCmp

/-!
# The integer parts of the attention block, read at a place

Which head a lane belongs to, which block of its sequence a block is, and which keys a query may see.
-/

@[expose] public section

set_option maxRecDepth 16384

noncomputable section

namespace Cert.KernelIdeal.Attn

open Cert.KernelIdeal Cert.KernelIdeal.Gen
open Idealize.ShloMosaic Idealize.ShloMosaic.TcCoe

/-- Block `j` of tile `p` is block `(16 p) mod 32 + j` of its sequence. -/
theorem blk_val (p j : Fin 16) : Scalar.addi (firstBlk (BitVec.ofNat 32 p.val)) (BitVec.ofNat 32 j.val)
    = BitVec.ofNat 32 (16 * p.val % 32 + j.val) := by
  revert p j; decide

/-- A lane's head is the lane number divided by 64. -/
theorem laneHead_apply (r : Fin 384) (l : Fin 256) : laneHead (ix2 r l) = BitVec.ofNat 32 (l.val / 64) := by
  pointwise [laneHead]
  revert l; decide

/-- What a query at place `r` of block `b` of its sequence may see among the 384 keys of its band: key `k` is at most
128 places before or after it, and within the sequence. -/
def Seen (b : Nat) (k : Fin 384) (r : Fin 128) : Prop :=
  r.val ≤ k.val ∧ k.val ≤ r.val + 256 ∧ (128 ≤ k.val ∨ 0 < b) ∧ (k.val < 256 ∨ b < 31)

instance (b : Nat) (k : Fin 384) (r : Fin 128) : Decidable (Seen b k r) := by unfold Seen; infer_instance

/-- The difference of two small words, as a signed number, is the difference of the numbers. -/
theorem toInt_diff (a b : Nat) (ha : a < 2 ^ 30) (hb : b < 2 ^ 30) :
    (BitVec.ofNat 32 a - BitVec.ofNat 32 b).toInt = (a : Int) - b := by
  rw [BitVec.toInt_sub, BitVec.toInt_ofNat', BitVec.toInt_ofNat', Int.bmod, Int.bmod, Int.bmod]
  simp only [Nat.reducePow] at *
  split_ifs <;> omega

/-- The mask of one group is zero at the keys a query sees, and minus infinity at the others. -/
theorem maskOne_apply (b : Nat) (hb : b < 32) (k : Fin 384) (r : Fin 128) :
    maskOne (F := Ideal) (BitVec.ofNat 32 b) (ix2 k r) = if Seen b k r then (0 : EReal) else ⊥ := by
  have hk := k.isLt
  have hr := r.isLt
  pointwise [maskOne]
  rw [show Ideal.ofBits .f32 0xFF800000#32 = (⊥ : EReal) by simp [Ideal.ofBits, Ideal.ieee], Scalar.select]
  refine if_congr ?_ rfl rfl
  have e0 : IntOp.cmpi .sge (IntOp.subi (BitVec.ofNat 32 k.val) (BitVec.ofNat 32 r.val)) 0#32
      = BitVec.ofBool (decide (r.val ≤ k.val)) := by
    simp only [IntOp.cmpi, IntOp.subi, BitVec.sle, toInt_diff k.val r.val (by omega) (by omega)]
    congr 1; simp
  have e1 : IntOp.cmpi .sle (IntOp.subi (BitVec.ofNat 32 k.val) (BitVec.ofNat 32 r.val)) 256#32
      = BitVec.ofBool (decide (k.val ≤ r.val + 256)) := by
    simp only [IntOp.cmpi, IntOp.subi, BitVec.sle, toInt_diff k.val r.val (by omega) (by omega)]
    congr 1; simp; omega
  rw [e0, e1]
  unfold Scalar.cmpi Seen
  word_cmp

end Cert.KernelIdeal.Attn
-- ==== Proof.AttnMath.lean ====
module

public import Idealize.ShloMosaic.Lib.Pointwise

/-!
# The softmax with a sink, in base two and in base e

The kernel keeps its scores in base two, divides once, after the values have been summed, and multiplies by the
reciprocal. The reference works in base e and divides each weight. Over the extended reals the two agree wherever the
scores that aren't masked, and the sink, are real numbers.
-/

@[expose] public section

noncomputable section

namespace Cert.Attn

open Idealize.ShloMosaic

/-- The natural logarithm of two, as an extended real. -/
def ln2 : EReal := ((Real.log 2 : ℝ) : EReal)

/-- The natural logarithm of two is positive. -/
theorem log_two_pos : (0 : ℝ) < Real.log 2 := Real.log_pos (by norm_num)

/-- Scaling by the natural logarithm of two commutes with the maximum. -/
theorem max_mul_ln2 (a b : EReal) : max (a * ln2) (b * ln2) = max a b * ln2 := by
  have h : Monotone fun x : EReal => x * ln2 := fun x y hxy =>
    mul_le_mul_of_nonneg_right hxy (EReal.coe_nonneg.2 log_two_pos.le)
  exact (h.map_max (a := a) (b := b)).symm

/-- Minus infinity scaled by the natural logarithm of two is minus infinity. -/
theorem bot_mul_ln2 : (⊥ : EReal) * ln2 = ⊥ := EReal.bot_mul_coe_of_pos log_two_pos

/-- The maximum of a family scaled by the natural logarithm of two is the scaled maximum. -/
theorem fold_max_mul_ln2 {n : Nat} (s : Fin n → EReal) :
    (Finset.univ.fold max ⊥ fun k => s k * ln2) = Finset.univ.fold max ⊥ s * ln2 := by
  have h := Finset.fold_hom (s := (Finset.univ : Finset (Fin n))) (op := max) (op' := max) (b := (⊥ : EReal)) (f := s)
    (m := fun x : EReal => x * ln2) (fun x y => (max_mul_ln2 x y).symm)
  simpa [bot_mul_ln2] using h

/-- Two to the power of `a - b` is `e` to the power of the difference of the scaled numbers, for a real `b`. -/
theorem exp_scaled (a : EReal) (ha : a = ⊥ ∨ ∃ r : ℝ, a = r) (b : ℝ) :
    Ideal.exp (a * ln2 - (b : EReal) * ln2) = Ideal.exp2 (a - b) := by
  rcases ha with rfl | ⟨r, rfl⟩
  · rw [bot_mul_ln2, EReal.bot_sub, EReal.bot_sub]; rfl
  · have e1 : (r : EReal) * ln2 - (b : EReal) * ln2 = ((r * Real.log 2 - b * Real.log 2 : ℝ) : EReal) := by
      simp [ln2, EReal.coe_sub, EReal.coe_mul]
    have e2 : (r : EReal) - (b : EReal) = ((r - b : ℝ) : EReal) := by simp [EReal.coe_sub]
    rw [e1, e2]
    show ((Real.exp _ : ℝ) : EReal) = ((Real.rpow 2 (r - b) : ℝ) : EReal)
    have : Real.rpow 2 (r - b) = Real.exp (Real.log 2 * (r - b)) := Real.rpow_def_of_pos (by norm_num) _
    rw [this]; congr 2; ring

/-- Two to the power of `a - b` is a nonnegative real number, for a real `b`; it is zero where `a` is minus infinity. -/
theorem exp2_real (a : EReal) (ha : a = ⊥ ∨ ∃ r : ℝ, a = r) (b : ℝ) :
    ∃ w : ℝ, 0 ≤ w ∧ Ideal.exp2 (a - b) = w ∧ (a = ⊥ → w = 0) ∧ (a ≠ ⊥ → 0 < w) := by
  rcases ha with rfl | ⟨r, rfl⟩
  · exact ⟨0, le_rfl, by rw [EReal.bot_sub]; rfl, fun _ => rfl, fun h => absurd rfl h⟩
  · have h : 0 < Real.rpow 2 (r - b) := Real.rpow_pos_of_pos (by norm_num) _
    refine ⟨Real.rpow 2 (r - b), h.le, ?_, fun h => absurd h (EReal.coe_ne_bot r), fun _ => h⟩
    rw [← EReal.coe_sub]; rfl

/-- A finite sum of real numbers is the real sum. -/
theorem sum_coe {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A finite sum times a nonnegative real number is the sum of the products. -/
theorem sum_mul_coe {ι : Type} (s : Finset ι) (f : ι → EReal) (c : ℝ) (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha, ← ih, mul_comm, mul_comm (f a), mul_comm (∑ k ∈ s, f k),
      EReal.left_distrib_of_nonneg_of_ne_top (EReal.coe_nonneg.2 hc) (EReal.coe_ne_top c)]

/-- The kernel's softmax with a sink equals the reference's: `s` are the masked scores in base two, `u` and `v` the
two sides' values, which agree wherever the score isn't masked, and `z` is the sink logit. -/
theorem softmax_eq {n : Nat} (s u v : Fin n → EReal) (z : ℝ) (hs : ∀ k, s k = ⊥ ∨ ∃ r : ℝ, s k = r)
    (huv : ∀ k, s k = ⊥ ∨ u k = v k) (M N D E : EReal) (hM : M = max (Finset.univ.fold max ⊥ s) ((z : EReal) * ((Real.log 2)⁻¹ : ℝ)))
    (hN : N = max (Finset.univ.fold max ⊥ fun k => s k * ln2) (z : EReal))
    (hD : D = ∑ k, Ideal.exp2 (s k - M) + Ideal.exp2 ((z : EReal) * ((Real.log 2)⁻¹ : ℝ) - M))
    (hE : E = ∑ k, Ideal.exp (s k * ln2 - N) + Ideal.exp ((z : EReal) - N)) :
    (∑ k, u k * Ideal.exp2 (s k - M)) * Ideal.div 1 D = ∑ k, v k * Ideal.div (Ideal.exp (s k * ln2 - N)) E := by
  have hz : (z : EReal) = (z : EReal) * ((Real.log 2)⁻¹ : ℝ) * ln2 := by
    rw [ln2, ← EReal.coe_mul, ← EReal.coe_mul, mul_assoc, inv_mul_cancel₀ log_two_pos.ne', mul_one]
  have hNM : N = M * ln2 := by rw [hN, hM, fold_max_mul_ln2, ← max_mul_ln2, ← hz]
  obtain ⟨μ, hμ⟩ : ∃ μ : ℝ, M = μ := by
    have h1 : M ≠ ⊥ := by
      have : (((z * (Real.log 2)⁻¹ : ℝ)) : EReal) ≤ M := by rw [hM, EReal.coe_mul]; exact le_max_right _ _
      exact fun h => EReal.coe_ne_bot _ (le_bot_iff.1 (h ▸ this))
    have h2 : M ≠ ⊤ := by
      have : M < ⊤ := by
        rw [hM, max_lt_iff]
        refine ⟨(Finset.fold_max_lt _).2 ⟨bot_lt_top, fun k _ => ?_⟩, by rw [← EReal.coe_mul]; exact EReal.coe_lt_top _⟩
        rcases hs k with h | ⟨r, h⟩ <;> rw [h]
        · exact bot_lt_top
        · exact EReal.coe_lt_top _
      exact this.ne
    exact ⟨M.toReal, (EReal.coe_toReal h2 h1).symm⟩
  have hp : ∀ k, Ideal.exp (s k * ln2 - N) = Ideal.exp2 (s k - M) := fun k => by
    rw [hNM, hμ]; exact exp_scaled _ (hs k) μ
  have hq : Ideal.exp ((z : EReal) - N) = Ideal.exp2 ((z : EReal) * ((Real.log 2)⁻¹ : ℝ) - M) := by
    rw [hNM, hμ, ← exp_scaled ((z : EReal) * ((Real.log 2)⁻¹ : ℝ)) (.inr ⟨z * (Real.log 2)⁻¹, EReal.coe_mul _ _⟩) μ, ← hz]
  have hED : E = D := by rw [hE, hD, hq]; exact congrArg (· + _) (Finset.sum_congr rfl fun k _ => hp k)
  choose w hw0 hw hwb _ using fun k => exp2_real (s k) (hs k) μ
  obtain ⟨y, _, hy, _, hyp⟩ := exp2_real ((z : EReal) * ((Real.log 2)⁻¹ : ℝ)) (.inr ⟨z * (Real.log 2)⁻¹, EReal.coe_mul _ _⟩) μ
  have hDr : D = ((∑ k, w k + y : ℝ) : EReal) := by
    rw [hD, hμ, hy, EReal.coe_add, ← sum_coe]; exact congrArg (· + _) (Finset.sum_congr rfl fun k _ => hw k)
  have hd : 0 < ∑ k, w k + y := add_pos_of_nonneg_of_pos (Finset.sum_nonneg fun k _ => hw0 k)
    (hyp (by rw [← EReal.coe_mul]; exact EReal.coe_ne_bot _))
  have hdiv : ∀ a : EReal, Ideal.div a D = a * (((∑ k, w k + y)⁻¹ : ℝ) : EReal) := fun a => by
    rw [hDr, Ideal.div, if_neg (by exact_mod_cast hd.ne'), EReal.coe_inv]
  rw [hED, hdiv, one_mul, sum_mul_coe _ _ _ (inv_nonneg.2 hd.le)]
  refine Finset.sum_congr rfl fun k _ => ?_
  rw [hdiv, hp k, mul_assoc]
  rcases huv k with h | h
  · have : Ideal.exp2 (s k - M) = 0 := by rw [hμ, hw k, hwb k h]; rfl
    rw [this, zero_mul, mul_zero, mul_zero]
  · rw [h]

end Cert.Attn
-- ==== Proof.AttnIdeal.lean ====
module

public import proofs.«01_k».proof.Proof.AttnWords
public import proofs.«01_k».proof.Proof.AttnMath

/-!
# One block of the attention kernel over the extended reals, read at a place
-/

@[expose] public section

set_option maxRecDepth 16384

noncomputable section

namespace Cert.KernelIdeal.Attn

open Cert.KernelIdeal Cert.KernelIdeal.Gen
open Idealize.ShloMosaic Idealize.ShloMosaic.TcCoe

/-- A query read in head `h`'s copy: the query on the lanes of that head, zero elsewhere. -/
theorem headQ_apply (h : Fin 4) (q : FVec Ideal S384x256 .bf16) (r : Fin 384) (l : Fin 256) :
    headQ (BitVec.ofNat 32 h.val) q (ix2 r l) = if l.val / 64 = h.val then q (ix2 r l) else (0 : EReal) := by
  have hl := l.isLt
  have hh := h.isLt
  pointwise [headQ, laneHead_apply]
  rw [Scalar.select]
  refine if_congr ?_ rfl ?_
  · word_cmp
  · simp [Ideal.ofBits, Ideal.ieee]

/-- The mask of the three groups, read at group `g`. -/
theorem mask_apply (b : Nat) (hb : b < 32) (k : Fin 384) (g : Fin 3) (r : Fin 128) (c : Fin 384) (hc : c.val = 128 * g.val + r.val) :
    mask (F := Ideal) (BitVec.ofNat 32 b) (ix2 k c) = if Seen b k r then (0 : EReal) else ⊥ := by
  pointwise [mask, maskOne_apply b hb]
  have hr := r.isLt
  obtain hg | hg | hg : g.val = 0 ∨ g.val = 1 ∨ g.val = 2 := by omega
  · rw [dif_pos (by omega)]
    exact if_congr (iff_of_eq (congrArg (Seen b k) (Fin.ext (by show c.val = _; omega)))) rfl rfl
  · rw [dif_neg (by omega), dif_pos (by omega)]
    exact if_congr (iff_of_eq (congrArg (Seen b k) (Fin.ext (by show c.val - 128 = _; omega)))) rfl rfl
  · rw [dif_neg (by omega), dif_neg (by omega)]
    exact if_congr (iff_of_eq (congrArg (Seen b k) (Fin.ext (by show c.val - 128 - 128 = _; omega)))) rfl rfl

/-- The scores: key `k` of the band against query `c`, over the 64 channels of head `h`. -/
theorem scores_apply (j : Fin 16) (keys : FVec Ideal S2304x256 .bf16)
    (q : FVec Ideal S384x256 .bf16) (k c : Fin 384) (h : Fin 4) (n : Fin 1536) (hn : n.val = 384 * h.val + c.val) :
    scores j (sliceK j) keys q (ix2 k n) = ∑ d : Fin 64,
      keys (ix2 ⟨128 * j.val + k.val, by omega⟩ ⟨64 * h.val + d.val, by omega⟩) * q (ix2 c ⟨64 * h.val + d.val, by omega⟩) := by
  pointwise [scores]
  have hcl := c.isLt
  have hq : ∀ x : Fin 256, (if h : n.val < 384 then headQ 0#32 q (ix2 ⟨n.val, h⟩ x)
      else if h : n.val - 384 < 384 then headQ 1#32 q (ix2 ⟨n.val - 384, h⟩ x)
      else if h : n.val - 384 - 384 < 384 then headQ 2#32 q (ix2 ⟨n.val - 384 - 384, h⟩ x)
      else headQ 3#32 q (ix2 ⟨n.val - 384 - 384 - 384, by omega⟩ x))
      = if x.val / 64 = h.val then q (ix2 c x) else (0 : EReal) := fun x => by
    rw [← headQ_apply h q c x]
    obtain hh | hh | hh | hh : h.val = 0 ∨ h.val = 1 ∨ h.val = 2 ∨ h.val = 3 := by omega
    · rw [dif_pos (by omega), hh]
      exact congrArg (fun r => headQ _ q (ix2 r x)) (Fin.ext (by show n.val = _; omega))
    · rw [dif_neg (by omega), dif_pos (by omega), hh]
      exact congrArg (fun r => headQ _ q (ix2 r x)) (Fin.ext (by show n.val - 384 = _; omega))
    · rw [dif_neg (by omega), dif_neg (by omega), dif_pos (by omega), hh]
      exact congrArg (fun r => headQ _ q (ix2 r x)) (Fin.ext (by show n.val - 384 - 384 = _; omega))
    · rw [dif_neg (by omega), dif_neg (by omega), dif_neg (by omega), hh]
      exact congrArg (fun r => headQ _ q (ix2 r x)) (Fin.ext (by show n.val - 384 - 384 - 384 = _; omega))
  refine (Finset.sum_congr rfl fun x _ => congrArg (_ * ·) (hq x)).trans ?_
  rw [Fin.sum_univ_tiles 4 64 rfl, Finset.sum_eq_single h]
  · refine Finset.sum_congr rfl fun d _ => ?_
    have hd := d.isLt
    rw [if_pos (by show (h.val * 64 + d.val) / 64 = h.val; omega)]
    have : (⟨h.val * 64 + d.val, by omega⟩ : Fin 256) = ⟨64 * h.val + d.val, by omega⟩ := Fin.ext (by show h.val * 64 + d.val = 64 * h.val + d.val; omega)
    rw [this]
  · intro h' _ hne
    refine Finset.sum_eq_zero fun d _ => ?_
    have hd := d.isLt
    have : h'.val ≠ h.val := fun e => hne (Fin.ext e)
    rw [if_neg (by show ¬ (h'.val * 64 + d.val) / 64 = h.val; omega), mul_zero]
  · exact fun hh => absurd (Finset.mem_univ h) hh

/-- The masked scores, read at group `g`: the score at a key the query sees, minus infinity elsewhere. -/
theorem masked_apply (b : Nat) (hb : b < 32) (s : FVec Ideal S384x384 .f32) (k : Fin 384) (g : Fin 3) (r : Fin 128)
    (c : Fin 384) (hc : c.val = 128 * g.val + r.val) :
    masked (mask (BitVec.ofNat 32 b)) s (ix2 k c) = if Seen b k r then (s (ix2 k c) : EReal) else ⊥ := by
  pointwise [masked]
  have hr := r.isLt
  have hadd : ∀ (p : Prop) [Decidable p] (x : EReal), (x + if p then (0 : EReal) else ⊥) = if p then x else ⊥ :=
    fun p _ x => by split_ifs <;> simp
  by_cases h1 : k.val < 128
  · rw [dif_pos h1, mask_apply b hb k g r c hc]
    exact hadd _ _
  · rw [dif_neg h1]
    by_cases h2 : k.val - 128 < 128
    · have hs : Seen b k r := by unfold Seen; omega
      rw [dif_pos h2]
      refine Eq.trans ?_ (if_pos hs).symm
      exact congrArg (fun x => s (ix2 x c)) (Fin.ext (by show 128 + (k.val - 128) = _; omega))
    · have : (⟨256 + (k.val - 128 - 128), by omega⟩ : Fin 384) = k := Fin.ext (by show 256 + (k.val - 128 - 128) = _; omega)
      rw [dif_neg h2, this, mask_apply b hb k g r c hc]
      exact hadd _ _

/-- One head's result at channel `d` and query `c`. -/
theorem head_apply (vt : FVec Ideal S64x384 .bf16) (s : FVec Ideal S384x384 .f32) (sk : FVec Ideal S1x384 .f32)
    (d : Fin 64) (c : Fin 384) (M : EReal)
    (hM : M = max (Finset.univ.fold max ⊥ fun k : Fin 384 => (s (ix2 k c) : EReal)) (sk (ix2 0 c))) :
    head vt s sk (ix2 d c) = (∑ k : Fin 384, vt (ix2 d k) * Ideal.exp2 (s (ix2 k c) - M))
      * Ideal.div 1 (∑ k : Fin 384, Ideal.exp2 (s (ix2 k c) - M) + Ideal.exp2 (sk (ix2 0 c) - M)) := by
  pointwise [head, denom, weights, colMax]
  rw [show Ideal.ofBits .f32 0xFF800000#32 = (⊥ : EReal) by simp [Ideal.ofBits, Ideal.ieee], ← hM]
  rfl

/-- The sink logits of one head, read at group `g`: the group's sink times `log₂ e`. -/
theorem sinkRow_apply (s : Fin 3 → EReal) (g : Fin 3) (r : Fin 128) (c : Fin 384) (hc : c.val = 128 * g.val + r.val) :
    sinkRow (F := Ideal) (s 0) (s 1) (s 2) (ix2 0 c) = s g * (((Real.log 2)⁻¹ : ℝ) : EReal) := by
  have hr := r.isLt
  have hn : (Named.named κ "log2e" 0x3FB8AA3B#32 : Ideal .f32) = (((Real.log 2)⁻¹ : ℝ) : EReal) :=
    IdealRules.named_const.ideal_named_scalar _ _ _ _ rfl
  pointwise [sinkRow, hn]
  obtain rfl | rfl | rfl : g = 0 ∨ g = 1 ∨ g = 2 := by omega
  · rw [dif_pos (by simpa using (by omega : c.val < 128))]
  · rw [dif_neg (by omega), dif_pos (by omega)]
  · rw [dif_neg (by omega), dif_neg (by omega)]

/-- The block's result at query `c` and channel `d` of head `h` is that head's result. -/
theorem blockOut_apply (j : Fin 16) (keys : FVec Ideal S2304x256 .bf16) (vals : FVec Ideal S256x2304 .bf16)
    (q : FVec Ideal S384x256 .bf16) (blk : BitVec 32) (sink : Fin 12 → EReal) (c : Fin 384) (h : Fin 4) (d : Fin 64)
    (l : Fin 256) (hl : l.val = 64 * h.val + d.val) :
    blockOut (F := Ideal) j (sliceK j) (sliceV 0 j) (sliceV 1 j) (sliceV 2 j) (sliceV 3 j) keys vals q blk sink (ix2 c l) =
      head (fun i => vals (ix2 ⟨64 * h.val + (i 0).val, by have : (i 0).val < 64 := (i 0).isLt; omega⟩ ⟨128 * j.val + (i 1).val, by have : (i 1).val < 384 := (i 1).isLt; omega⟩))
        (masked (mask blk) (fun i => scores j (sliceK j) keys q (ix2 (i 0) ⟨384 * h.val + (i 1).val, by have : (i 1).val < 384 := (i 1).isLt; omega⟩)))
        (sinkRow (sink ⟨3 * h.val, by omega⟩) (sink ⟨3 * h.val + 1, by omega⟩) (sink ⟨3 * h.val + 2, by omega⟩)) (ix2 d c) := by
  have hd := d.isLt
  have hv : ∀ (a : Nat) (hs : S256x2304.Slices ![a, 128 * j.val] S64x384), a = 64 * h.val →
      extractStridedSlice S64x384 ![a, 128 * j.val] vals hs = fun i : S64x384.Idx =>
        vals (ix2 ⟨64 * h.val + (i 0).val, by have : (i 0).val < 64 := (i 0).isLt; omega⟩
          ⟨128 * j.val + (i 1).val, by have : (i 1).val < 384 := (i 1).isLt; omega⟩) := fun a hs ha => by
    subst ha; funext i; idx_vars i; pointwise
  have hsc : ∀ (a : Nat) (hs : S384x1536.Slices ![0, a] S384x384), a = 384 * h.val →
      extractStridedSlice S384x384 ![0, a] (scores j (sliceK j) keys q) hs = fun i : S384x384.Idx =>
        scores j (sliceK j) keys q (ix2 (i 0) ⟨384 * h.val + (i 1).val, by have : (i 1).val < 384 := (i 1).isLt; omega⟩) :=
    fun a hs ha => by subst ha; funext i; idx_vars i; pointwise
  have key : ∀ (vt vt' : FVec Ideal S64x384 .bf16) (s s' : FVec Ideal S384x384 .f32) (sk : FVec Ideal S1x384 .f32)
      (d d' : Fin 64), vt = vt' → s = s' → d = d' →
      head vt (masked (mask blk) s) sk (ix2 d c) = head vt' (masked (mask blk) s') sk (ix2 d' c) := by
    rintro _ _ _ _ _ _ _ rfl rfl rfl; rfl
  pointwise [blockOut]
  obtain rfl | rfl | rfl | rfl : h = 0 ∨ h = 1 ∨ h = 2 ∨ h = 3 := by omega
  · rw [dif_pos (by simpa using (by omega : l.val < 64))]
    exact key _ _ _ _ _ _ _ (hv _ _ rfl) (hsc _ _ rfl) (Fin.ext (by show l.val = _; omega))
  · rw [dif_neg (by omega), dif_pos (by omega)]
    exact key _ _ _ _ _ _ _ (hv _ _ rfl) (hsc _ _ rfl) (Fin.ext (by show l.val - 64 = _; omega))
  · rw [dif_neg (by omega), dif_neg (by omega), dif_pos (by omega)]
    exact key _ _ _ _ _ _ _ (hv _ _ rfl) (hsc _ _ rfl) (Fin.ext (by show l.val - 64 - 64 = _; omega))
  · rw [dif_neg (by omega), dif_neg (by omega), dif_neg (by omega)]
    exact key _ _ _ _ _ _ _ (hv _ _ rfl) (hsc _ _ rfl) (Fin.ext (by show l.val - 64 - 64 - 64 = _; omega))

/-- The queries of block `j`: place `128 g + r`, lane `l` is row `128 j + r` and lane `256 g + l` of the tile. -/
theorem queries_apply (j : Fin 16) (x : Vec Ideal S2048x768 .bf16) (g : Fin 3) (r : Fin 128) (c : Fin 384)
    (hc : c.val = 128 * g.val + r.val) (l : Fin 256) :
    queries j x (ix2 c l) = x (ix2 ⟨128 * j.val + r.val, by omega⟩ ⟨256 * g.val + l.val, by omega⟩) := by
  pointwise [queries]
  have hr := r.isLt
  have key : ∀ (a a' : Fin 2048) (b b' : Fin 768), a = a' → b = b' → x (ix2 a b) = x (ix2 a' b') := by
    rintro _ _ _ _ rfl rfl; rfl
  obtain rfl | rfl | rfl : g = 0 ∨ g = 1 ∨ g = 2 := by omega
  · rw [dif_pos (by omega)]
    exact key _ _ _ _ (Fin.ext (by show 128 * j.val + c.val = 128 * j.val + r.val; have := hc; simp at this; omega)) (Fin.ext (by show l.val = 256 * 0 + l.val; omega))
  · rw [dif_neg (by omega), dif_pos (by omega)]
    exact key _ _ _ _ (Fin.ext (by show 128 * j.val + (c.val - 128) = 128 * j.val + r.val; have := hc; simp at this; omega)) (Fin.ext (by show 256 + l.val = 256 * 1 + l.val; omega))
  · rw [dif_neg (by omega), dif_neg (by omega)]
    exact key _ _ _ _ (Fin.ext (by show 128 * j.val + (c.val - 128 - 128) = 128 * j.val + r.val; have := hc; simp at this; omega)) (Fin.ext (by show 512 + l.val = 256 * 2 + l.val; omega))

/-- The band's rows, one below the other. -/
theorem bandRows_apply (a : Vec Ideal S128x256 .bf16) (b : Vec Ideal S2048x256 .bf16) (d : Vec Ideal S128x256 .bf16)
    (r : Fin 2304) (l : Fin 256) : bandRows a b d (ix2 r l) = if h : r.val < 128 then a (ix2 ⟨r.val, h⟩ l)
      else if h' : r.val - 128 < 2048 then b (ix2 ⟨r.val - 128, h'⟩ l) else d (ix2 ⟨r.val - 128 - 2048, by omega⟩ l) := by
  pointwise [bandRows]

/-- The band's columns are its rows. -/
theorem bandCols_apply (a : Vec Ideal S128x256 .bf16) (b : Vec Ideal S2048x256 .bf16) (d : Vec Ideal S128x256 .bf16)
    (r : Fin 2304) (l : Fin 256) : bandCols a b d (ix2 l r) = bandRows a b d (ix2 r l) := by
  pointwise [bandCols]

/-- What is stored for group `g` is the block's result at the group's queries. -/
theorem stored_apply (j : Fin 16) (g : Fin 3) (keys : FVec Ideal S2304x256 .bf16) (vals : FVec Ideal S256x2304 .bf16)
    (x : Vec Ideal S2048x768 .bf16) (p : BitVec 32) (sink : Fin 12 → EReal) (r : Fin 128) (l : Fin 256) :
    stored (F := Ideal) j g keys vals x p sink (ix2 r l) =
      blockOut j (sliceK j) (sliceV 0 j) (sliceV 1 j) (sliceV 2 j) (sliceV 3 j) keys vals (queries j x)
        (Scalar.addi (firstBlk p) (BitVec.ofNat 32 j.val)) sink (ix2 ⟨128 * g.val + r.val, by omega⟩ l) := by
  pointwise [stored]

/-- The masked score, in base two, of key `k` of block `j`'s band against query `r` of group `g` in head `h`. -/
def score (j : Fin 16) (b : Nat) (g : Fin 3) (keys : FVec Ideal S2304x256 .bf16) (x : Vec Ideal S2048x768 .bf16)
    (r : Fin 128) (h : Fin 4) (k : Fin 384) : EReal :=
  if Seen b k r then (∑ e : Fin 64, keys (ix2 ⟨128 * j.val + k.val, by omega⟩ ⟨64 * h.val + e.val, by omega⟩) *
    x (ix2 ⟨128 * j.val + r.val, by omega⟩ ⟨256 * g.val + (64 * h.val + e.val), by omega⟩) : EReal) else ⊥

/-- The largest of a query's masked scores and its sink, in base two. -/
def top (s : Fin 384 → EReal) (z : EReal) : EReal :=
  max (Finset.univ.fold max ⊥ s) (z * (((Real.log 2)⁻¹ : ℝ) : EReal))

/-- What the body stores: for query `r` of block `j` and group `g`, channel `d` of head `h`, the softmax-weighted sum
of the values, in base two and with the sink in the denominator. -/
theorem stored_value (p j : Fin 16) (g : Fin 3) (keys : FVec Ideal S2304x256 .bf16) (vals : FVec Ideal S256x2304 .bf16)
    (x : Vec Ideal S2048x768 .bf16) (sink : Fin 12 → EReal) (r : Fin 128) (h : Fin 4) (d : Fin 64) (l : Fin 256)
    (hl : l.val = 64 * h.val + d.val) (s : Fin 384 → EReal) (hs : s = score j (16 * p.val % 32 + j.val) g keys x r h)
    (z : EReal) (hz : z = sink ⟨3 * h.val + g.val, by omega⟩) :
    stored (F := Ideal) j g keys vals x (BitVec.ofNat 32 p.val) sink (ix2 r l) =
      (∑ k : Fin 384, (vals (ix2 l ⟨128 * j.val + k.val, by omega⟩) : EReal) * Ideal.exp2 (s k - top s z)) *
        Ideal.div 1 (∑ k : Fin 384, Ideal.exp2 (s k - top s z) +
          Ideal.exp2 (z * (((Real.log 2)⁻¹ : ℝ) : EReal) - top s z)) := by
  have hb : 16 * p.val % 32 + j.val < 32 := by omega
  have hS : ∀ k : Fin 384, masked (mask (BitVec.ofNat 32 (16 * p.val % 32 + j.val)))
      (fun i : S384x384.Idx => scores j (sliceK j) keys (queries j x)
        (ix2 (i 0) ⟨384 * h.val + (i 1).val, by have : (i 1).val < 384 := (i 1).isLt; omega⟩))
      (ix2 k ⟨128 * g.val + r.val, by omega⟩) = s k := fun k => by
    rw [masked_apply _ hb _ k g r _ rfl, hs, score]
    refine if_congr Iff.rfl ?_ rfl
    refine (scores_apply j keys (queries j x) k ⟨128 * g.val + r.val, by omega⟩ h _ rfl).trans ?_
    exact Finset.sum_congr rfl fun e _ => congrArg (_ * ·) (queries_apply j x g r _ rfl _)
  have hZ : sinkRow (F := Ideal) (sink ⟨3 * h.val, by omega⟩) (sink ⟨3 * h.val + 1, by omega⟩) (sink ⟨3 * h.val + 2, by omega⟩)
      (ix2 0 ⟨128 * g.val + r.val, by omega⟩) = z * (((Real.log 2)⁻¹ : ℝ) : EReal) := by
    rw [hz]
    exact sinkRow_apply (fun g : Fin 3 => sink ⟨3 * h.val + g.val, by omega⟩) g r _ rfl
  rw [stored_apply, blk_val, blockOut_apply j keys vals _ _ sink _ h d l hl, head_apply _ _ _ d _ (top s z) (by
    rw [hZ]; unfold top; congr 1; exact congrArg (Finset.univ.fold max ⊥) (funext fun k => (hS k).symm))]
  rw [hZ]
  have hl' : l = ⟨64 * h.val + d.val, by omega⟩ := Fin.ext hl
  refine congrArg₂ (fun a b => a * Ideal.div 1 (b + _)) (Finset.sum_congr rfl fun k _ => ?_) (Finset.sum_congr rfl fun k _ => ?_)
  · rw [hS k, hl']; rfl
  · rw [hS k]

end Cert.KernelIdeal.Attn
-- ==== Proof.AttnRef.lean ====
module

public import proofs.«01_k».proof.Proof.AttnWords
public import proofs.«01_k».proof.Proof.AttnMath
public import proofs.«01_k».proof.Proof.Gen.ReferenceIdeal.Read

/-!
# The attention reference over the extended reals, read at a place
-/

@[expose] public section

set_option maxRecDepth 16384

noncomputable section

namespace Cert.ReferenceIdeal.Attn

open Cert.ReferenceIdeal Cert.ReferenceIdeal.Read
open Idealize.ShloMosaic

/-- The keys of a sequence with one block of zero rows before it and one after it. -/
theorem padded_apply (x : (⟨S32768x256, .bf16⟩ : BufTy).Contents (Elt Ideal)) (b : Fin 8) (t : Fin 4352) (h : Fin 4) (d : Fin 64) :
    val_main_v5 (F := Ideal) x (ix4 b t h d) = if ht : 128 ≤ t.val ∧ t.val < 4224 then
      x (ix2 ⟨4096 * b.val + (t.val - 128), by omega⟩ ⟨64 * h.val + d.val, by omega⟩) else (0 : EReal) := by
  pointwise [val_main_v5, val_main_v4, val_main_v3, val_main_call0_v0, val_main_c]
  have ht := t.isLt
  by_cases hc : 128 ≤ t.val ∧ t.val < 4224
  · rw [dif_pos hc, dif_pos (by omega)]
    exact congrArg₂ (fun a c => x (ix2 a c)) (Fin.ext (by show b.val * 4096 + (t.val - 128) = 4096 * b.val + (t.val - 128); omega))
      (Fin.ext (by show h.val * 64 + d.val = 64 * h.val + d.val; omega))
  · rw [dif_neg hc, dif_neg (by omega)]
    show ((((0#32 : BitVec 32).toInt : ℤ) : ℝ) : EReal) = 0
    simp

/-- The three blocks a query block looks at, as consecutive rows of the padded sequence. -/
theorem band_apply (x : (⟨S32768x256, .bf16⟩ : BufTy).Contents (Elt Ideal)) (b : Fin 8) (n : Fin 32) (k : Fin 384) (h : Fin 4) (d : Fin 64) :
    val_main_v10 (F := Ideal) x (ix5 b n k h d) = val_main_v5 (F := Ideal) x (ix4 b ⟨128 * n.val + k.val, by omega⟩ h d) := by
  pointwise [val_main_v10, val_main_v6, val_main_v7, val_main_v8, val_main_v9]
  have hk := k.isLt
  by_cases h1 : k.val < 128
  · rw [dif_pos h1]
    exact congrArg (fun t => val_main_v5 x (ix4 b t h d)) (Fin.ext (by show n.val * 128 + k.val = 128 * n.val + k.val; omega))
  · rw [dif_neg h1]
    by_cases h2 : k.val - 128 < 128
    · rw [dif_pos h2]
      exact congrArg (fun t => val_main_v5 x (ix4 b t h d)) (Fin.ext (by show (1 + n.val) * 128 + (k.val - 128) = 128 * n.val + k.val; omega))
    · rw [dif_neg h2]
      exact congrArg (fun t => val_main_v5 x (ix4 b t h d)) (Fin.ext (by show (2 + n.val) * 128 + (k.val - 128 - 128) = 128 * n.val + k.val; omega))

/-- The mask at a query and a key. -/
theorem mask_apply (n : Fin 32) (r : Fin 128) (k : Fin 384) :
    val_main_v53 (F := Ideal) (ix3 n r k) = 1 ↔ Cert.KernelIdeal.Attn.Seen n.val k r := by
  have hn := n.isLt
  have hr := r.isLt
  have hk := k.isLt
  pointwise [val_main_v53, val_main_v52, val_main_v51, val_main_v50, val_main_v49, val_main_v48, val_main_v47, val_main_v46, val_main_v45,
    val_main_v44, val_main_v43, val_main_v42, val_main_v41, val_main_v40, val_main_v39, val_main_v38, val_main_v37, val_main_v36, val_main_v35,
    val_main_v34, val_main_v33, val_main_v32, val_main_v31, val_main_v30, val_main_v29, val_main_v28, val_main_v27, val_main_v26, val_main_v25,
    val_main_v24, val_main_c_1, val_main_c_2, val_main_c_3, val_main_c_4, val_main_c_5]
  have em : IntOp.muli (BitVec.ofNat 32 n.val) 128#32 = BitVec.ofNat 32 (128 * n.val) := by
    show BitVec.ofNat 32 n.val * BitVec.ofNat 32 128 = _
    rw [← BitVec.ofNat_mul, Nat.mul_comm]
  have ek : IntOp.addi (IntOp.subi (IntOp.muli (BitVec.ofNat 32 n.val) 128#32) 128#32) (BitVec.ofNat 32 k.val)
      = BitVec.ofNat 32 (128 * n.val + k.val) - BitVec.ofNat 32 128 := by
    rw [em, BitVec.ofNat_add]
    show BitVec.ofNat 32 (128 * n.val) - BitVec.ofNat 32 128 + BitVec.ofNat 32 k.val = _
    generalize BitVec.ofNat 32 128 = c, BitVec.ofNat 32 (128 * n.val) = a, BitVec.ofNat 32 k.val = d
    grind
  have eq : IntOp.subi (IntOp.addi (IntOp.muli (BitVec.ofNat 32 n.val) 128#32) (BitVec.ofNat 32 r.val))
      (BitVec.ofNat 32 (128 * n.val + k.val) - BitVec.ofNat 32 128) = BitVec.ofNat 32 (128 + r.val) - BitVec.ofNat 32 k.val := by
    rw [em, BitVec.ofNat_add, BitVec.ofNat_add]
    show BitVec.ofNat 32 (128 * n.val) + BitVec.ofNat 32 r.val - (BitVec.ofNat 32 (128 * n.val) + BitVec.ofNat 32 k.val - BitVec.ofNat 32 128) = _
    generalize BitVec.ofNat 32 128 = c, BitVec.ofNat 32 (128 * n.val) = a, BitVec.ofNat 32 k.val = d
    generalize BitVec.ofNat 32 r.val = e
    grind
  rw [ek, eq]
  have ea := Cert.KernelIdeal.Attn.toInt_diff (128 + r.val) k.val (by omega) (by omega)
  have eb := Cert.KernelIdeal.Attn.toInt_diff (128 * n.val + k.val) 128 (by omega) (by omega)
  unfold Cert.KernelIdeal.Attn.Seen
  generalize BitVec.ofNat 32 (128 + r.val) - BitVec.ofNat 32 k.val = A at ea ⊢
  generalize BitVec.ofNat 32 (128 * n.val + k.val) - BitVec.ofNat 32 128 = B at eb ⊢
  generalize n.val = n' at *
  generalize k.val = k' at *
  generalize r.val = r' at *
  have z : (0#32).toInt = 0 := rfl
  have c128 : (128#32).toInt = 128 := rfl
  have c4096 : (4096#32).toInt = 4096 := rfl
  have e1 : IntOp.cmpi .sle (IntOp.absi A) 128#32 = BitVec.ofBool (decide (r' ≤ k' ∧ k' ≤ r' + 256)) := by
    have hA : (IntOp.absi A).toInt = |A.toInt| := by
      unfold IntOp.absi
      rw [BitVec.msb_eq_toInt]
      by_cases hneg : A.toInt < 0
      · rw [if_pos (by simpa using hneg), BitVec.toInt_neg, Int.bmod, abs_of_neg hneg]
        simp only [Nat.reducePow] at *
        split_ifs <;> omega
      · rw [if_neg (by simpa using hneg), abs_of_nonneg (by omega)]
    simp only [IntOp.cmpi, BitVec.sle, hA, c128]
    refine congrArg BitVec.ofBool (decide_eq_decide.2 ?_)
    rw [abs_le]
    omega
  have e2 : IntOp.cmpi .sge B 0#32 = BitVec.ofBool (decide (128 ≤ k' ∨ 0 < n')) := by
    simp only [IntOp.cmpi, BitVec.sle, eb, z]
    exact congrArg BitVec.ofBool (decide_eq_decide.2 (by omega))
  have e3 : IntOp.cmpi .slt B 4096#32 = BitVec.ofBool (decide (k' < 256 ∨ n' < 31)) := by
    simp only [IntOp.cmpi, BitVec.slt, eb, c4096]
    exact congrArg BitVec.ofBool (decide_eq_decide.2 (by omega))
  rw [e1, e2, e3]
  have key : ∀ p q u : Bool, IntOp.andi (IntOp.andi (BitVec.ofBool p) (BitVec.ofBool q)) (BitVec.ofBool u) = 1 ↔ p = true ∧ q = true ∧ u = true := by decide
  rw [key, decide_eq_true_eq, decide_eq_true_eq, decide_eq_true_eq, and_assoc]

/-- The products of the query and the keys. -/
theorem dots_apply (x0 : (⟨S32768x768, .bf16⟩ : BufTy).Contents (Elt Ideal)) (x1 : (⟨S32768x256, .bf16⟩ : BufTy).Contents (Elt Ideal))
    (b : Fin 8) (n : Fin 32) (h : Fin 4) (g : Fin 3) (r : Fin 128) (k : Fin 384) :
    val_main_v20 (F := Ideal) x0 x1 (ix6 b n h g r k) = ∑ e : Fin 64, val_main_v10 (F := Ideal) x1 (ix5 b n k h e) *
      x0 (ix2 ⟨4096 * b.val + 128 * n.val + r.val, by omega⟩ ⟨256 * g.val + (64 * h.val + e.val), by omega⟩) := by
  pointwise [val_main_v20, val_main_v19, val_main_v2, val_main_v1, val_main_v0]
  refine Finset.sum_congr rfl fun e _ => ?_
  refine congrArg₂ (fun a c => val_main_v10 x1 (ix5 b n k h e) * x0 (ix2 a c)) (Fin.ext ?_) (Fin.ext ?_)
  · show b.val * 4096 + n.val * 128 + r.val = 4096 * b.val + 128 * n.val + r.val; omega
  · show g.val * 256 + h.val * 64 + e.val = 256 * g.val + (64 * h.val + e.val); omega

/-- The scores of the reference: a key's product with the query, or minus infinity where the query doesn't see the key. -/
def score (x0 : (⟨S32768x768, .bf16⟩ : BufTy).Contents (Elt Ideal)) (x1 : (⟨S32768x256, .bf16⟩ : BufTy).Contents (Elt Ideal))
    (b : Fin 8) (n : Fin 32) (h : Fin 4) (g : Fin 3) (r : Fin 128) (k : Fin 384) : EReal :=
  if Cert.KernelIdeal.Attn.Seen n.val k r then ∑ e : Fin 64, val_main_v10 (F := Ideal) x1 (ix5 b n k h e) *
      x0 (ix2 ⟨4096 * b.val + 128 * n.val + r.val, by omega⟩ ⟨256 * g.val + (64 * h.val + e.val), by omega⟩) else ⊥

/-- The logarithm of the constant two. -/
theorem log_two : Ideal.log (Ideal.ofBits .f32 0x40000000#32) = Cert.Attn.ln2 := by
  have : Ideal.ofBits .f32 0x40000000#32 = ((2 : ℝ) : EReal) := by
    simp [Ideal.ofBits, Ideal.ieee]
    rw [← EReal.coe_mul]
    norm_num
  rw [this]
  show (if (2 : ℝ) ≤ 0 then (⊥ : EReal) else ((Real.log 2 : ℝ) : EReal)) = _
  rw [if_neg (by norm_num)]; rfl

/-- The masked, scaled scores. -/
theorem scaled_apply (x0 : (⟨S32768x768, .bf16⟩ : BufTy).Contents (Elt Ideal)) (x1 : (⟨S32768x256, .bf16⟩ : BufTy).Contents (Elt Ideal))
    (b : Fin 8) (n : Fin 32) (h : Fin 4) (g : Fin 3) (r : Fin 128) (k : Fin 384) :
    val_main_v55 (F := Ideal) x0 x1 (ix6 b n h g r k) = score x0 x1 b n h g r k * Cert.Attn.ln2 := by
  pointwise [val_main_v55, val_main_call2_v1, val_main_call2_v2, val_main_call2_v0, val_main_cst_6, val_main_v54, val_main_v23, val_main_v22,
    val_main_v21, val_main_cst, dots_apply, log_two]
  rw [Scalar.select, score]
  by_cases hs : Cert.KernelIdeal.Attn.Seen n.val k r
  · rw [if_pos ((mask_apply n r k).2 hs), if_pos hs]
  · rw [if_neg (fun e => hs ((mask_apply n r k).1 e)), if_neg hs, Cert.Attn.bot_mul_ln2]
    show Ideal.ofBits .f32 0xFF800000#32 = (⊥ : EReal)
    simp [Ideal.ofBits, Ideal.ieee]

/-- The places a maximum over the last of six axes runs over. -/
theorem fiber (b : Fin 8) (n : Fin 32) (h : Fin 4) (g : Fin 3) (r : Fin 128) (i : S8x32x4x3x128x384.Idx) :
    Gen.reducesTo_S8x32x4x3x128x384_S8x32x4x3x128_d5.drop i = ix5 b n h g r ↔ ∃ k : Fin 384, ix6 b n h g r k = i := by
  constructor
  · intro e
    refine ⟨i 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext a; apply Fin.ext
    match a with
    | ⟨0, _⟩ => rfl
    | ⟨1, _⟩ => rfl
    | ⟨2, _⟩ => rfl
    | ⟨3, _⟩ => rfl
    | ⟨4, _⟩ => rfl

/-- The maximum of a query's scores. -/
theorem max_apply (x0 : (⟨S32768x768, .bf16⟩ : BufTy).Contents (Elt Ideal)) (x1 : (⟨S32768x256, .bf16⟩ : BufTy).Contents (Elt Ideal))
    (b : Fin 8) (n : Fin 32) (h : Fin 4) (g : Fin 3) (r : Fin 128) :
    val_main_v58 (F := Ideal) x0 x1 (ix5 b n h g r) = Finset.univ.fold max ⊥ fun k : Fin 384 => score x0 x1 b n h g r k * Cert.Attn.ln2 := by
  simp only [← scaled_apply]
  rw [val_main_v58]
  generalize val_main_v55 (F := Ideal) x0 x1 = y
  have e : (val_main_cst_7 (F := Ideal)) (Shape.Idx.first Gen.h_S_) = (⊥ : EReal) := by
    show Ideal.ofBits .f32 0xFF800000#32 = (⊥ : EReal)
    simp [Ideal.ofBits, Ideal.ieee]
  rw [Host.reduce_eq_fold, e]
  exact Finset.fold_filter_eq_fold_of_fiber max _ (fun k : Fin 384 => ix6 b n h g r k) (fun _ _ e => congrFun e 5) (fiber b n h g r) _ y

/-- The sink of head `h` in group `g`. -/
def sinkOf (x3 : (⟨S12, .f32⟩ : BufTy).Contents (Elt Ideal)) (h : Fin 4) (g : Fin 3) : EReal := x3 (ix1 ⟨h.val * 3 + g.val, by omega⟩)

/-- The larger of the maximum and the sink. -/
def top (x0 : (⟨S32768x768, .bf16⟩ : BufTy).Contents (Elt Ideal)) (x1 : (⟨S32768x256, .bf16⟩ : BufTy).Contents (Elt Ideal))
    (x3 : (⟨S12, .f32⟩ : BufTy).Contents (Elt Ideal)) (b : Fin 8) (n : Fin 32) (h : Fin 4) (g : Fin 3) (r : Fin 128) : EReal :=
  max (Finset.univ.fold max ⊥ fun k : Fin 384 => score x0 x1 b n h g r k * Cert.Attn.ln2) (sinkOf x3 h g)

/-- The sink read at a query. -/
theorem sink_apply (x3 : (⟨S12, .f32⟩ : BufTy).Contents (Elt Ideal)) (b : Fin 8) (n : Fin 32) (h : Fin 4) (g : Fin 3) (r : Fin 128) (o : Fin 1) :
    val_main_v60 (F := Ideal) x3 (ix6 b n h g r o) = sinkOf x3 h g := by
  pointwise [val_main_v60, val_main_v57, val_main_v56, sinkOf]
/-- The number a query's scores are shifted by. -/
theorem top_apply (x0 : (⟨S32768x768, .bf16⟩ : BufTy).Contents (Elt Ideal)) (x1 : (⟨S32768x256, .bf16⟩ : BufTy).Contents (Elt Ideal))
    (x3 : (⟨S12, .f32⟩ : BufTy).Contents (Elt Ideal)) (b : Fin 8) (n : Fin 32) (h : Fin 4) (g : Fin 3) (r : Fin 128) (o : Fin 1) :
    val_main_v61 (F := Ideal) x0 x1 x3 (ix6 b n h g r o) = top x0 x1 x3 b n h g r := by
  have e : idx_main_v59 (ix6 b n h g r o) = ix5 b n h g r := by
    funext a
    match a with
    | ⟨0, _⟩ => rfl
    | ⟨1, _⟩ => rfl
    | ⟨2, _⟩ => rfl
    | ⟨3, _⟩ => rfl
    | ⟨4, _⟩ => rfl
  rw [val_main_v61_apply, val_main_v59_apply, e, sink_apply, max_apply, top]
  generalize (Finset.univ.fold max ⊥ fun k : Fin 384 => score x0 x1 b n h g r k * Cert.Attn.ln2) = u
  generalize sinkOf x3 h g = v
  rfl

/-- A query's unnormalised weight of a key. -/
theorem weight_apply (x0 : (⟨S32768x768, .bf16⟩ : BufTy).Contents (Elt Ideal)) (x1 : (⟨S32768x256, .bf16⟩ : BufTy).Contents (Elt Ideal))
    (x3 : (⟨S12, .f32⟩ : BufTy).Contents (Elt Ideal)) (b : Fin 8) (n : Fin 32) (h : Fin 4) (g : Fin 3) (r : Fin 128) (k : Fin 384) :
    val_main_v64 (F := Ideal) x0 x1 x3 (ix6 b n h g r k) = Ideal.exp (score x0 x1 b n h g r k * Cert.Attn.ln2 - top x0 x1 x3 b n h g r) := by
  pointwise [val_main_v64, val_main_v63, val_main_v62, top_apply, scaled_apply]

/-- The denominator: the sum of the weights, and the weight of the sink. -/
def denom (x0 : (⟨S32768x768, .bf16⟩ : BufTy).Contents (Elt Ideal)) (x1 : (⟨S32768x256, .bf16⟩ : BufTy).Contents (Elt Ideal))
    (x3 : (⟨S12, .f32⟩ : BufTy).Contents (Elt Ideal)) (b : Fin 8) (n : Fin 32) (h : Fin 4) (g : Fin 3) (r : Fin 128) : EReal :=
  ∑ k : Fin 384, Ideal.exp (score x0 x1 b n h g r k * Cert.Attn.ln2 - top x0 x1 x3 b n h g r) +
    Ideal.exp (sinkOf x3 h g - top x0 x1 x3 b n h g r)

/-- The denominator of a query. -/
theorem denom_apply (x0 : (⟨S32768x768, .bf16⟩ : BufTy).Contents (Elt Ideal)) (x1 : (⟨S32768x256, .bf16⟩ : BufTy).Contents (Elt Ideal))
    (x3 : (⟨S12, .f32⟩ : BufTy).Contents (Elt Ideal)) (b : Fin 8) (n : Fin 32) (h : Fin 4) (g : Fin 3) (r : Fin 128) (o : Fin 1) :
    val_main_v70 (F := Ideal) x0 x1 x3 (ix6 b n h g r o) = denom x0 x1 x3 b n h g r := by
  have sink_apply' : ∀ o, val_main_v67 (F := Ideal) x3 (ix6 b n h g r o) = sinkOf x3 h g := sink_apply x3 b n h g r
  have es : val_main_v65 (F := Ideal) x0 x1 x3 (ix5 b n h g r)
      = ∑ k : Fin 384, Ideal.exp (score x0 x1 b n h g r k * Cert.Attn.ln2 - top x0 x1 x3 b n h g r) := by
    rw [val_main_v65_apply, show (val_main_cst_8 (F := Ideal)) (Shape.Idx.first Gen.h_S_) = (0 : EReal) by
      show Ideal.ofBits .f32 0#32 = (0 : EReal); simp [Ideal.ofBits, Ideal.ieee], zero_add]
    refine Finset.sum_congr rfl fun k _ => ?_
    rw [← weight_apply]
    refine congrArg (val_main_v64 (F := Ideal) x0 x1 x3) ?_
    funext a
    match a with
    | ⟨0, _⟩ => rfl
    | ⟨1, _⟩ => rfl
    | ⟨2, _⟩ => rfl
    | ⟨3, _⟩ => rfl
    | ⟨4, _⟩ => rfl
    | ⟨5, _⟩ => rfl
  pointwise [val_main_v70, val_main_v69, val_main_v68, sink_apply', val_main_v66, top_apply, es]
  rw [denom]

/-- A query's weight of a key. -/
theorem prob_apply (x0 : (⟨S32768x768, .bf16⟩ : BufTy).Contents (Elt Ideal)) (x1 : (⟨S32768x256, .bf16⟩ : BufTy).Contents (Elt Ideal))
    (x3 : (⟨S12, .f32⟩ : BufTy).Contents (Elt Ideal)) (b : Fin 8) (n : Fin 32) (h : Fin 4) (g : Fin 3) (r : Fin 128) (k : Fin 384) :
    val_main_v72 (F := Ideal) x0 x1 x3 (ix6 b n h g r k) = Ideal.div
      (Ideal.exp (score x0 x1 b n h g r k * Cert.Attn.ln2 - top x0 x1 x3 b n h g r)) (denom x0 x1 x3 b n h g r) := by
  pointwise [val_main_v72, val_main_v71, weight_apply, denom_apply]

/-- The reference's result at a place: the weighted sum of the values of the band. -/
theorem result_apply (x0 : (⟨S32768x768, .bf16⟩ : BufTy).Contents (Elt Ideal)) (x1 x2 : (⟨S32768x256, .bf16⟩ : BufTy).Contents (Elt Ideal))
    (x3 : (⟨S12, .f32⟩ : BufTy).Contents (Elt Ideal))
    (b : Fin 8) (n : Fin 32) (h : Fin 4) (g : Fin 3) (r : Fin 128) (d : Fin 64) :
    val_main_v76 (F := Ideal) x0 x1 x2 x3 (ix2 ⟨4096 * b.val + 128 * n.val + r.val, by omega⟩ ⟨256 * g.val + (64 * h.val + d.val), by omega⟩)
    = ∑ k : Fin 384, val_main_v10 (F := Ideal) x2 (ix5 b n k h d) * Ideal.div
      (Ideal.exp (score x0 x1 b n h g r k * Cert.Attn.ln2 - top x0 x1 x3 b n h g r)) (denom x0 x1 x3 b n h g r) := by
  have e : val_main_v76 (F := Ideal) x0 x1 x2 x3 (ix2 ⟨4096 * b.val + 128 * n.val + r.val, by omega⟩ ⟨256 * g.val + (64 * h.val + d.val), by omega⟩)
      = val_main_v74 (F := Ideal) x0 x1 x2 x3 (ix6 b n r g h d) := by
    pointwise [val_main_v76, val_main_v75]
  have ev : val_main_v18 (F := Ideal) x2 = val_main_v10 (F := Ideal) x2 := rfl
  rw [e]
  pointwise [val_main_v74, val_main_v73, prob_apply, ev]

end Cert.ReferenceIdeal.Attn
-- ==== Proof.AttnFinal.lean ====
module

public import proofs.«01_k».proof.Proof.AttnRun
public import proofs.«01_k».proof.Proof.AttnIdeal
public import proofs.«01_k».proof.Proof.AttnRef
public import proofs.«01_k».proof.Proof.Gen.KernelIdeal.Value
public import Idealize.ShloMosaic.Lib.Pipeline.ValueKit

/-!
# The attention kernel's result is the reference's
-/

@[expose] public section

set_option maxRecDepth 16384

noncomputable section

namespace Cert.KernelIdeal.Attn

open Cert.KernelIdeal Cert.KernelIdeal.Gen
open Idealize.ShloMosaic Idealize.ShloMosaic.TcCoe

/-- Where each window's block lies at a point of the grid. -/
theorem idx : ∀ t : Fin cfg0.N, win0_0.index t = ![0] ∧ win0_1.index t = ![t.val, 0] ∧ win0_2.index t = ![16 * t.val - 1, 0] ∧
    win0_3.index t = ![t.val, 0] ∧ win0_4.index t = ![min (16 * (t.val + 1)) 255, 0] ∧ win0_5.index t = ![16 * t.val - 1, 0] ∧
    win0_6.index t = ![t.val, 0] ∧ win0_7.index t = ![min (16 * (t.val + 1)) 255, 0] ∧ win0_8.index t = ![t.val, 0] ∧
    (grid0.coords t 0).val = t.val :=
  (by decide +kernel : ∀ t : Fin grid0.N, _)

/-- The rows of a tile's band that a query may see are the rows of the whole array around it. -/
theorem band_read (X : FVec Ideal S32768x256 .bf16) (t j : Fin 16) (a : Vec Ideal S128x256 .bf16) (b : Vec Ideal S2048x256 .bf16)
    (d : Vec Ideal S128x256 .bf16)
    (ha : ∀ (r : Fin 128) (c : Fin 256), a (ix2 r c) = X (ix2 ⟨(16 * t.val - 1) * 128 + r.val, by omega⟩ c))
    (hb : ∀ (r : Fin 2048) (c : Fin 256), b (ix2 r c) = X (ix2 ⟨t.val * 2048 + r.val, by omega⟩ c))
    (hd : ∀ (r : Fin 128) (c : Fin 256), d (ix2 r c) = X (ix2 ⟨min (16 * (t.val + 1)) 255 * 128 + r.val, by omega⟩ c))
    (k : Fin 384) (h1 : 128 ≤ k.val ∨ 0 < 16 * t.val % 32 + j.val) (h2 : k.val < 256 ∨ 16 * t.val % 32 + j.val < 31) (c : Fin 256)
    (R : Fin 32768) (hR : R.val + 128 = 2048 * t.val + 128 * j.val + k.val) :
    bandRows a b d (ix2 ⟨128 * j.val + k.val, by omega⟩ c) = X (ix2 R c) := by
  have ht := t.isLt
  have hj := j.isLt
  have hk := k.isLt
  rw [bandRows_apply]
  by_cases e1 : 128 * j.val + k.val < 128
  · rw [dif_pos e1, ha]
    exact congrArg (fun q => X (ix2 q c)) (Fin.ext (by show (16 * t.val - 1) * 128 + (128 * j.val + k.val) = R.val; omega))
  · rw [dif_neg e1]
    by_cases e2 : 128 * j.val + k.val - 128 < 2048
    · rw [dif_pos e2, hb]
      exact congrArg (fun q => X (ix2 q c)) (Fin.ext (by show t.val * 2048 + (128 * j.val + k.val - 128) = R.val; omega))
    · rw [dif_neg e2, hd]
      exact congrArg (fun q => X (ix2 q c)) (Fin.ext (by
        show min (16 * (t.val + 1)) 255 * 128 + (128 * j.val + k.val - 128 - 2048) = R.val; omega))

/-- The same rows in the reference's padded sequence. -/
theorem ref_read (X : FVec Ideal S32768x256 .bf16) (b : Fin 8) (n : Fin 32) (k : Fin 384) (h1 : 128 ≤ k.val ∨ 0 < n.val)
    (h2 : k.val < 256 ∨ n.val < 31) (h : Fin 4) (d : Fin 64) (R : Fin 32768) (hR : R.val + 128 = 4096 * b.val + 128 * n.val + k.val)
    (l : Fin 256) (hl : l.val = 64 * h.val + d.val) :
    Cert.ReferenceIdeal.Read.val_main_v10 (F := Ideal) X (ix5 b n k h d) = X (ix2 R l) := by
  have hn := n.isLt
  have hk := k.isLt
  rw [Cert.ReferenceIdeal.Attn.band_apply, Cert.ReferenceIdeal.Attn.padded_apply]
  rw [dif_pos (show 128 ≤ 128 * n.val + k.val ∧ 128 * n.val + k.val < 4224 by omega)]
  exact congrArg₂ (fun q c => X (ix2 q c)) (Fin.ext (by show 4096 * b.val + (128 * n.val + k.val - 128) = R.val; omega))
    (Fin.ext hl.symm)

/-- A block's stored value is the reference's result there. -/
theorem stored_eq (X0 : FVec Ideal S32768x768 .bf16) (X1 X2 : FVec Ideal S32768x256 .bf16) (X3 : FVec Ideal S12 .f32)
    (real0 : ∀ i, ∃ r : ℝ, (X0 i : EReal) = r) (real1 : ∀ i, ∃ r : ℝ, (X1 i : EReal) = r) (real3 : ∀ i, ∃ r : ℝ, (X3 i : EReal) = r)
    (t j : Fin 16) (x : Vec Ideal S2048x768 .bf16)
    (hx : ∀ (r : Fin 2048) (c : Fin 768), x (ix2 r c) = X0 (ix2 ⟨t.val * 2048 + r.val, by omega⟩ c))
    (a : Vec Ideal S128x256 .bf16) (b : Vec Ideal S2048x256 .bf16) (d : Vec Ideal S128x256 .bf16)
    (ha : ∀ (r : Fin 128) (c : Fin 256), a (ix2 r c) = X1 (ix2 ⟨(16 * t.val - 1) * 128 + r.val, by omega⟩ c))
    (hb : ∀ (r : Fin 2048) (c : Fin 256), b (ix2 r c) = X1 (ix2 ⟨t.val * 2048 + r.val, by omega⟩ c))
    (hd : ∀ (r : Fin 128) (c : Fin 256), d (ix2 r c) = X1 (ix2 ⟨min (16 * (t.val + 1)) 255 * 128 + r.val, by omega⟩ c))
    (a' : Vec Ideal S128x256 .bf16) (b' : Vec Ideal S2048x256 .bf16) (d' : Vec Ideal S128x256 .bf16)
    (ha' : ∀ (r : Fin 128) (c : Fin 256), a' (ix2 r c) = X2 (ix2 ⟨(16 * t.val - 1) * 128 + r.val, by omega⟩ c))
    (hb' : ∀ (r : Fin 2048) (c : Fin 256), b' (ix2 r c) = X2 (ix2 ⟨t.val * 2048 + r.val, by omega⟩ c))
    (hd' : ∀ (r : Fin 128) (c : Fin 256), d' (ix2 r c) = X2 (ix2 ⟨min (16 * (t.val + 1)) 255 * 128 + r.val, by omega⟩ c))
    (sink : Fin 12 → EReal) (hsink : ∀ i, sink i = X3 (ix1 i))
    (g : Fin 3) (r : Fin 128) (h : Fin 4) (e : Fin 64) (l : Fin 256) (hl : l.val = 64 * h.val + e.val)
    (bb : Fin 8) (n : Fin 32) (hbb : bb.val = t.val / 2) (hn : n.val = 16 * t.val % 32 + j.val)
    (i0 : Fin 32768) (hi0 : i0.val = t.val * 2048 + (128 * j.val + r.val)) (i1 : Fin 768) (hi1 : i1.val = 256 * g.val + l.val) :
    stored (F := Ideal) j g (bandRows a b d) (bandCols a' b' d') x (BitVec.ofNat 32 t.val) sink (ix2 r l) =
      Cert.ReferenceIdeal.Read.val_main_v76 (F := Ideal) X0 X1 X2 X3 (ix2 i0 i1) := by
  have hj := j.isLt
  have ht := t.isLt
  have ei0 : i0 = ⟨4096 * bb.val + 128 * n.val + r.val, by omega⟩ := Fin.ext (by show i0.val = 4096 * bb.val + 128 * n.val + r.val; omega)
  have ei1 : i1 = ⟨256 * g.val + (64 * h.val + e.val), by omega⟩ := Fin.ext (by show i1.val = 256 * g.val + (64 * h.val + e.val); omega)
  rw [ei0, ei1, Cert.ReferenceIdeal.Attn.result_apply]
  obtain ⟨z, hz⟩ := real3 (ix1 ⟨h.val * 3 + g.val, by omega⟩)
  have hsc : Cert.ReferenceIdeal.Attn.score X0 X1 bb n h g r = score j (16 * t.val % 32 + j.val) g (bandRows a b d) x r h := by
    funext k
    have hk := k.isLt
    rw [Cert.ReferenceIdeal.Attn.score, score, ← hn]
    refine if_ctx_congr Iff.rfl (fun hs => ?_) (fun _ => rfl)
    refine Finset.sum_congr rfl fun q _ => ?_
    have hlo := hs.2.2.1
    have hhi := hs.2.2.2
    rw [ref_read X1 bb n k hlo hhi h q ⟨2048 * t.val + 128 * j.val + k.val - 128, by omega⟩
        (by show 2048 * t.val + 128 * j.val + k.val - 128 + 128 = _; omega) ⟨64 * h.val + q.val, by omega⟩ rfl,
      band_read X1 t j a b d ha hb hd k (hn ▸ hlo) (hn ▸ hhi) _ ⟨2048 * t.val + 128 * j.val + k.val - 128, by omega⟩
        (by show 2048 * t.val + 128 * j.val + k.val - 128 + 128 = _; omega), hx]
    refine congrArg (fun w => X1 _ * X0 (ix2 w _)) (Fin.ext ?_)
    show 4096 * bb.val + 128 * n.val + r.val = t.val * 2048 + (128 * j.val + r.val)
    omega
  have hS : ∀ k, Cert.ReferenceIdeal.Attn.score X0 X1 bb n h g r k = ⊥ ∨ ∃ w : ℝ, Cert.ReferenceIdeal.Attn.score X0 X1 bb n h g r k = w := by
    intro k
    rw [Cert.ReferenceIdeal.Attn.score]
    by_cases hs : Seen n.val k r
    · rw [if_pos hs]
      right
      have hk := k.isLt
      have hlo := hs.2.2.1
      have hhi := hs.2.2.2
      have hq : ∀ q : Fin 64, ∃ w : ℝ, Cert.ReferenceIdeal.Read.val_main_v10 (F := Ideal) X1 (ix5 bb n k h q) *
          (X0 (ix2 ⟨4096 * bb.val + 128 * n.val + r.val, by omega⟩ ⟨256 * g.val + (64 * h.val + q.val), by omega⟩) : EReal) = w := fun q => by
        rw [ref_read X1 bb n k hlo hhi h q ⟨2048 * t.val + 128 * j.val + k.val - 128, by omega⟩
          (by show 2048 * t.val + 128 * j.val + k.val - 128 + 128 = _; omega) ⟨64 * h.val + q.val, by omega⟩ rfl]
        obtain ⟨u, hu⟩ := real1 (ix2 ⟨2048 * t.val + 128 * j.val + k.val - 128, by omega⟩ ⟨64 * h.val + q.val, by omega⟩)
        obtain ⟨v, hv⟩ := real0 (ix2 ⟨4096 * bb.val + 128 * n.val + r.val, by omega⟩ ⟨256 * g.val + (64 * h.val + q.val), by omega⟩)
        exact ⟨u * v, by rw [hu, hv, EReal.coe_mul]⟩
      choose w hw using hq
      exact ⟨∑ q, w q, by rw [← Cert.Attn.sum_coe]; exact Finset.sum_congr rfl fun q _ => hw q⟩
    · exact .inl (if_neg hs)
  rw [stored_value t j g _ _ x sink r h e l hl _ rfl (z : EReal) (by
    rw [hsink, ← hz]; exact congrArg (fun w => X3 (ix1 w)) (Fin.ext (by show h.val * 3 + g.val = 3 * h.val + g.val; omega))), ← hsc]
  refine Cert.Attn.softmax_eq _ (fun k => bandCols a' b' d' (ix2 l ⟨128 * j.val + k.val, by omega⟩)) _ z hS (fun k => ?_) _ _ _ _ rfl ?_ rfl ?_
  · by_cases hs : Seen n.val k r
    · right
      have hk := k.isLt
      have hlo := hs.2.2.1
      have hhi := hs.2.2.2
      rw [ref_read X2 bb n k hlo hhi h e ⟨2048 * t.val + 128 * j.val + k.val - 128, by omega⟩
        (by show 2048 * t.val + 128 * j.val + k.val - 128 + 128 = _; omega) l hl, bandCols_apply,
        band_read X2 t j a' b' d' ha' hb' hd' k (hn ▸ hlo) (hn ▸ hhi) _ ⟨2048 * t.val + 128 * j.val + k.val - 128, by omega⟩
          (by show 2048 * t.val + 128 * j.val + k.val - 128 + 128 = _; omega)]
    · left
      rw [Cert.ReferenceIdeal.Attn.score, if_neg hs]
  · rw [Cert.ReferenceIdeal.Attn.top, Cert.ReferenceIdeal.Attn.sinkOf, hz]
  · rw [Cert.ReferenceIdeal.Attn.denom, Cert.ReferenceIdeal.Attn.sinkOf, hz]

/-- A sink read from its array. -/
theorem sinkAt_apply (v : Vec Ideal S12 .f32) (i : Fin 12) : sinkAt v i = v (ix1 i) := by
  unfold sinkAt
  refine congrArg v (funext fun a => ?_)
  match a with
  | ⟨0, _⟩ => exact Fin.ext (show i.val + 1 * 0 = i.val by omega)

variable (m : (ℓ : Loc nD τ sig) → Buf (Elt Ideal) ℓ)

/-- After the kernel's run the result array is the reference's, wherever queries, keys and sinks are real numbers. -/
theorem final (c : Dev nD) (X0 : FVec Ideal S32768x768 .bf16) (X1 X2 : FVec Ideal S32768x256 .bf16) (X3 : FVec Ideal S12 .f32)
    (h0 : X0 = m ((c.tc : Thread nD τ).loc main_arg0)) (h1 : X1 = m ((c.tc : Thread nD τ).loc main_arg1))
    (h2 : X2 = m ((c.tc : Thread nD τ).loc main_arg2)) (h3 : X3 = m ((c.tc : Thread nD τ).loc main_arg3))
    (real0 : ∀ i, ∃ r : ℝ, (X0 i : EReal) = r) (real1 : ∀ i, ∃ r : ℝ, (X1 i : EReal) = r)
    (real3 : ∀ i, ∃ r : ℝ, (X3 i : EReal) = r) :
    (dats m 0 c).arrAt 8 (cfgs 0).N = Cert.ReferenceIdeal.Read.val_main_v76 (F := Ideal) X0 X1 X2 X3 := by
  refine (dats m 0 c).arrAt_eq_of_covers 8 _ (by decide +kernel) fun t _ y => ?_
  blk_simp
  rw [after0_8, outs_eq, (idx t).2.2.2.2.2.2.2.2.2]
  have ht : t.val < 16 := t.isLt
  have hy0 : (y 0).val < 2048 := (y 0).isLt
  have hy1 : (y 1).val < 768 := (y 1).isLt
  rw [canon_pieces _ _ _ _ _ (⟨(y 0).val / 128, by omega⟩ : Fin 16) (⟨(y 1).val / 256, by omega⟩ : Fin 3)
    (⟨(y 0).val % 128, by omega⟩ : Fin 128) (⟨(y 1).val % 256, by omega⟩ : Fin 256) y
    (by show (y 0).val = 128 * ((y 0).val / 128) + (y 0).val % 128; omega)
    (by show (y 1).val = 256 * ((y 1).val / 256) + (y 1).val % 256; omega)]
  refine (stored_eq X0 X1 X2 X3 real0 real1 real3 (⟨t.val, ht⟩ : Fin 16) _ (iblk m c 1 t) ?_ (iblk m c 2 t) (iblk m c 3 t) (iblk m c 4 t) ?_ ?_ ?_
    (iblk m c 5 t) (iblk m c 6 t) (iblk m c 7 t) ?_ ?_ ?_ _ ?_ _ _ (⟨(y 1).val % 256 / 64, by omega⟩ : Fin 4)
    (⟨(y 1).val % 256 % 64, by omega⟩ : Fin 64) _ ?_ (⟨t.val / 2, by omega⟩ : Fin 8)
    (⟨16 * t.val % 32 + (y 0).val / 128, by omega⟩ : Fin 32) rfl rfl
    (⟨t.val * 2048 + (y 0).val, by omega⟩ : Fin 32768) ?_ (⟨(y 1).val, hy1⟩ : Fin 768) ?_).trans ?_
  · intro r q; subst h0; blk_ext [iblk, V, idx t]
  · intro r q; subst h1; blk_ext [iblk, V, idx t]
  · intro r q; subst h1; blk_ext [iblk, V, idx t]
  · intro r q; subst h1; blk_ext [iblk, V, idx t]
  · intro r q; subst h2; blk_ext [iblk, V, idx t]
  · intro r q; subst h2; blk_ext [iblk, V, idx t]
  · intro r q; subst h2; blk_ext [iblk, V, idx t]
  · intro i
    subst h3
    rw [sinkAt_apply]
    blk_ext [iblk, V, idx t]
  · show (y 1).val % 256 = 64 * ((y 1).val % 256 / 64) + (y 1).val % 256 % 64; omega
  · show t.val * 2048 + (y 0).val = t.val * 2048 + (128 * ((y 0).val / 128) + (y 0).val % 128); omega
  · show (y 1).val = 256 * ((y 1).val / 256) + (y 1).val % 256; omega
  · refine congrArg (Cert.ReferenceIdeal.Read.val_main_v76 (F := Ideal) X0 X1 X2 X3) ?_
    blk_ext [idx t]

end Cert.KernelIdeal.Attn
-- ==== Proof.AttnClaim.lean ====
module

public import proofs.«01_k».proof.Defs
public import proofs.«01_k».proof.Proof.AttnPre
public import proofs.«01_k».proof.Proof.AttnFinal
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import Idealize.ShloMosaic.Lib.Claim

/-!
# The claims about the attention call
-/

@[expose] public section

set_option maxRecDepth 16384

noncomputable section

namespace Cert.Proof

open Idealize.ShloMosaic Idealize.ShloMosaic.TcCoe Idealize.SL.Sem

/-- The reference of the attention terminates, changes no argument and leaves every semaphore at zero. -/
theorem attn_ref_frame : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩) (Cert.ReferenceIdeal.Value.run (F := Ideal) m g)

/-- The same where the precondition holds. -/
theorem attn_ref_frame_pre : Cert.quiescent_ReferenceIdeal_pre_finite (hReferenceIdeal := Cert.ReferenceIdeal.Gen.facts)
    (hPre_finite := Cert.Attn.pre_facts) := fun m g _ => attn_ref_frame m g trivial

set_option maxHeartbeats 1600000 in
/-- The attention kernel and the attention reference compute the same array over the extended reals. -/
theorem attn_algebraic : Cert.algebraic_KernelIdeal_ReferenceIdeal_pre_finite (hKernelIdeal := Cert.KernelIdeal.Gen.facts)
    (hReferenceIdeal := Cert.ReferenceIdeal.Gen.facts) (hPre_finite := Cert.Attn.pre_facts) := by
  pair_intro
  · run_from Cert.KernelIdeal.Gen.run_main m g
  · run_from Cert.ReferenceIdeal.Value.run m' g'
    haveI := Cert.Attn.pre_facts
    obtain ⟨r0, r1, r3⟩ := Cert.Attn.real_of_pre _ _ _ _ (hpre c)
    rw [Cert.KernelIdeal.Attn.final m c _ _ _ _ rfl rfl rfl rfl r0 r1 r3, Cert.ReferenceIdeal.Read.val_main_v76_eq, (hagree c).1, (hagree c).2.1, (hagree c).2.2.1,
      (hagree c).2.2.2]

end Cert.Proof
-- ==== Proof.FfnBlock.lean ====
module

public import proofs.«01_k».proof.Proof.Gen.FfnIdeal.Value
public import Idealize.ShloMosaic.Lib.Pipeline.ValueKit

/-!
# What the body of the feed-forward kernel leaves in its output tile

The body handles a tile of 1024 rows as two parts of 512 rows. For a part it takes the 2816 hidden channels in 11
chunks of 256, adds each chunk's product into the output tile, and at last replaces the sum by the input plus half the
sum normalised. Here one chunk and the closing step are written once, and the 24 stores of the body are shown to be
these at the two parts and the 11 chunks.
-/

@[expose] public section

set_option maxRecDepth 16384

noncomputable section

namespace Cert.FfnIdeal.Ffn

open Cert.FfnIdeal Cert.FfnIdeal.Gen
open Idealize.ShloMosaic Idealize.ShloMosaic.TcCoe Idealize.ShloMosaic.Tactic

variable {F : FTy → Type} [FloatOps F]

/-- Each part's 512 rows lie within the tile. -/
theorem inbR (p : Fin 2) : ∀ a, (![512 * p.val, 0] : Fin 2 → Nat) a + S512x1024.size a ≤ S1024x1024.size a := by
  decide +revert
/-- Each chunk's 256 columns lie within the gate's and the up-projection's weights. -/
theorem inbC (n : Fin 11) : ∀ a, (![0, 0, 0, 256 * n.val] : Fin 4 → Nat) a + S1x1x1024x256.size a ≤ S1x1x1024x2816.size a := by
  decide +revert
/-- Each chunk's 256 rows lie within the down-projection's weights. -/
theorem inbD (n : Fin 11) : ∀ a, (![0, 0, 256 * n.val, 0] : Fin 4 → Nat) a + S1x1x256x1024.size a ≤ S1x1x2816x1024.size a := by
  decide +revert
/-- A norm's weights, read whole, lie within themselves. -/
theorem inbW : ∀ a, (![0, 0] : Fin 2 → Nat) a + S1x1024.size a ≤ S1x1024.size a := by decide

/-- The rows of part `p` of the tile. -/
def rows (p : Fin 2) : Rect S1024x1024 := Rect.unit (s := S1024x1024) ![512 * p.val, 0] S512x1024.size (inbR p)

/-- 512 rows times the reciprocal root of their mean square, times the norm's weights. -/
def rms (x : FVec F S512x1024 .f32) (w : FVec F S1x1024 .f32) : FVec F S512x1024 .f32 :=
  mulf (mulf x (broadcastTo S512x1024 (rsqrt (addf (divf (shapeCast S512x1 (multiReduction .add [1] S512 (mulf x x) 0x00000000#32
      reduces_S512x1024_S512 (.inl rfl) rfl) shapeCasts_S512_S512x1) (broadcast S512x1 (Scalar.ofBits .f32 0x44800000#32)))
    (broadcast S512x1 (Scalar.ofBits .f32 0x358637BD#32)))) broadcasts_S512x1_S512x1024))
    (broadcastTo S512x1024 w broadcasts_S1x1024_S512x1024)

/-- The rows of part `p` of the tile, read. -/
def part (p : Fin 2) (x : Vec F S1024x1024 .f32) : FVec F S512x1024 .f32 :=
  shapeCast S512x1024 (View.ld x (rows p)) shapeCasts_S512x1024_S512x1024

/-- The normalised rows of part `p`, the left factor of its products. -/
def hidden (p : Fin 2) (x : Vec F S1024x1024 .f32) (w : FVec F S1x1024 .f32) : FVec F S512x1024 .bf16 :=
  truncf .bf16 (rms (part p x)
    (shapeCast S1x1024 w shapeCasts_S1x1024_S1x1024)) bitsLt_bf16_f32

/-- The 256 columns of chunk `n` of the gate's or the up-projection's weights. -/
def cut (n : Fin 11) (w : Vec F S1x1x1024x2816 .bf16) : Vec F S1x1x1024x256 .bf16 :=
  View.ld w (Rect.unit (s := S1x1x1024x2816) ![0, 0, 0, 256 * n.val] S1x1x1024x256.size (inbC n))

/-- The same columns as a matrix. -/
def cols (n : Fin 11) (w : Vec F S1x1x1024x2816 .bf16) : FVec F S1024x256 .bf16 :=
  shapeCast S1024x256 (cut n w) shapeCasts_S1x1x1024x256_S1024x256

/-- The 256 rows of chunk `n` of the down-projection's weights. -/
def cutD (n : Fin 11) (w : Vec F S1x1x2816x1024 .bf16) : Vec F S1x1x256x1024 .bf16 :=
  View.ld w (Rect.unit (s := S1x1x2816x1024) ![0, 0, 256 * n.val, 0] S1x1x256x1024.size (inbD n))

/-- The same rows as a matrix. -/
def downs (n : Fin 11) (w : Vec F S1x1x2816x1024 .bf16) : FVec F S256x1024 .bf16 :=
  shapeCast S256x1024 (cutD n w) shapeCasts_S1x1x256x1024_S256x1024

/-- The products of 512 rows with the 256 columns of chunk `n` of the gate's or the up-projection's weights. -/
def proj (n : Fin 11) (h : FVec F S512x1024 .bf16) (w : Vec F S1x1x1024x2816 .bf16) : FVec F S512x256 .f32 :=
  matmul dot_S512x1024_S1024x256_S512x256_1_0_0_1_n_n none h (cols n w) (constant S512x256 .f32 0x00000000#32)

/-- What chunk `n` adds to the 512 rows of a part. -/
def chunk (n : Fin 11) (h : FVec F S512x1024 .bf16) (wg wu : Vec F S1x1x1024x2816 .bf16) (wd : Vec F S1x1x2816x1024 .bf16) :
    FVec F S512x1024 .f32 :=
  matmul dot_S512x256_S256x1024_S512x1024_1_0_0_1_n_n none
    (truncf .bf16 (mulf (mulf (proj n h wg) (logistic (proj n h wg))) (proj n h wu)) bitsLt_bf16_f32)
    (downs n wd) (constant S512x1024 .f32 0x00000000#32)

/-- The closing step of a part: the input plus half the normalised sum. -/
def close (p : Fin 2) (x : Vec F S1024x1024 .f32) (w : FVec F S1x1024 .f32) (acc : Vec F S512x1024 .f32) : FVec F S512x1024 .f32 :=
  addf (part p x)
    (mulf (broadcast S512x1024 (Scalar.ofBits .f32 0x3F000000#32))
      (rms (shapeCast S512x1024 acc shapeCasts_S512x1024_S512x1024) (shapeCast S1x1024 w shapeCasts_S1x1024_S1x1024)))

/-- What part `p` holds after its first chunk and the chunks `ns`, the last one first. -/
def sumOf (h : FVec F S512x1024 .bf16) (wg wu : Vec F S1x1x1024x2816 .bf16) (wd : Vec F S1x1x2816x1024 .bf16) :
    List (Fin 11) → FVec F S512x1024 .f32
  | [] => chunk 0 h wg wu wd
  | n :: ns => addf (shapeCast S512x1024 (sumOf h wg wu wd ns) shapeCasts_S512x1024_S512x1024) (chunk n h wg wu wd)

/-- The stores of part `p` for its first chunk and the chunks `ns`, on top of the stores `L`, the last one first: each
reads back what the one before it wrote. -/
def accL {sig : RefSig} {κ : Kind} {sp : Space} (v : View sig κ sp S1024x1024 .f32) (p : Fin 2) (h : FVec F S512x1024 .bf16)
    (wg wu : Vec F S1x1x1024x2816 .bf16) (wd : Vec F S1x1x2816x1024 .bf16) (L : List (View.Piece (Elt F) S1024x1024 .f32)) :
    List (Fin 11) → List (View.Piece (Elt F) S1024x1024 .f32)
  | [] => ⟨rows p, chunk 0 h wg wu wd⟩ :: L
  | n :: ns => ⟨rows p, addf (shapeCast S512x1024 (v.readCov (accL v p h wg wu wd L ns) (rows p).toLoadRect) shapeCasts_S512x1024_S512x1024)
      (chunk n h wg wu wd)⟩ :: accL v p h wg wu wd L ns

/-- All the stores of part `p`, on top of the stores `L`. -/
def partL {sig : RefSig} {κ : Kind} {sp : Space} (v : View sig κ sp S1024x1024 .f32) (p : Fin 2) (x : Vec F S1024x1024 .f32)
    (w w' : FVec F S1x1024 .f32) (wg wu : Vec F S1x1x1024x2816 .bf16) (wd : Vec F S1x1x2816x1024 .bf16)
    (L : List (View.Piece (Elt F) S1024x1024 .f32)) : List (View.Piece (Elt F) S1024x1024 .f32) :=
  ⟨rows p, close p x w' (v.readCov (accL v p (hidden p x w) wg wu wd L [10, 9, 8, 7, 6, 5, 4, 3, 2, 1]) (rows p).toLoadRect)⟩ ::
    accL v p (hidden p x w) wg wu wd L [10, 9, 8, 7, 6, 5, 4, 3, 2, 1]

/-- What the body stores, in order, is the two parts' stores. -/
theorem run_eq (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1x1024x2816 .bf16) (harg4 : arg4.IsWhole) (arg5 : Memref sig .tc .vmem S1x1x1024x2816 .bf16) (harg5 : arg5.IsWhole) (arg6 : Memref sig .tc .vmem S1x1x2816x1024 .bf16) (harg6 : arg6.IsWhole) (arg7 : Memref sig .tc .vmem S1024x1024 .f32) (harg7 : arg7.IsWhole)
    (x0 : Vec F S1024x1024 .f32) (x1 : Vec F S1x1024 .f32) (x2 : Vec F S1x1024 .f32) (x3 : Vec F S1x1x1024x2816 .bf16) (x4 : Vec F S1x1x1024x2816 .bf16) (x5 : Vec F S1x1x2816x1024 .bf16) :
    (kernelRun0_A c i arg1 harg1 arg2 harg2 arg3 harg3 arg4 harg4 arg5 harg5 arg6 harg6 arg7 harg7 x0 x1 x2 x3 x4 x5).1 =
    (partL arg7.view 1 (arg1.view.read (Elt F) (harg1.unread x0))
      (View.ld (arg2.view.read (Elt F) (harg2.unread x1)) (Rect.unit (s := S1x1024) ![0, 0] S1x1024.size inbW))
      (View.ld (arg3.view.read (Elt F) (harg3.unread x2)) (Rect.unit (s := S1x1024) ![0, 0] S1x1024.size inbW))
      (arg4.view.read (Elt F) (harg4.unread x3)) (arg5.view.read (Elt F) (harg5.unread x4)) (arg6.view.read (Elt F) (harg6.unread x5))
      (partL arg7.view 0 (arg1.view.read (Elt F) (harg1.unread x0))
        (View.ld (arg2.view.read (Elt F) (harg2.unread x1)) (Rect.unit (s := S1x1024) ![0, 0] S1x1024.size inbW))
        (View.ld (arg3.view.read (Elt F) (harg3.unread x2)) (Rect.unit (s := S1x1024) ![0, 0] S1x1024.size inbW))
        (arg4.view.read (Elt F) (harg4.unread x3)) (arg5.view.read (Elt F) (harg5.unread x4)) (arg6.view.read (Elt F) (harg6.unread x5)) [])) := by
  sl_kernel_rfl

/-- What a part's rows read back after its chunks is the sum of them. -/
theorem readCov_accL {sig : RefSig} {κ : Kind} {sp : Space} (v : View sig κ sp S1024x1024 .f32) (p : Fin 2) (h : FVec F S512x1024 .bf16)
    (wg wu : Vec F S1x1x1024x2816 .bf16) (wd : Vec F S1x1x2816x1024 .bf16) (L : List (View.Piece (Elt F) S1024x1024 .f32)) :
    ∀ ns : List (Fin 11), v.readCov (accL v p h wg wu wd L ns) (rows p).toLoadRect = sumOf h wg wu wd ns
  | [] => by rw [accL, sumOf]; exact View.readCov_cons_toLoadRect v (rows p) _ L
  | n :: ns => by
    rw [accL, View.readCov_cons_toLoadRect, readCov_accL v p h wg wu wd L ns, sumOf]; rfl

/-- Off a part's rows its stores leave what was there before. -/
theorem canon_accL {sig : RefSig} {κ : Kind} {sp : Space} (v : View sig κ sp S1024x1024 .f32) (p : Fin 2) (h : FVec F S512x1024 .bf16)
    (wg wu : Vec F S1x1x1024x2816 .bf16) (wd : Vec F S1x1x2816x1024 .bf16) (L : List (View.Piece (Elt F) S1024x1024 .f32))
    (y : S1024x1024.Idx) (hy : y ∉ (rows p).set) :
    ∀ ns : List (Fin 11), View.canon (accL v p h wg wu wd L ns) y = View.canon L y
  | [] => by rw [accL]; exact View.canon_cons_of_not_mem ⟨rows p, _⟩ L hy
  | n :: ns => by
    rw [accL]
    exact (View.canon_cons_of_not_mem ⟨rows p, _⟩ _ hy).trans (canon_accL v p h wg wu wd L y hy ns)

/-- What the body leaves at row `r` and column `q` of part `p`. -/
def result (p : Fin 2) (x : Vec F S1024x1024 .f32) (w w' : FVec F S1x1024 .f32) (wg wu : Vec F S1x1x1024x2816 .bf16)
    (wd : Vec F S1x1x2816x1024 .bf16) : FVec F S512x1024 .f32 :=
  close p x w' (sumOf (hidden p x w) wg wu wd [10, 9, 8, 7, 6, 5, 4, 3, 2, 1])

/-- Row `512 p + r` of the tile is row `r` of part `p`. -/
theorem rows_emb (p : Fin 2) (r : Fin 512) (q : Fin 1024) (y : S1024x1024.Idx) (h0 : (y 0).val = 512 * p.val + r.val)
    (h1 : (y 1).val = q.val) : (rows p).emb (ix2 r q) = y := by
  funext a
  match a with
  | ⟨0, _⟩ => exact Fin.ext (show 512 * p.val + 1 * r.val = (y 0).val by omega)
  | ⟨1, _⟩ => exact Fin.ext (show 0 + 1 * q.val = (y 1).val by omega)

/-- On a part's rows its stores leave its result. -/
theorem canon_partL {sig : RefSig} {κ : Kind} {sp : Space} (v : View sig κ sp S1024x1024 .f32) (p : Fin 2) (x : Vec F S1024x1024 .f32)
    (w w' : FVec F S1x1024 .f32) (wg wu : Vec F S1x1x1024x2816 .bf16) (wd : Vec F S1x1x2816x1024 .bf16)
    (L : List (View.Piece (Elt F) S1024x1024 .f32)) (z : S512x1024.Idx) :
    View.canon (partL v p x w w' wg wu wd L) ((rows p).emb z) = result p x w w' wg wu wd z := by
  rw [partL, readCov_accL, result]
  exact View.canon_cons_emb (rows p) _ _ z

/-- Off a part's rows its stores leave what was there before. -/
theorem canon_partL_off {sig : RefSig} {κ : Kind} {sp : Space} (v : View sig κ sp S1024x1024 .f32) (p : Fin 2) (x : Vec F S1024x1024 .f32)
    (w w' : FVec F S1x1024 .f32) (wg wu : Vec F S1x1x1024x2816 .bf16) (wd : Vec F S1x1x2816x1024 .bf16)
    (L : List (View.Piece (Elt F) S1024x1024 .f32)) (y : S1024x1024.Idx) (hy : y ∉ (rows p).set) :
    View.canon (partL v p x w w' wg wu wd L) y = View.canon L y := by
  rw [partL]
  exact (View.canon_cons_of_not_mem ⟨rows p, _⟩ _ hy).trans (canon_accL v p _ wg wu wd L y hy _)

/-- The two parts' stores leave each part's result in its rows. -/
theorem canon_parts {sig : RefSig} {κ : Kind} {sp : Space} (v : View sig κ sp S1024x1024 .f32) (x : Vec F S1024x1024 .f32)
    (w w' : FVec F S1x1024 .f32) (wg wu : Vec F S1x1x1024x2816 .bf16) (wd : Vec F S1x1x2816x1024 .bf16)
    (p : Fin 2) (r : Fin 512) (q : Fin 1024) (y : S1024x1024.Idx) (h0 : (y 0).val = 512 * p.val + r.val) (h1 : (y 1).val = q.val) :
    View.canon (partL v 1 x w w' wg wu wd (partL v 0 x w w' wg wu wd [])) y = result p x w w' wg wu wd (ix2 r q) := by
  have hr := r.isLt
  obtain rfl | rfl : p = 0 ∨ p = 1 := by omega
  · have hy : y ∉ (rows 1).set := fun hm => by
      obtain ⟨z, hz⟩ := (rows 1).exists_idx_of_mem hm
      have e0 : (y 0).val = 512 * 1 + 1 * (z 0).val := by rw [← hz]; rfl
      have e1 : (y 0).val = 512 * 0 + r.val := h0
      omega
    rw [canon_partL_off v 1 x w w' wg wu wd _ y hy, ← rows_emb 0 r q y h0 h1]
    exact canon_partL v 0 x w w' wg wu wd _ _
  · rw [← rows_emb 1 r q y h0 h1]
    exact canon_partL v 1 x w w' wg wu wd _ _

variable (m : (ℓ : Loc nD τ sig) → Buf (Elt F) ℓ)

/-- The output tile at a grid point, at row `512 p + r`, is the result of part `p` over the point's blocks. -/
theorem outs_eq (c : Dev nD) (t : Fin cfg0.N) (p : Fin 2) (r : Fin 512) (q : Fin 1024) (y : S1024x1024.Idx)
    (h0 : (y 0).val = 512 * p.val + r.val) (h1 : (y 1).val = q.val) : outsAt0 m c t y =
    result p (iblk m c 0 t) (iblk m c 1 t) (iblk m c 2 t) (iblk m c 3 t) (iblk m c 4 t) (iblk m c 5 t) (ix2 r q) := by
  have hz : ∀ a : Fin 2, (![0, 0] : Fin 2 → Nat) a = 0 := by decide
  unfold outsAt0 out0_A_6
  rw [View.read_writes_junk_eq_canon, run_eq]
  simp only [Memref.IsWhole.read_unread]
  rw [View.ld_unit_lit' _ _ hz, View.ld_unit_lit' _ _ hz, canon_parts _ _ _ _ _ _ _ p r q y h0 h1]

end Cert.FfnIdeal.Ffn
-- ==== Proof.Common.lean ====
module

public import Idealize.ShloMosaic.Lib.Pointwise

/-!
# One row over the extended reals: its normalisation, and the two forms of the gate
-/

@[expose] public section

set_option maxRecDepth 16384

noncomputable section

namespace Cert.Row

open Idealize.ShloMosaic

/-- One row normalised: each channel times the reciprocal root of the row's mean square, times the channel's weight. -/
def normed (x w : Fin 1024 → EReal) (q : Fin 1024) : EReal :=
  x q * Ideal.rsqrt (Ideal.div (∑ k, x k * x k) (Ideal.ofBits .f32 0x44800000#32) + Ideal.ofBits .f32 0x358637BD#32) * w q

/-- The gate as the kernel computes it: half the channel, plus that half times its hyperbolic tangent. -/
def gateT (x : EReal) : EReal :=
  Ideal.ofBits .f32 0x3F000000#32 * x + Ideal.ofBits .f32 0x3F000000#32 * x * Ideal.tanh (Ideal.ofBits .f32 0x3F000000#32 * x)

/-- Of a real channel the gate is the channel times its logistic. -/
theorem gateT_real (x : EReal) (h : ∃ r : ℝ, x = r) : gateT x = x * Ideal.logistic x := by
  obtain ⟨r, rfl⟩ := h
  have h2 : Ideal.ofBits .f32 0x3F000000#32 = ((1 / 2 : ℝ) : EReal) := by
    simp [Ideal.ofBits, Ideal.ieee]
    rw [← EReal.coe_mul]
    norm_num
  rw [gateT, h2, ← EReal.coe_mul, Ideal.tanh_coe, Ideal.logistic_coe, ← EReal.coe_mul, ← EReal.coe_mul, ← EReal.coe_add]
  refine congrArg _ ?_
  have e1 : Real.exp (1 / 2 * r) ≠ 0 := (Real.exp_pos _).ne'
  rw [Real.tanh_eq_sinh_div_cosh, Real.sinh_eq, Real.cosh_eq, show Real.exp (-r) = Real.exp (-(1 / 2 * r)) * Real.exp (-(1 / 2 * r)) by
    rw [← Real.exp_add]; congr 1; ring, Real.exp_neg]
  have e3 : Real.exp (1 / 2 * r) * Real.exp (1 / 2 * r) + 1 ≠ 0 := by positivity
  field_simp
  ring

end Cert.Row
-- ==== Proof.FfnMath.lean ====
module

public import proofs.«01_k».proof.Proof.FfnBlock
public import proofs.«01_k».proof.Proof.Common

/-!
# The feed-forward half-step over the extended reals, read at a place

One row of the half-step as sums over its channels, first as the kernel's body computes it.
-/

@[expose] public section

set_option maxRecDepth 16384

noncomputable section

namespace Cert.Ffn

open Idealize.ShloMosaic Cert.Row

/-- One row's product with one column of the gate's or the up-projection's weights. -/
def dot (h : Fin 1024 → EReal) (w : Fin 1024 → Fin 2816 → EReal) (k : Fin 2816) : EReal := ∑ d, h d * w d k

/-- One hidden channel of one row: the gate times its logistic, times the up-projection. -/
def act (h : Fin 1024 → EReal) (wg wu : Fin 1024 → Fin 2816 → EReal) (k : Fin 2816) : EReal :=
  dot h wg k * Ideal.logistic (dot h wg k) * dot h wu k

/-- One row of the half-step: the input plus half the normalised down-projection. -/
def row (x w w' : Fin 1024 → EReal) (wg wu : Fin 1024 → Fin 2816 → EReal) (wd : Fin 2816 → Fin 1024 → EReal) (q : Fin 1024) : EReal :=
  x q + Ideal.ofBits .f32 0x3F000000#32 * normed (fun c => ∑ k, act (normed x w) wg wu k * wd k c) w' q

end Cert.Ffn

namespace Cert.FfnIdeal.Ffn

open Cert.FfnIdeal Cert.FfnIdeal.Gen Cert.Ffn Cert.Row
open Idealize.ShloMosaic Idealize.ShloMosaic.TcCoe

/-- 512 rows normalised, read at a row. -/
theorem rms_apply (x : FVec Ideal S512x1024 .f32) (w : FVec Ideal S1x1024 .f32) (r : Fin 512) (q : Fin 1024) :
    rms x w (ix2 r q) = normed (fun k => x (ix2 r k)) (fun k => w (ix2 0 k)) q := by
  pointwise [rms, normed]

/-- A part's rows of the tile. -/
theorem part_apply (p : Fin 2) (x : Vec Ideal S1024x1024 .f32) (r : Fin 512) (q : Fin 1024) (R : Fin 1024)
    (hR : R.val = 512 * p.val + r.val) :
    part p x (ix2 r q) = x (ix2 R q) := by
  unfold part
  refine (congrFun (shapeCast_self (s := S512x1024) _ shapeCasts_S512x1024_S512x1024) _).trans ?_
  refine congrArg x (funext fun a => ?_)
  match a with
  | ⟨0, _⟩ => exact Fin.ext (show 512 * p.val + 1 * r.val = R.val by omega)
  | ⟨1, _⟩ => exact Fin.ext (show 0 + 1 * q.val = q.val by omega)

/-- The left factor of a part's products, read at a row. -/
theorem hidden_apply (p : Fin 2) (x : Vec Ideal S1024x1024 .f32) (w : FVec Ideal S1x1024 .f32) (r : Fin 512) (R : Fin 1024)
    (hR : R.val = 512 * p.val + r.val) (q : Fin 1024) :
    hidden p x w (ix2 r q) = normed (fun k => x (ix2 R k)) (fun k => w (ix2 0 k)) q := by
  have hx := fun k => part_apply p x r k R hR
  pointwise [hidden, rms_apply, hx]

/-- A chunk's columns of the gate's or the up-projection's weights. -/
theorem cols_apply (n : Fin 11) (w : Vec Ideal S1x1x1024x2816 .bf16) (d : Fin 1024) (j : Fin 256)
    (k : Fin 2816) (hk : k.val = n.val * 256 + j.val) : cols n w (ix2 d j) = w (ix4 0 0 d k) := by
  have hw : cut n w (ix4 0 0 d j) = w (ix4 0 0 d k) := by
    refine congrArg w (funext fun a => ?_)
    match a with
    | ⟨0, _⟩ => rfl
    | ⟨1, _⟩ => rfl
    | ⟨2, _⟩ => exact Fin.ext (show 0 + 1 * d.val = d.val by omega)
    | ⟨3, _⟩ => exact Fin.ext (show 256 * n.val + 1 * j.val = k.val by omega)
  rw [← hw, cols]
  generalize cut n w = v
  pointwise

/-- A chunk's rows of the down-projection's weights. -/
theorem downs_apply (n : Fin 11) (w : Vec Ideal S1x1x2816x1024 .bf16) (j : Fin 256) (q : Fin 1024)
    (k : Fin 2816) (hk : k.val = n.val * 256 + j.val) : downs n w (ix2 j q) = w (ix4 0 0 k q) := by
  have hw : cutD n w (ix4 0 0 j q) = w (ix4 0 0 k q) := by
    refine congrArg w (funext fun a => ?_)
    match a with
    | ⟨0, _⟩ => rfl
    | ⟨1, _⟩ => rfl
    | ⟨2, _⟩ => exact Fin.ext (show 256 * n.val + 1 * j.val = k.val by omega)
    | ⟨3, _⟩ => exact Fin.ext (show 0 + 1 * q.val = q.val by omega)
  rw [← hw, downs]
  generalize cutD n w = v
  pointwise

/-- The products of a row with a chunk's columns. -/
theorem proj_apply (n : Fin 11) (h : FVec Ideal S512x1024 .bf16) (w : Vec Ideal S1x1x1024x2816 .bf16) (r : Fin 512) (j : Fin 256)
    (k : Fin 2816) (hk : k.val = n.val * 256 + j.val) :
    proj n h w (ix2 r j) = dot (fun d => h (ix2 r d)) (fun d k => w (ix4 0 0 d k)) k := by
  have hc : ∀ d, cols n w (ix2 d j) = w (ix4 0 0 d k) := fun d => cols_apply n w d j k hk
  pointwise [proj, dot, hc]

/-- What a chunk adds to a row. -/
theorem chunk_apply (n : Fin 11) (h : FVec Ideal S512x1024 .bf16) (wg wu : Vec Ideal S1x1x1024x2816 .bf16)
    (wd : Vec Ideal S1x1x2816x1024 .bf16) (r : Fin 512) (q : Fin 1024) :
    chunk n h wg wu wd (ix2 r q) = ∑ j : Fin 256, act (fun d => h (ix2 r d)) (fun d k => wg (ix4 0 0 d k)) (fun d k => wu (ix4 0 0 d k))
      ⟨n.val * 256 + j.val, by omega⟩ * wd (ix4 0 0 ⟨n.val * 256 + j.val, by omega⟩ q) := by
  have hg := fun j : Fin 256 => proj_apply n h wg r j ⟨n.val * 256 + j.val, by omega⟩ rfl
  have hu := fun j : Fin 256 => proj_apply n h wu r j ⟨n.val * 256 + j.val, by omega⟩ rfl
  have hd := fun j : Fin 256 => downs_apply n wd j q ⟨n.val * 256 + j.val, by omega⟩ rfl
  pointwise [chunk, act, hg, hu, hd]

/-- What a part's rows hold after all the chunks. -/
theorem sumOf_apply (h : FVec Ideal S512x1024 .bf16) (wg wu : Vec Ideal S1x1x1024x2816 .bf16)
    (wd : Vec Ideal S1x1x2816x1024 .bf16) (r : Fin 512) (q : Fin 1024) :
    sumOf h wg wu wd [10, 9, 8, 7, 6, 5, 4, 3, 2, 1] (ix2 r q) = ∑ k : Fin 2816, act (fun d => h (ix2 r d)) (fun d k => wg (ix4 0 0 d k)) (fun d k => wu (ix4 0 0 d k)) k * wd (ix4 0 0 k q) := by
  have hs : ∀ (n : Fin 11) (ns : List (Fin 11)), sumOf h wg wu wd (n :: ns) (ix2 r q) =
      (sumOf h wg wu wd ns (ix2 r q) + chunk n h wg wu wd (ix2 r q) : EReal) := fun n ns => by
    rw [sumOf]; pointwise
  have h0 : sumOf h wg wu wd [] (ix2 r q) = chunk 0 h wg wu wd (ix2 r q) := by rw [sumOf]
  rw [Fin.sum_univ_tiles 11 256 rfl]
  refine Eq.trans ?_ (Finset.sum_congr rfl fun n _ => chunk_apply n h wg wu wd r q)
  rw [hs, hs, hs, hs, hs, hs, hs, hs, hs, hs, h0]
  simp only [Fin.sum_univ_castSucc, Fin.sum_univ_zero, zero_add]
  rfl

/-- What the body leaves at a row of a part. -/
theorem result_apply (p : Fin 2) (x : Vec Ideal S1024x1024 .f32) (w w' : FVec Ideal S1x1024 .f32)
    (wg wu : Vec Ideal S1x1x1024x2816 .bf16) (wd : Vec Ideal S1x1x2816x1024 .bf16) (r : Fin 512) (q : Fin 1024) (R : Fin 1024)
    (hR : R.val = 512 * p.val + r.val) :
    result p x w w' wg wu wd (ix2 r q) = row (fun k => x (ix2 R k)) (fun k => w (ix2 0 k)) (fun k => w' (ix2 0 k))
      (fun d k => wg (ix4 0 0 d k)) (fun d k => wu (ix4 0 0 d k)) (fun k c => wd (ix4 0 0 k c)) q := by
  have hx := fun k => part_apply p x r k R hR
  have hh : (fun d => hidden p x w (ix2 r d)) = normed (fun k => x (ix2 R k)) (fun k => w (ix2 0 k)) :=
    funext fun d => hidden_apply p x w r R hR d
  have hs := fun k => sumOf_apply (hidden p x w) wg wu wd r k
  rw [hh] at hs
  pointwise [result, close, rms_apply, hx, hs, row]

end Cert.FfnIdeal.Ffn
-- ==== Proof.FfnRef.lean ====
module

public import proofs.«01_k».proof.Proof.FfnMath
public import proofs.«01_k».proof.Proof.Gen.FfnRefIdeal.Read

/-!
# The feed-forward reference, read at a place
-/

@[expose] public section

set_option maxRecDepth 16384

noncomputable section

namespace Cert.FfnRefIdeal.Ffn

open Cert.FfnRefIdeal Cert.FfnRefIdeal.Read Cert.Ffn Cert.Row
open Idealize.ShloMosaic Idealize.ShloMosaic.TcCoe

/-- The reference's normalised input. -/
theorem hidden_apply (x0 : FVec Ideal S8x4096x1024 .f32) (x1 : FVec Ideal S4x6x1024 .f32) (b : Fin 8) (s : Fin 4096) (q : Fin 1024) :
    val_main_v22 (F := Ideal) x0 x1 (ix3 b s q) = normed (fun k => x0 (ix3 b s k)) (fun k => x1 (ix3 0 0 k)) q := by
  pointwise [val_main_v22, val_main_v21, val_main_v20, val_main_v9, val_main_v8, val_main_v1, val_main_v0, val_main_v19, val_main_v18, val_main_v17,
    val_main_v16, val_main_v15, val_main_v14, val_main_v13, val_main_v12, val_main_v11, val_main_v10, val_main_cst, val_main_cst_0, val_main_cst_1, normed]

/-- The reference's gate. -/
theorem gate_apply (x0 : FVec Ideal S8x4096x1024 .f32) (x1 : FVec Ideal S4x6x1024 .f32) (x2 : FVec Ideal S4x2x1024x2816 .f32) (b : Fin 8) (s : Fin 4096) (k : Fin 2816) :
    val_main_v23 (F := Ideal) x0 x1 x2 (ix3 b s k) = dot (normed (fun k => x0 (ix3 b s k)) (fun k => x1 (ix3 0 0 k))) (fun d k => x2 (ix4 0 0 d k)) k := by
  have hh := fun d => hidden_apply x0 x1 b s d
  pointwise [val_main_v23, val_main_v3, val_main_v2, dot, hh]

/-- The reference's up-projection. -/
theorem up_apply (x0 : FVec Ideal S8x4096x1024 .f32) (x1 : FVec Ideal S4x6x1024 .f32) (x3 : FVec Ideal S4x2x1024x2816 .f32) (b : Fin 8) (s : Fin 4096) (k : Fin 2816) :
    val_main_v25 (F := Ideal) x0 x1 x3 (ix3 b s k) = dot (normed (fun k => x0 (ix3 b s k)) (fun k => x1 (ix3 0 0 k))) (fun d k => x3 (ix4 0 0 d k)) k := by
  have hh := fun d => hidden_apply x0 x1 b s d
  pointwise [val_main_v25, val_main_v5, val_main_v4, dot, hh]

/-- The reference's hidden channels. -/
theorem act_apply (x0 : FVec Ideal S8x4096x1024 .f32) (x1 : FVec Ideal S4x6x1024 .f32) (x2 x3 : FVec Ideal S4x2x1024x2816 .f32) (b : Fin 8) (s : Fin 4096) (k : Fin 2816) :
    val_main_v26 (F := Ideal) x0 x1 x2 x3 (ix3 b s k) = act (normed (fun k => x0 (ix3 b s k)) (fun k => x1 (ix3 0 0 k))) (fun d k => x2 (ix4 0 0 d k))
      (fun d k => x3 (ix4 0 0 d k)) k := by
  have hg := gate_apply x0 x1 x2 b s k
  have hu := up_apply x0 x1 x3 b s k
  pointwise [val_main_v26, val_main_v24, val_main_call0_v5, val_main_call0_v4, val_main_call0_v3, val_main_call0_v2, val_main_call0_v1, val_main_call0_v0,
    val_main_call0_cst, val_main_call0_cst_0, hg, hu, act]
  rfl

/-- The reference's down-projection. -/
theorem down_apply (x0 : FVec Ideal S8x4096x1024 .f32) (x1 : FVec Ideal S4x6x1024 .f32) (x2 x3 : FVec Ideal S4x2x1024x2816 .f32) (x4 : FVec Ideal S4x2x2816x1024 .f32)
    (b : Fin 8) (s : Fin 4096) (q : Fin 1024) :
    val_main_v27 (F := Ideal) x0 x1 x2 x3 x4 (ix3 b s q) = ∑ k, act (normed (fun k => x0 (ix3 b s k)) (fun k => x1 (ix3 0 0 k))) (fun d k => x2 (ix4 0 0 d k))
      (fun d k => x3 (ix4 0 0 d k)) k * x4 (ix4 0 0 k q) := by
  have ha := fun k => act_apply x0 x1 x2 x3 b s k
  pointwise [val_main_v27, val_main_v7, val_main_v6, ha]

/-- The reference's result. -/
theorem result_apply (x0 : FVec Ideal S8x4096x1024 .f32) (x1 : FVec Ideal S4x6x1024 .f32) (x2 x3 : FVec Ideal S4x2x1024x2816 .f32) (x4 : FVec Ideal S4x2x2816x1024 .f32)
    (b : Fin 8) (s : Fin 4096) (q : Fin 1024) (R : Fin 32768) (hR : R.val = b.val * 4096 + s.val) :
    val_main_v46 (F := Ideal) x0 x1 x2 x3 x4 (ix2 R q) = row (fun k => x0 (ix3 b s k)) (fun k => x1 (ix3 0 0 k)) (fun k => x1 (ix3 0 1 k))
      (fun d k => x2 (ix4 0 0 d k)) (fun d k => x3 (ix4 0 0 d k)) (fun k c => x4 (ix4 0 0 k c)) q := by
  have hd := fun k => down_apply x0 x1 x2 x3 x4 b s k
  have h45 : val_main_v45 (F := Ideal) x0 x1 x2 x3 x4 (ix3 b s q) = row (fun k => x0 (ix3 b s k)) (fun k => x1 (ix3 0 0 k)) (fun k => x1 (ix3 0 1 k))
      (fun d k => x2 (ix4 0 0 d k)) (fun d k => x3 (ix4 0 0 d k)) (fun k c => x4 (ix4 0 0 k c)) q := by
    pointwise [val_main_v45, val_main_v44, val_main_v43, val_main_v42, val_main_v41, val_main_v40, val_main_v39, val_main_v38, val_main_v37, val_main_v36,
      val_main_v35, val_main_v34, val_main_v33, val_main_v32, val_main_v31, val_main_v30, val_main_v29, val_main_v28, val_main_v1, val_main_v0,
      val_main_cst_2, val_main_cst_3, val_main_cst_4, val_main_cst_5, hd, row, normed]
  have hs := s.isLt
  rw [← h45, val_main_v46]
  generalize val_main_v45 (F := Ideal) x0 x1 x2 x3 x4 = v
  pointwise
  exact congrArg₂ (fun b s => v (ix3 b s q)) (Fin.ext (by show R.val / 4096 = b.val; omega)) (Fin.ext (by show R.val % 4096 = s.val; omega))

end Cert.FfnRefIdeal.Ffn
-- ==== Proof.FfnFinal.lean ====
module

public import proofs.«01_k».proof.Proof.FfnRef
public import proofs.«01_k».proof.Proof.Gen.FfnIdeal.Value
public import proofs.«01_k».proof.Proof.Gen.FfnRefIdeal.Run
public import Idealize.ShloMosaic.Lib.Pipeline.ValueKit
public import Idealize.ShloMosaic.Lib.Claim

/-!
# The feed-forward kernel's result is the reference's
-/

@[expose] public section

set_option maxRecDepth 16384

noncomputable section

namespace Cert.FfnIdeal.Ffn

open Cert.FfnIdeal Cert.FfnIdeal.Gen Cert.Ffn
open Idealize.ShloMosaic Idealize.ShloMosaic.TcCoe

/-- Where each window's block lies at a point of the grid. -/
theorem idx : ∀ t : Fin cfg0.N, win0_0.index t = ![t.val, 0] ∧ win0_1.index t = ![0, 0] ∧ win0_2.index t = ![0, 0] ∧
    win0_3.index t = ![0, 0, 0, 0] ∧ win0_4.index t = ![0, 0, 0, 0] ∧ win0_5.index t = ![0, 0, 0, 0] ∧ win0_6.index t = ![t.val, 0] :=
  (by decide +kernel : ∀ t : Fin grid0.N, _)

variable (m : (ℓ : Loc nD τ sig) → Buf (Elt Ideal) ℓ)

/-- The rows the kernel reads are the input's, the batch and the position merged. -/
theorem entry_x (c : Dev nD) (X : FVec Ideal S8x4096x1024 .f32) (h : X = m ((c.tc : Thread nD τ).loc main_arg0)) (R : Fin 32768) (k : Fin 1024)
    (b : Fin 8) (s : Fin 4096) (hb : b.val = R.val / 4096) (hs : s.val = R.val % 4096) :
    V m c main_v0 (ix2 R k) = X (ix3 b s k) := by
  subst h
  entry_read
  pointwise
  exact congrArg₂ (fun b s => m ((c.tc : Thread nD τ).loc main_arg0) (ix3 b s k)) (Fin.ext hb.symm) (Fin.ext hs.symm)

/-- The first norm's weights. -/
theorem entry_w (c : Dev nD) (X : FVec Ideal S4x6x1024 .f32) (h : X = m ((c.tc : Thread nD τ).loc main_arg1)) (k : Fin 1024) :
    V m c main_v8 (ix2 0 k) = X (ix3 0 0 k) := by
  subst h
  entry_read
  pointwise

/-- The second norm's weights. -/
theorem entry_w' (c : Dev nD) (X : FVec Ideal S4x6x1024 .f32) (h : X = m ((c.tc : Thread nD τ).loc main_arg1)) (k : Fin 1024) :
    V m c main_v10 (ix2 0 k) = X (ix3 0 1 k) := by
  subst h
  entry_read
  pointwise

/-- The gate's weights are the argument's, rounded. -/
theorem entry_g (c : Dev nD) (X : FVec Ideal S4x2x1024x2816 .f32) (h : X = m ((c.tc : Thread nD τ).loc main_arg2)) (i : S4x2x1024x2816.Idx) :
    V m c main_v1 i = X i := by
  subst h
  entry_read
  rfl

/-- The up-projection's weights are the argument's, rounded. -/
theorem entry_u (c : Dev nD) (X : FVec Ideal S4x2x1024x2816 .f32) (h : X = m ((c.tc : Thread nD τ).loc main_arg3)) (i : S4x2x1024x2816.Idx) :
    V m c main_v2 i = X i := by
  subst h
  entry_read
  rfl

/-- The down-projection's weights are the argument's, rounded. -/
theorem entry_d (c : Dev nD) (X : FVec Ideal S4x2x2816x1024 .f32) (h : X = m ((c.tc : Thread nD τ).loc main_arg4)) (i : S4x2x2816x1024.Idx) :
    V m c main_v3 i = X i := by
  subst h
  entry_read
  rfl

/-- After the kernel's run the result array is the reference's. -/
theorem final (c : Dev nD) (X0 : FVec Ideal S8x4096x1024 .f32) (X1 : FVec Ideal S4x6x1024 .f32) (X2 X3 : FVec Ideal S4x2x1024x2816 .f32)
    (X4 : FVec Ideal S4x2x2816x1024 .f32)
    (h0 : X0 = m ((c.tc : Thread nD τ).loc main_arg0)) (h1 : X1 = m ((c.tc : Thread nD τ).loc main_arg1))
    (h2 : X2 = m ((c.tc : Thread nD τ).loc main_arg2)) (h3 : X3 = m ((c.tc : Thread nD τ).loc main_arg3))
    (h4 : X4 = m ((c.tc : Thread nD τ).loc main_arg4)) :
    (dats m 0 c).arrAt 6 (cfgs 0).N = Cert.FfnRefIdeal.Read.val_main_v46 (F := Ideal) X0 X1 X2 X3 X4 := by
  refine (dats m 0 c).arrAt_eq_of_covers 6 _ (by decide +kernel) fun t _ y => ?_
  blk_simp
  have ht : t.val < 32 := t.isLt
  have hy0 : (y 0).val < 1024 := (y 0).isLt
  have hy1 : (y 1).val < 1024 := (y 1).isLt
  rw [after0_6, outs_eq m c t (⟨(y 0).val / 512, by omega⟩ : Fin 2) (⟨(y 0).val % 512, by omega⟩ : Fin 512) (⟨(y 1).val, hy1⟩ : Fin 1024) y
    (by show (y 0).val = 512 * ((y 0).val / 512) + (y 0).val % 512; omega) rfl]
  refine (result_apply _ _ _ _ _ _ _ _ _ (⟨(y 0).val, hy0⟩ : Fin 1024) (by show (y 0).val = 512 * ((y 0).val / 512) + (y 0).val % 512; omega)).trans ?_
  have e0 : ∀ k : Fin 1024, iblk m c 0 t (ix2 (⟨(y 0).val, hy0⟩ : Fin 1024) k) = X0 (ix3 (⟨t.val / 4, by omega⟩ : Fin 8) (⟨t.val % 4 * 1024 + (y 0).val, by omega⟩ : Fin 4096) k) := fun k =>
    Eq.trans (b := V m c main_v0 (ix2 ⟨t.val * 1024 + (y 0).val, by omega⟩ k)) (by blk_ext [iblk, idx t])
      (entry_x m c X0 h0 _ k _ _ (by show t.val / 4 = (t.val * 1024 + (y 0).val) / 4096; omega)
        (by show t.val % 4 * 1024 + (y 0).val = (t.val * 1024 + (y 0).val) % 4096; omega))
  have e1 : ∀ k : Fin 1024, iblk m c 1 t (ix2 0 k) = X1 (ix3 0 0 k) := fun k =>
    Eq.trans (b := V m c main_v8 (ix2 0 k)) (by blk_ext [iblk, idx t]) (entry_w m c X1 h1 k)
  have e2 : ∀ k : Fin 1024, iblk m c 2 t (ix2 0 k) = X1 (ix3 0 1 k) := fun k =>
    Eq.trans (b := V m c main_v10 (ix2 0 k)) (by blk_ext [iblk, idx t]) (entry_w' m c X1 h1 k)
  have e3 : ∀ (d : Fin 1024) (k : Fin 2816), iblk m c 3 t (ix4 0 0 d k) = X2 (ix4 0 0 d k) := fun d k =>
    Eq.trans (b := V m c main_v1 (ix4 0 0 d k)) (by blk_ext [iblk, idx t]) (entry_g m c X2 h2 _)
  have e4 : ∀ (d : Fin 1024) (k : Fin 2816), iblk m c 4 t (ix4 0 0 d k) = X3 (ix4 0 0 d k) := fun d k =>
    Eq.trans (b := V m c main_v2 (ix4 0 0 d k)) (by blk_ext [iblk, idx t]) (entry_u m c X3 h3 _)
  have e5 : ∀ (k : Fin 2816) (q : Fin 1024), iblk m c 5 t (ix4 0 0 k q) = X4 (ix4 0 0 k q) := fun k q =>
    Eq.trans (b := V m c main_v3 (ix4 0 0 k q)) (by blk_ext [iblk, idx t]) (entry_d m c X4 h4 _)
  simp only [e0, e1, e2, e3, e4, e5]
  refine (Cert.FfnRefIdeal.Ffn.result_apply X0 X1 X2 X3 X4 (⟨t.val / 4, by omega⟩ : Fin 8) (⟨t.val % 4 * 1024 + (y 0).val, by omega⟩ : Fin 4096)
    (⟨(y 1).val, hy1⟩ : Fin 1024) (⟨t.val * 1024 + (y 0).val, by omega⟩ : Fin 32768) (by show t.val * 1024 + (y 0).val = t.val / 4 * 4096 + (t.val % 4 * 1024 + (y 0).val); omega)).symm.trans ?_
  refine congrArg (Cert.FfnRefIdeal.Read.val_main_v46 (F := Ideal) X0 X1 X2 X3 X4) ?_
  blk_ext [idx t]

end Cert.FfnIdeal.Ffn
-- ==== Proof.FfnClaim.lean ====
module

public import proofs.«01_k».proof.Defs
public import proofs.«01_k».proof.Proof.FfnFinal
public import proofs.«01_k».proof.Proof.Gen.FfnIdeal
public import proofs.«01_k».proof.Proof.Gen.FfnIdeal.Frame
public import proofs.«01_k».proof.Proof.Gen.FfnRefIdeal
public import proofs.«01_k».proof.Proof.Gen.FfnRefIdeal.Run
public import Idealize.ShloMosaic.Lib.Claim

/-!
# The claims about the feed-forward call
-/

@[expose] public section

set_option maxRecDepth 16384

noncomputable section

namespace Cert.Proof

open Idealize.ShloMosaic Idealize.ShloMosaic.TcCoe Idealize.SL.Sem

/-- The reference of the feed-forward step terminates, changes no argument and leaves every semaphore at zero. -/
theorem ffn_ref_frame : Cert.quiescent_FfnRefIdeal (hFfnRefIdeal := Cert.FfnRefIdeal.Gen.facts) :=
  fun m g _ => (θ_run Cert.FfnRefIdeal.defs _ _).mono
    (fun r h => ⟨fun c => (h c).2, sem_eq_zero_of_no_sems (by decide) r.2⟩) (Cert.FfnRefIdeal.Value.run (F := Ideal) m g)

set_option maxHeartbeats 1600000 in
/-- The feed-forward kernel and the feed-forward reference compute the same array over the extended reals. -/
theorem ffn_algebraic : Cert.algebraic_FfnIdeal_FfnRefIdeal (hFfnIdeal := Cert.FfnIdeal.Gen.facts)
    (hFfnRefIdeal := Cert.FfnRefIdeal.Gen.facts) := by
  pair_intro
  · run_from Cert.FfnIdeal.Gen.run_main m g
  · run_from Cert.FfnRefIdeal.Value.run m' g'
    rw [Cert.FfnIdeal.Ffn.final m c _ _ _ _ _ rfl rfl rfl rfl rfl, Cert.FfnRefIdeal.Read.val_main_v46_eq, (hagree c).1, (hagree c).2.1,
      (hagree c).2.2.1, (hagree c).2.2.2.1, (hagree c).2.2.2.2]

end Cert.Proof
-- ==== Proof.OddOutPre.lean ====
module

public import proofs.«01_k».proof.Pre_finite_gate
public import proofs.«01_k».proof.Proof.AttnPre

/-!
# The precondition of the odd layers' output projection: the gate's arguments are real numbers
-/

@[expose] public section

set_option maxRecDepth 16384

noncomputable section

namespace Cert.Gate

open Idealize.ShloMosaic

/-- The shape relations the precondition's operations take. -/
theorem pre_facts : Cert.Pre_finite_gate.Facts where
  bitsLt_bf16_f32 := by decide
  bcast_S_S32768x1024 := by decide
  reducesTo_S32768x1024_S_d0_1 := by decide
  h_S_ := by decide

/-- What the precondition says: every argument of the gate is a real number. -/
theorem real_of_pre (x0 : FVec Ideal Cert.Pre_finite_gate.S32768x1024 .f32) (x1 : FVec Ideal Cert.Pre_finite_gate.S32768x512 .bf16)
    (x2 x3 x4 : FVec Ideal Cert.Pre_finite_gate.S32768x1024 .bf16) (x5 : FVec Ideal Cert.Pre_finite_gate.S4x6x1024 .f32)
    (x6 : FVec Ideal Cert.Pre_finite_gate.S2x1024 .f32) (x7 : FVec Ideal Cert.Pre_finite_gate.S2x1536x1024 .f32)
    [Cert.Pre_finite_gate.Facts] (h : Cert.Pre_finite_gate.fn (F := Ideal) x0 x1 x2 x3 x4 x5 x6 x7 = fun _ => 1#1) :
    ∀ i, ∃ r : ℝ, (x4 i : EReal) = r := fun i =>
  Cert.Attn.real_of_abs x4 i (Cert.Attn.all_of_reduce _ _ _ _ _ (congrFun h ix0) i)

end Cert.Gate
-- ==== Proof.OddOutMath.lean ====
module

public import proofs.«01_k».proof.Proof.Common
public import proofs.«01_k».proof.Proof.Gen.OddOutIdeal.Value
public import Idealize.ShloMosaic.Lib.Pipeline.ValueKit

/-!
# The output projection of the odd layers, one row over the extended reals, as the kernel's body computes it
-/

@[expose] public section

set_option maxRecDepth 16384

noncomputable section

namespace Cert.OddOut

open Idealize.ShloMosaic Cert.Row

/-- One row of the projection: the convolution's part and the scan's gated and normalised part against their rows of the weights. -/
def mix (g : Fin 512 → EReal) (y gn : Fin 1024 → EReal) (w : Fin 1536 → Fin 1024 → EReal) (c : Fin 1024) : EReal :=
  ∑ j : Fin 512, g j * w ⟨j.val, by omega⟩ c + ∑ j : Fin 1024, normed y gn j * w ⟨512 + j.val, by omega⟩ c

/-- One row of the result: the input plus the normalised projection. -/
def row (x : Fin 1024 → EReal) (g : Fin 512 → EReal) (y gn : Fin 1024 → EReal) (w : Fin 1536 → Fin 1024 → EReal) (nw : Fin 1024 → EReal)
    (q : Fin 1024) : EReal :=
  x q + normed (mix g y gn w) nw q

end Cert.OddOut

namespace Cert.OddOutIdeal.OddOut

open Cert.OddOutIdeal Cert.OddOutIdeal.Gen Cert.OddOut Cert.Row
open Idealize.ShloMosaic Idealize.ShloMosaic.TcCoe

/-- The rows of the weights that the convolution's part meets. -/
def upper (w : Vec Ideal S1536x1024 .bf16) : Vec Ideal S512x1024 .bf16 := View.ld w r0_3
/-- The rows of the weights that the scan's part meets. -/
def lower (w : Vec Ideal S1536x1024 .bf16) : Vec Ideal S1024x1024 .bf16 := View.ld w r0_4

/-- The first 512 rows of the weights. -/
theorem upper_apply (w : Vec Ideal S1536x1024 .bf16) (j : Fin 512) (c : Fin 1024) : upper w (ix2 j c) = w (ix2 ⟨j.val, by omega⟩ c) := by
  refine congrArg w (funext fun a => ?_)
  match a with
  | ⟨0, _⟩ => exact Fin.ext (show 0 + 1 * j.val = j.val by omega)
  | ⟨1, _⟩ => exact Fin.ext (show 0 + 1 * c.val = c.val by omega)

/-- The last 1024 rows of the weights. -/
theorem lower_apply (w : Vec Ideal S1536x1024 .bf16) (j : Fin 1024) (c : Fin 1024) : lower w (ix2 j c) = w (ix2 ⟨512 + j.val, by omega⟩ c) := by
  refine congrArg w (funext fun a => ?_)
  match a with
  | ⟨0, _⟩ => exact Fin.ext (show 512 + 1 * j.val = 512 + j.val by omega)
  | ⟨1, _⟩ => exact Fin.ext (show 0 + 1 * c.val = c.val by omega)

/-- The projection of one row of a tile. -/
theorem mix_apply (z yf yb : Vec Ideal S1024x1024 .bf16) (gn : Vec Ideal S1x1024 .f32) (g : Vec Ideal S1024x512 .bf16)
    (w : Vec Ideal S1536x1024 .bf16) (r c : Fin 1024) :
    k0_pay2 (F := Ideal) z yf yb gn g (upper w) (lower w) (ix2 r c) = mix (fun j => g (ix2 r j))
      (fun j => (yf (ix2 r j) + yb (ix2 r j)) * gateT (z (ix2 r j))) (fun j => gn (ix2 0 j)) (fun j c => w (ix2 j c)) c := by
  have hu := fun j => upper_apply w j c
  have hl := fun j => lower_apply w j c
  pointwise [k0_pay2, mix, normed, gateT, hu, hl]

/-- What the body leaves at a row of its tile. -/
theorem out_apply (x0 : Vec Ideal S1024x1024 .f32) (x1 : Vec Ideal S1024x512 .bf16) (x2 x3 x4 : Vec Ideal S1024x1024 .bf16)
    (x5 : Vec Ideal S1x1024 .f32) (x6 : Vec Ideal S1536x1024 .bf16) (x7 : Vec Ideal S1x1024 .f32) (r q : Fin 1024) :
    out0_8 x0 x1 x2 x3 x4 x5 x6 x7 (ix2 r q) = row (fun k => x0 (ix2 r k)) (fun j => x1 (ix2 r j))
      (fun j => (x2 (ix2 r j) + x3 (ix2 r j)) * gateT (x4 (ix2 r j))) (fun j => x5 (ix2 0 j)) (fun j c => x6 (ix2 j c)) (fun k => x7 (ix2 0 k)) q := by
  have hz : ∀ a : Fin 2, (![0, 0] : Fin 2 → Nat) a = 0 := by decide
  have hm := fun c => mix_apply x4 x2 x3 x5 x1 x6 r c
  have e : out0_8 x0 x1 x2 x3 x4 x5 x6 x7 = k0_pay1 (k0_pay2 x4 x2 x3 x5 x1 (upper x6) (lower x6)) x0 x7 := by
    have l0 : ∀ X : Vec Ideal S1024x1024 .f32, View.ld X r0_0 = X := fun X => View.ld_unit_lit' _ X hz
    have l1 : ∀ X : Vec Ideal S1024x1024 .bf16, View.ld X r0_0 = X := fun X => View.ld_unit_lit' _ X hz
    have l2 : ∀ X : Vec Ideal S1x1024 .f32, View.ld X r0_1 = X := fun X => View.ld_unit_lit' _ X hz
    have l3 : ∀ X : Vec Ideal S1024x512 .bf16, View.ld X r0_2 = X := fun X => View.ld_unit_lit' _ X hz
    unfold out0_8
    rw [l0, l1, l1, l1, l2, l2, l3]
    exact View.canon_cons_unit_lit' _ _ _ hz
  rw [e]
  generalize k0_pay2 (F := Ideal) x4 x2 x3 x5 x1 (upper x6) (lower x6) = p at hm
  pointwise [k0_pay1, row, normed, hm]

end Cert.OddOutIdeal.OddOut
-- ==== Proof.OddOutRef.lean ====
module

public import proofs.«01_k».proof.Proof.OddOutMath
public import proofs.«01_k».proof.Proof.Gen.OddOutRefIdeal.Read

/-!
# The reference of the odd layers' output projection, read at a place
-/

@[expose] public section

set_option maxRecDepth 16384

noncomputable section

namespace Cert.OddOutRefIdeal.OddOut

open Cert.OddOutRefIdeal Cert.OddOutRefIdeal.Read Cert.OddOut Cert.Row
open Idealize.ShloMosaic Idealize.ShloMosaic.TcCoe

/-- The scan's outputs summed and gated. -/
def gated (yf yb z : FVec Ideal S32768x1024 .bf16) (R : Fin 32768) (j : Fin 1024) : EReal :=
  (yf (ix2 R j) + yb (ix2 R j)) * (z (ix2 R j) * Ideal.logistic (z (ix2 R j)))

/-- The reference's gated sum. -/
theorem gated_apply (x2 x3 x4 : FVec Ideal S32768x1024 .bf16) (R : Fin 32768) (j : Fin 1024) :
    val_main_v5 (F := Ideal) x2 x3 x4 (ix2 R j) = gated x2 x3 x4 R j := by
  pointwise [val_main_v5, val_main_v4, val_main_v3, val_main_v2, val_main_v1, val_main_v0, val_main_call0_v5, val_main_call0_v4, val_main_call0_v3, val_main_call0_v2, val_main_call0_v1,
    val_main_call0_v0, val_main_call0_cst, val_main_call0_cst_0, gated]
  rfl

/-- The reference's normalised gated sum. -/
theorem scan_apply (x2 x3 x4 : FVec Ideal S32768x1024 .bf16) (x6 : FVec Ideal S2x1024 .f32) (R : Fin 32768) (j : Fin 1024) :
    val_main_v20 (F := Ideal) x2 x3 x4 x6 (ix2 R j) = normed (gated x2 x3 x4 R) (fun j => x6 (ix2 0 j)) j := by
  have hg := fun j => gated_apply x2 x3 x4 R j
  pointwise [val_main_v20, val_main_v19, val_main_v18, val_main_v17, val_main_v16, val_main_v15, val_main_v14, val_main_v13, val_main_v12, val_main_v11, val_main_v10, val_main_v9, val_main_v8, val_main_v7, val_main_v6, val_main_cst, val_main_cst_0, val_main_cst_1, normed, hg]

/-- The two parts side by side: the convolution's part on the left. -/
theorem left_apply (x1 : FVec Ideal S32768x512 .bf16) (x2 x3 x4 : FVec Ideal S32768x1024 .bf16) (x6 : FVec Ideal S2x1024 .f32) (R : Fin 32768) (j : Fin 512) :
    val_main_v22 (F := Ideal) x1 x2 x3 x4 x6 (ix2 R ⟨j.val, by omega⟩) = x1 (ix2 R j) := by
  rw [val_main_v22]
  generalize val_main_v20 (F := Ideal) x2 x3 x4 x6 = v
  pointwise [val_main_v21]

/-- The two parts side by side: the scan's part on the right. -/
theorem right_apply (x1 : FVec Ideal S32768x512 .bf16) (x2 x3 x4 : FVec Ideal S32768x1024 .bf16) (x6 : FVec Ideal S2x1024 .f32) (R : Fin 32768) (j : Fin 1024) :
    val_main_v22 (F := Ideal) x1 x2 x3 x4 x6 (ix2 R ⟨512 + j.val, by omega⟩) = normed (gated x2 x3 x4 R) (fun j => x6 (ix2 0 j)) j := by
  rw [← scan_apply, val_main_v22]
  generalize val_main_v20 (F := Ideal) x2 x3 x4 x6 = v
  pointwise

/-- The reference's projection. -/
theorem mix_apply (x1 : FVec Ideal S32768x512 .bf16) (x2 x3 x4 : FVec Ideal S32768x1024 .bf16) (x6 : FVec Ideal S2x1024 .f32) (x7 : FVec Ideal S2x1536x1024 .f32)
    (R : Fin 32768) (c : Fin 1024) :
    val_main_v25 (F := Ideal) x1 x2 x3 x4 x6 x7 (ix2 R c) =
      mix (fun j => x1 (ix2 R j)) (gated x2 x3 x4 R) (fun j => x6 (ix2 0 j)) (fun j c => x7 (ix3 0 j c)) c := by
  have hl := fun j => left_apply x1 x2 x3 x4 x6 R j
  have hr := fun j => right_apply x1 x2 x3 x4 x6 R j
  have hw : ∀ k : Fin 1536, val_main_v24 (F := Ideal) x7 (ix2 k c) = x7 (ix3 0 k c) := fun k => by
    pointwise [val_main_v24, val_main_v23]
  have e : val_main_v25 (F := Ideal) x1 x2 x3 x4 x6 x7 (ix2 R c) =
      ∑ k : Fin 1536, val_main_v22 (F := Ideal) x1 x2 x3 x4 x6 (ix2 R k) * val_main_v24 (F := Ideal) x7 (ix2 k c) := by
    rw [val_main_v25]
    generalize val_main_v22 (F := Ideal) x1 x2 x3 x4 x6 = v
    generalize val_main_v24 (F := Ideal) x7 = w
    pointwise
  rw [e, mix]
  refine (Fin.sum_univ_add (a := 512) (b := 1024) _).trans ?_
  refine congrArg₂ (· + ·) (Finset.sum_congr rfl fun j _ => ?_) (Finset.sum_congr rfl fun j _ => ?_)
  · rw [hw]; exact congrArg (· * _) (hl j)
  · rw [hw]; exact congrArg (· * _) (hr j)

/-- The reference's result. -/
theorem result_apply (x0 : FVec Ideal S32768x1024 .f32) (x1 : FVec Ideal S32768x512 .bf16) (x2 x3 x4 : FVec Ideal S32768x1024 .bf16) (x5 : FVec Ideal S4x6x1024 .f32)
    (x6 : FVec Ideal S2x1024 .f32) (x7 : FVec Ideal S2x1536x1024 .f32) (R : Fin 32768) (q : Fin 1024) :
    val_main_v41 (F := Ideal) x0 x1 x2 x3 x4 x5 x6 x7 (ix2 R q) = row (fun k => x0 (ix2 R k)) (fun j => x1 (ix2 R j)) (gated x2 x3 x4 R)
      (fun j => x6 (ix2 0 j)) (fun j c => x7 (ix3 0 j c)) (fun k => x5 (ix3 1 3 k)) q := by
  have hm := fun c => mix_apply x1 x2 x3 x4 x6 x7 R c
  pointwise [val_main_v41, val_main_v40, val_main_v39, val_main_v38, val_main_v37, val_main_v36, val_main_v35, val_main_v34, val_main_v33, val_main_v32, val_main_v31, val_main_v30, val_main_v29, val_main_v28, val_main_v27, val_main_v26,
    val_main_cst_2, val_main_cst_3, val_main_cst_4, hm, row, normed]

end Cert.OddOutRefIdeal.OddOut
-- ==== Proof.OddOutFinal.lean ====
module

public import proofs.«01_k».proof.Proof.OddOutRef
public import proofs.«01_k».proof.Proof.Gen.OddOutRefIdeal.Run
public import Idealize.ShloMosaic.Lib.Claim

/-!
# The result of the odd layers' output projection is the reference's
-/

@[expose] public section

set_option maxRecDepth 16384

noncomputable section

namespace Cert.OddOutIdeal.OddOut

open Cert.OddOutIdeal Cert.OddOutIdeal.Gen Cert.OddOut Cert.Row
open Idealize.ShloMosaic Idealize.ShloMosaic.TcCoe

/-- Where each window's block lies at a point of the grid. -/
theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![0, 0] ∧ win0_6.index t = ![0, 0] ∧
    win0_7.index t = ![0, 0] ∧ win0_8.index t = ![t.val, 0] :=
  (by decide +kernel : ∀ t : Fin grid0.N, _)

variable (m : (ℓ : Loc nD τ sig) → Buf (Elt Ideal) ℓ)

/-- The gated norm's weights. -/
theorem entry_gn (c : Dev nD) (X : FVec Ideal S2x1024 .f32) (h : X = m ((c.tc : Thread nD τ).loc main_arg6)) (k : Fin 1024) :
    V m c main_v5 (ix2 0 k) = X (ix2 0 k) := by
  subst h
  entry_read
  pointwise

/-- The projection's weights are the argument's, rounded. -/
theorem entry_w (c : Dev nD) (X : FVec Ideal S2x1536x1024 .f32) (h : X = m ((c.tc : Thread nD τ).loc main_arg7)) (j : Fin 1536) (k : Fin 1024) :
    V m c main_v8 (ix2 j k) = X (ix3 0 j k) := by
  subst h
  entry_read
  pointwise

/-- The closing norm's weights. -/
theorem entry_nw (c : Dev nD) (X : FVec Ideal S4x6x1024 .f32) (h : X = m ((c.tc : Thread nD τ).loc main_arg5)) (k : Fin 1024) :
    V m c main_v10 (ix2 0 k) = X (ix3 1 3 k) := by
  subst h
  entry_read
  pointwise

/-- An argument that the kernel takes as it is. -/
theorem entry_x (c : Dev nD) (X : FVec Ideal S32768x1024 .f32) (h : X = m ((c.tc : Thread nD τ).loc main_arg0)) : V m c main_arg0 = X :=
  (V_main_arg0 m c).trans h.symm
/-- An argument that the kernel takes as it is. -/
theorem entry_g (c : Dev nD) (X : FVec Ideal S32768x512 .bf16) (h : X = m ((c.tc : Thread nD τ).loc main_arg1)) : V m c main_arg1 = X :=
  (V_main_arg1 m c).trans h.symm
/-- An argument that the kernel takes as it is. -/
theorem entry_yf (c : Dev nD) (X : FVec Ideal S32768x1024 .bf16) (h : X = m ((c.tc : Thread nD τ).loc main_arg2)) : V m c main_arg2 = X :=
  (V_main_arg2 m c).trans h.symm
/-- An argument that the kernel takes as it is. -/
theorem entry_yb (c : Dev nD) (X : FVec Ideal S32768x1024 .bf16) (h : X = m ((c.tc : Thread nD τ).loc main_arg3)) : V m c main_arg3 = X :=
  (V_main_arg3 m c).trans h.symm
/-- An argument that the kernel takes as it is. -/
theorem entry_z (c : Dev nD) (X : FVec Ideal S32768x1024 .bf16) (h : X = m ((c.tc : Thread nD τ).loc main_arg4)) : V m c main_arg4 = X :=
  (V_main_arg4 m c).trans h.symm

/-- After the kernel's run its result array is the reference's, where the gate's argument is real. -/
theorem final (c : Dev nD) (X0 : FVec Ideal S32768x1024 .f32) (X1 : FVec Ideal S32768x512 .bf16) (X2 X3 X4 : FVec Ideal S32768x1024 .bf16)
    (X5 : FVec Ideal S4x6x1024 .f32) (X6 : FVec Ideal S2x1024 .f32) (X7 : FVec Ideal S2x1536x1024 .f32)
    (h0 : X0 = m ((c.tc : Thread nD τ).loc main_arg0)) (h1 : X1 = m ((c.tc : Thread nD τ).loc main_arg1))
    (h2 : X2 = m ((c.tc : Thread nD τ).loc main_arg2)) (h3 : X3 = m ((c.tc : Thread nD τ).loc main_arg3))
    (h4 : X4 = m ((c.tc : Thread nD τ).loc main_arg4)) (h5 : X5 = m ((c.tc : Thread nD τ).loc main_arg5))
    (h6 : X6 = m ((c.tc : Thread nD τ).loc main_arg6)) (h7 : X7 = m ((c.tc : Thread nD τ).loc main_arg7))
    (hr : ∀ i, ∃ r : ℝ, (X4 i : EReal) = r) :
    (dats m 0 c).arrAt 8 (cfgs 0).N = Cert.OddOutRefIdeal.Read.val_main_v41 (F := Ideal) X0 X1 X2 X3 X4 X5 X6 X7 := by
  refine (dats m 0 c).arrAt_eq_of_covers 8 _ (by decide +kernel) fun t _ y => ?_
  blk_simp
  have ht : t.val < 32 := t.isLt
  have hy0 : (y 0).val < 1024 := (y 0).isLt
  have hy1 : (y 1).val < 1024 := (y 1).isLt
  have hy : y = ix2 (⟨(y 0).val, hy0⟩ : Fin 1024) (⟨(y 1).val, hy1⟩ : Fin 1024) := funext fun a => match a with | ⟨0, _⟩ => rfl | ⟨1, _⟩ => rfl
  rw [after0_8]
  refine ((congrArg _ hy).trans (out_apply _ _ _ _ _ _ _ _ _ _)).trans ?_
  have e0 : ∀ k : Fin 1024, iblk m c 0 t (ix2 (⟨(y 0).val, hy0⟩ : Fin 1024) k) = X0 (ix2 ⟨t.val * 1024 + (y 0).val, by omega⟩ k) := fun k =>
    Eq.trans (b := V m c main_arg0 (ix2 ⟨t.val * 1024 + (y 0).val, by omega⟩ k)) (by blk_ext [iblk, idx t]) (congrFun (entry_x m c X0 h0) _)
  have e1 : ∀ k : Fin 512, iblk m c 1 t (ix2 (⟨(y 0).val, hy0⟩ : Fin 1024) k) = X1 (ix2 ⟨t.val * 1024 + (y 0).val, by omega⟩ k) := fun k =>
    Eq.trans (b := V m c main_arg1 (ix2 ⟨t.val * 1024 + (y 0).val, by omega⟩ k)) (by blk_ext [iblk, idx t]) (congrFun (entry_g m c X1 h1) _)
  have e2 : ∀ k : Fin 1024, iblk m c 2 t (ix2 (⟨(y 0).val, hy0⟩ : Fin 1024) k) = X2 (ix2 ⟨t.val * 1024 + (y 0).val, by omega⟩ k) := fun k =>
    Eq.trans (b := V m c main_arg2 (ix2 ⟨t.val * 1024 + (y 0).val, by omega⟩ k)) (by blk_ext [iblk, idx t]) (congrFun (entry_yf m c X2 h2) _)
  have e3 : ∀ k : Fin 1024, iblk m c 3 t (ix2 (⟨(y 0).val, hy0⟩ : Fin 1024) k) = X3 (ix2 ⟨t.val * 1024 + (y 0).val, by omega⟩ k) := fun k =>
    Eq.trans (b := V m c main_arg3 (ix2 ⟨t.val * 1024 + (y 0).val, by omega⟩ k)) (by blk_ext [iblk, idx t]) (congrFun (entry_yb m c X3 h3) _)
  have e4 : ∀ k : Fin 1024, iblk m c 4 t (ix2 (⟨(y 0).val, hy0⟩ : Fin 1024) k) = X4 (ix2 ⟨t.val * 1024 + (y 0).val, by omega⟩ k) := fun k =>
    Eq.trans (b := V m c main_arg4 (ix2 ⟨t.val * 1024 + (y 0).val, by omega⟩ k)) (by blk_ext [iblk, idx t]) (congrFun (entry_z m c X4 h4) _)
  have e5 : ∀ k : Fin 1024, iblk m c 5 t (ix2 0 k) = X6 (ix2 0 k) := fun k =>
    Eq.trans (b := V m c main_v5 (ix2 0 k)) (by blk_ext [iblk, idx t]) (entry_gn m c X6 h6 k)
  have e6 : ∀ (j : Fin 1536) (k : Fin 1024), iblk m c 6 t (ix2 j k) = X7 (ix3 0 j k) := fun j k =>
    Eq.trans (b := V m c main_v8 (ix2 j k)) (by blk_ext [iblk, idx t]) (entry_w m c X7 h7 j k)
  have e7 : ∀ k : Fin 1024, iblk m c 7 t (ix2 0 k) = X5 (ix3 1 3 k) := fun k =>
    Eq.trans (b := V m c main_v10 (ix2 0 k)) (by blk_ext [iblk, idx t]) (entry_nw m c X5 h5 k)
  simp only [e0, e1, e2, e3, e4, e5, e6, e7, gateT_real _ (hr _)]
  refine (Cert.OddOutRefIdeal.OddOut.result_apply X0 X1 X2 X3 X4 X5 X6 X7 (⟨t.val * 1024 + (y 0).val, by omega⟩ : Fin 32768)
    (⟨(y 1).val, hy1⟩ : Fin 1024)).symm.trans ?_
  refine congrArg (Cert.OddOutRefIdeal.Read.val_main_v41 (F := Ideal) X0 X1 X2 X3 X4 X5 X6 X7) ?_
  blk_ext [idx t]

end Cert.OddOutIdeal.OddOut
-- ==== Proof.OddOutClaim.lean ====
module

public import proofs.«01_k».proof.Defs
public import proofs.«01_k».proof.Proof.OddOutPre
public import proofs.«01_k».proof.Proof.OddOutFinal
public import proofs.«01_k».proof.Proof.Gen.OddOutIdeal
public import proofs.«01_k».proof.Proof.Gen.OddOutIdeal.Frame
public import proofs.«01_k».proof.Proof.Gen.OddOutRefIdeal
public import proofs.«01_k».proof.Proof.Gen.OddOutRefIdeal.Run
public import Idealize.ShloMosaic.Lib.Claim

/-!
# The claims about the odd layers' output projection
-/

@[expose] public section

set_option maxRecDepth 16384

noncomputable section

namespace Cert.Proof

open Idealize.ShloMosaic Idealize.ShloMosaic.TcCoe Idealize.SL.Sem

/-- The reference of the output projection terminates, changes no argument and leaves every semaphore at zero. -/
theorem odd_out_ref_frame : Cert.quiescent_OddOutRefIdeal (hOddOutRefIdeal := Cert.OddOutRefIdeal.Gen.facts) :=
  fun m g _ => (θ_run Cert.OddOutRefIdeal.defs _ _).mono
    (fun r h => ⟨fun c => (h c).2, sem_eq_zero_of_no_sems (by decide) r.2⟩) (Cert.OddOutRefIdeal.Value.run (F := Ideal) m g)

/-- The same where the precondition holds. -/
theorem odd_out_ref_frame_pre : Cert.quiescent_OddOutRefIdeal_pre_finite_gate (hOddOutRefIdeal := Cert.OddOutRefIdeal.Gen.facts)
    (hPre_finite_gate := Cert.Gate.pre_facts) := fun m g _ => odd_out_ref_frame m g trivial

set_option maxHeartbeats 1600000 in
/-- The output projection and its reference compute the same array over the extended reals. -/
theorem odd_out_algebraic : Cert.algebraic_OddOutIdeal_OddOutRefIdeal_pre_finite_gate (hOddOutIdeal := Cert.OddOutIdeal.Gen.facts)
    (hOddOutRefIdeal := Cert.OddOutRefIdeal.Gen.facts) (hPre_finite_gate := Cert.Gate.pre_facts) := by
  pair_intro
  · run_from Cert.OddOutIdeal.Gen.run_main m g
  · run_from Cert.OddOutRefIdeal.Value.run m' g'
    haveI := Cert.Gate.pre_facts
    have hr := Cert.Gate.real_of_pre _ _ _ _ _ _ _ _ (hpre c)
    obtain ⟨a0, a1, a2, a3, a4, a5, a6, a7⟩ := hagree c
    rw [Cert.OddOutIdeal.OddOut.final m c _ _ _ _ _ _ _ _ rfl rfl rfl rfl rfl rfl rfl rfl hr, Cert.OddOutRefIdeal.Read.val_main_v41_eq,
      a0, a1, a2, a3, a4, a5, a6, a7]

end Cert.Proof
-- ==== Proof.EvenInMath.lean ====
module

public import proofs.«01_k».proof.Proof.Common
public import proofs.«01_k».proof.Proof.Gen.EvenInIdeal.Value
public import Idealize.ShloMosaic.Lib.Pipeline.ValueKit

/-!
# The input projection of the even layers, one row over the extended reals, as the kernel's body computes it
-/

@[expose] public section

set_option maxRecDepth 16384

noncomputable section

namespace Cert.Even

open Idealize.ShloMosaic Cert.Row

/-- One element of the projection of a normalised row: against one column of the weights. -/
def proj (x nw : Fin 1024 → EReal) (w : Fin 1024 → EReal) : EReal := ∑ k : Fin 1024, normed x nw k * w k

/-- The scale of the queries, as its word. -/
def scale : EReal := Ideal.ofBits .f32 0x3E38AA3B#32

/-- The angle at a position and a pair. -/
def angle (s i : Nat) : EReal :=
  FloatOps.sitofp (F := Ideal) .f32 (BitVec.ofNat 32 s) * Ideal.div 1 (Ideal.pow (Ideal.ofBits .f32 0x461C4000#32)
    (Ideal.div (Ideal.ofBits .f32 0x40000000#32 * FloatOps.sitofp (F := Ideal) .f32 (BitVec.ofNat 32 i)) (Ideal.ofBits .f32 0x42800000#32)))

/-- The rotation of the pairs of one head: element `d` of the first half goes with element `d + 32`. -/
def turned (t : Fin 64 → EReal) (cs sn : Fin 32 → EReal) (d : Fin 64) : EReal :=
  if h : d.val < 32 then t d * cs ⟨d.val, h⟩ - t ⟨32 + d.val, by omega⟩ * sn ⟨d.val, h⟩
  else t d * cs ⟨d.val - 32, by omega⟩ + t ⟨d.val - 32, by omega⟩ * sn ⟨d.val - 32, by omega⟩

/-- The same on the 128 lanes of two heads, by two rotations of the lanes and three tables. -/
def spin (t cs sa sb : Fin 128 → EReal) (l : Fin 128) : EReal :=
  t l * cs l + t ⟨(l.val + 128 - 96) % 128, by omega⟩ * sa l + t ⟨(l.val + 128 - 32) % 128, by omega⟩ * sb l

/-- With the tables laid out for two heads, the rotation of the lanes is the rotation within either head. -/
theorem spin_eq (t cos sa sb : Fin 128 → EReal) (cs sn : Fin 32 → EReal) (l : Fin 128)
    (hc : cos l = cs ⟨l.val % 32, by omega⟩)
    (ha : sa l = if l.val % 64 < 32 then -sn ⟨l.val % 32, by omega⟩ else 0)
    (hb : sb l = if l.val % 64 < 32 then 0 else sn ⟨l.val % 32, by omega⟩) :
    spin t cos sa sb l = turned (fun d => t ⟨l.val / 64 * 64 + d.val, by omega⟩) cs sn ⟨l.val % 64, by omega⟩ := by
  have h1 : (⟨l.val / 64 * 64 + l.val % 64, by omega⟩ : Fin 128) = l := Fin.ext (by show l.val / 64 * 64 + l.val % 64 = l.val; omega)
  unfold spin turned
  rw [hc, ha, hb]
  by_cases h : l.val % 64 < 32
  · have h2 : (⟨(l.val + 128 - 96) % 128, by omega⟩ : Fin 128) = ⟨l.val / 64 * 64 + (32 + l.val % 64), by omega⟩ :=
      Fin.ext (by show (l.val + 128 - 96) % 128 = l.val / 64 * 64 + (32 + l.val % 64); omega)
    have h3 : (⟨l.val % 32, by omega⟩ : Fin 32) = ⟨l.val % 64, h⟩ := Fin.ext (by show l.val % 32 = l.val % 64; omega)
    rw [if_pos h, if_pos h, dif_pos h, mul_zero, add_zero, mul_neg, ← sub_eq_add_neg, h2, h3]
    simp only [h1]
  · have h2 : (⟨(l.val + 128 - 32) % 128, by omega⟩ : Fin 128) = ⟨l.val / 64 * 64 + (l.val % 64 - 32), by omega⟩ :=
      Fin.ext (by show (l.val + 128 - 32) % 128 = l.val / 64 * 64 + (l.val % 64 - 32); omega)
    have h3 : (⟨l.val % 32, by omega⟩ : Fin 32) = ⟨l.val % 64 - 32, by omega⟩ := Fin.ext (by show l.val % 32 = l.val % 64 - 32; omega)
    rw [if_neg h, if_neg h, dif_neg h, mul_zero, add_zero, h2, h3]
    simp only [h1]

end Cert.Even

namespace Cert.EvenInIdeal.Even

open Cert.EvenInIdeal Cert.EvenInIdeal.Gen Cert.Even Cert.Row
open Idealize.ShloMosaic Idealize.ShloMosaic.TcCoe

/-- The normalised rows of a tile. -/
theorem rows_apply (x : Vec Ideal S1024x1024 .f32) (nw : Vec Ideal S1x1024 .f32) (r k : Fin 1024) :
    k0_pay4 (F := Ideal) x nw (ix2 r k) = normed (fun k => x (ix2 r k)) (fun k => nw (ix2 0 k)) k := by
  pointwise [k0_pay4, normed]

/-- Two heads of the queries: 128 columns of the projection, turned and scaled. -/
theorem query_apply (h : Vec Ideal S1024x1024 .bf16) (cs sa sb : Vec Ideal S1024x128 .f32) (w : Vec Ideal S1024x128 .bf16) (r : Fin 1024) (l : Fin 128) :
    k0_pay13 (F := Ideal) h cs sa sb w (ix2 r l) = spin (fun c => ∑ k : Fin 1024, h (ix2 r k) * w (ix2 k c)) (fun c => cs (ix2 r c))
      (fun c => sa (ix2 r c)) (fun c => sb (ix2 r c)) l * scale := by
  pointwise [k0_pay13, spin, scale]

/-- Two heads of the keys. -/
theorem key_apply (h : Vec Ideal S1024x1024 .bf16) (cs sa sb : Vec Ideal S1024x128 .f32) (w : Vec Ideal S1024x128 .bf16) (r : Fin 1024) (l : Fin 128) :
    k0_pay1 (F := Ideal) h cs sa sb w (ix2 r l) = spin (fun c => ∑ k : Fin 1024, h (ix2 r k) * w (ix2 k c)) (fun c => cs (ix2 r c))
      (fun c => sa (ix2 r c)) (fun c => sb (ix2 r c)) l := by
  pointwise [k0_pay1, spin]

/-- The pooled channels. -/
theorem pool_apply (x : Vec Ideal S1024x1024 .f32) (nw : Vec Ideal S1x1024 .f32) (w : Vec Ideal S1024x256 .bf16) (r : Fin 1024) (c : Fin 256) :
    k0_pay5 (F := Ideal) x nw w (ix2 r c) = proj (fun k => x (ix2 r k)) (fun k => nw (ix2 0 k)) (fun k => w (ix2 k c)) := by
  have h := fun k => rows_apply x nw r k
  pointwise [k0_pay5, h, proj]

/-- The values. -/
theorem value_apply (x : Vec Ideal S1024x1024 .f32) (nw : Vec Ideal S1x1024 .f32) (w : Vec Ideal S1024x256 .bf16) (r : Fin 1024) (c : Fin 256) :
    k0_pay3 (F := Ideal) (k0_pay4 x nw) w (ix2 r c) = proj (fun k => x (ix2 r k)) (fun k => nw (ix2 0 k)) (fun k => w (ix2 k c)) := by
  have h := fun k => rows_apply x nw r k
  pointwise [k0_pay3, h, proj]

/-- Two heads' columns of the projection of a tile's row, turned. -/
def heads (x0 : Vec Ideal S1024x1024 .f32) (x1 : Vec Ideal S1x1024 .f32) (x2 : Vec Ideal S1024x1536 .bf16) (x3 x4 x5 : Vec Ideal S1024x128 .f32)
    (r : Fin 1024) (o : Nat) (ho : o + 128 ≤ 1536) (l : Fin 128) : EReal :=
  spin (fun c => proj (fun k => x0 (ix2 r k)) (fun k => x1 (ix2 0 k)) (fun k => x2 (ix2 k ⟨o + c.val, by omega⟩))) (fun c => x3 (ix2 r c))
    (fun c => x4 (ix2 r c)) (fun c => x5 (ix2 r c)) l

/-- Two heads of the queries from the tile's own blocks. -/
theorem query_heads (x0 : Vec Ideal S1024x1024 .f32) (x1 : Vec Ideal S1x1024 .f32) (x2 : Vec Ideal S1024x1536 .bf16) (x3 x4 x5 : Vec Ideal S1024x128 .f32)
    (w : Vec Ideal S1024x128 .bf16) (o : Nat) (ho : o + 128 ≤ 1536) (hw : ∀ k c, w (ix2 k c) = x2 (ix2 k ⟨o + c.val, by omega⟩)) (r : Fin 1024) (l : Fin 128) :
    k0_pay13 (F := Ideal) (k0_pay4 x0 x1) x3 x4 x5 w (ix2 r l) = heads x0 x1 x2 x3 x4 x5 r o ho l * scale := by
  rw [query_apply]
  simp only [rows_apply, hw]
  rfl

/-- Two heads of the keys from the tile's own blocks. -/
theorem key_heads (x0 : Vec Ideal S1024x1024 .f32) (x1 : Vec Ideal S1x1024 .f32) (x2 : Vec Ideal S1024x1536 .bf16) (x3 x4 x5 : Vec Ideal S1024x128 .f32)
    (w : Vec Ideal S1024x128 .bf16) (o : Nat) (ho : o + 128 ≤ 1536) (hw : ∀ k c, w (ix2 k c) = x2 (ix2 k ⟨o + c.val, by omega⟩)) (r : Fin 1024) (l : Fin 128) :
    k0_pay1 (F := Ideal) (k0_pay4 x0 x1) x3 x4 x5 w (ix2 r l) = heads x0 x1 x2 x3 x4 x5 r o ho l := by
  rw [key_apply]
  simp only [rows_apply, hw]
  rfl

/-- A rectangle of 128 columns of the weights, read. -/
theorem ld_cols (x2 : Vec Ideal S1024x1536 .bf16) (o : Nat) (ho : o + 128 ≤ 1536) (inb : ∀ a, (![0, o] : Fin 2 → Nat) a + S1024x128.size a ≤ S1024x1536.size a)
    (k : Fin 1024) (c : Fin 128) :
    View.ld x2 (Rect.unit (s := S1024x1536) ![0, o] S1024x128.size inb) (ix2 k c) = x2 (ix2 k ⟨o + c.val, by omega⟩) := by
  refine congrArg x2 (funext fun a => ?_)
  match a with
  | ⟨0, _⟩ => exact Fin.ext (show 0 + 1 * k.val = k.val by omega)
  | ⟨1, _⟩ => exact Fin.ext (show o + 1 * c.val = o + c.val by omega)

/-- A rectangle of 256 columns of the weights, read. -/
theorem ld_wide (x2 : Vec Ideal S1024x1536 .bf16) (o : Nat) (ho : o + 256 ≤ 1536) (inb : ∀ a, (![0, o] : Fin 2 → Nat) a + S1024x256.size a ≤ S1024x1536.size a)
    (k : Fin 1024) (c : Fin 256) :
    View.ld x2 (Rect.unit (s := S1024x1536) ![0, o] S1024x256.size inb) (ix2 k c) = x2 (ix2 k ⟨o + c.val, by omega⟩) := by
  refine congrArg x2 (funext fun a => ?_)
  match a with
  | ⟨0, _⟩ => exact Fin.ext (show 0 + 1 * k.val = k.val by omega)
  | ⟨1, _⟩ => exact Fin.ext (show o + 1 * c.val = o + c.val by omega)

/-- Whole blocks loaded are the blocks. -/
theorem loads : (∀ X : Vec Ideal S1024x1024 .f32, View.ld X r0_0 = X) ∧ (∀ X : Vec Ideal S1x1024 .f32, View.ld X r0_1 = X) ∧
    ∀ X : Vec Ideal S1024x128 .f32, View.ld X r0_4 = X :=
  have hz : ∀ a : Fin 2, (![0, 0] : Fin 2 → Nat) a = 0 := by decide
  ⟨fun X => View.ld_unit_lit' _ X hz, fun X => View.ld_unit_lit' _ X hz, fun X => View.ld_unit_lit' _ X hz⟩

/-- What the body leaves of the pooled channels. -/
theorem out6_apply (x0 : Vec Ideal S1024x1024 .f32) (x1 : Vec Ideal S1x1024 .f32) (x2 : Vec Ideal S1024x1536 .bf16) (x3 x4 x5 : Vec Ideal S1024x128 .f32)
    (r : Fin 1024) (c : Fin 256) :
    out0_6 x0 x1 x2 x3 x4 x5 (ix2 r c) = proj (fun k => x0 (ix2 r k)) (fun k => x1 (ix2 0 k)) (fun k => x2 (ix2 k ⟨0 + c.val, by omega⟩)) := by
  have hz : ∀ a : Fin 2, (![0, 0] : Fin 2 → Nat) a = 0 := by decide
  obtain ⟨l0, l1, _⟩ := loads
  have e : out0_6 x0 x1 x2 x3 x4 x5 = k0_pay5 x0 x1 (View.ld x2 r0_2) := by
    unfold out0_6
    rw [l0, l1]
    exact View.canon_cons_unit_lit' _ _ _ hz
  rw [e, pool_apply]
  simp only [ld_wide x2 0 (by omega)]

/-- What the body leaves of the values. -/
theorem out9_apply (x0 : Vec Ideal S1024x1024 .f32) (x1 : Vec Ideal S1x1024 .f32) (x2 : Vec Ideal S1024x1536 .bf16) (x3 x4 x5 : Vec Ideal S1024x128 .f32)
    (r : Fin 1024) (c : Fin 256) :
    out0_9 x0 x1 x2 x3 x4 x5 (ix2 r c) = proj (fun k => x0 (ix2 r k)) (fun k => x1 (ix2 0 k)) (fun k => x2 (ix2 k ⟨1280 + c.val, by omega⟩)) := by
  have hz : ∀ a : Fin 2, (![0, 0] : Fin 2 → Nat) a = 0 := by decide
  obtain ⟨l0, l1, _⟩ := loads
  have e : out0_9 x0 x1 x2 x3 x4 x5 = k0_pay3 (k0_pay4 x0 x1) (View.ld x2 r0_21) := by
    unfold out0_9 k0_pay19
    rw [l0, l1]
    exact View.canon_cons_unit_lit' _ _ _ hz
  rw [e, value_apply]
  simp only [ld_wide x2 1280 (by omega)]

/-- One piece of the keys agrees with the turned heads. -/
theorem key_piece (x0 : Vec Ideal S1024x1024 .f32) (x1 : Vec Ideal S1x1024 .f32) (x2 : Vec Ideal S1024x1536 .bf16) (x3 x4 x5 : Vec Ideal S1024x128 .f32)
    (w : Vec Ideal S1024x128 .bf16) (j : Nat) (hj : j < 2) (hw : ∀ k c, w (ix2 k c) = x2 (ix2 k ⟨1024 + j * 128 + c.val, by omega⟩)) (r : Fin 1024) (q : Fin 256) :
    View.TileAt (Val := Elt Ideal) (e := .bf16) (S := S1024x256) (ix2 r q) ![0, j * 128] S1024x128.size (k0_pay1 (F := Ideal) (k0_pay4 x0 x1) x3 x4 x5 w)
      (heads x0 x1 x2 x3 x4 x5 r (1024 + q.val / 128 * 128) (by omega) ⟨q.val % 128, by omega⟩) := by
  intro x hx
  have h0 : r.val = 0 + (x 0).val := hx 0
  have h1 : q.val = j * 128 + (x 1).val := hx 1
  have b1 : (x 1).val < 128 := (x 1).isLt
  have e : x = ix2 r (⟨q.val % 128, by omega⟩ : Fin 128) := funext fun a => match a with
    | ⟨0, _⟩ => Fin.ext (show (x 0).val = r.val by omega)
    | ⟨1, _⟩ => Fin.ext (show (x 1).val = q.val % 128 by omega)
  rw [e, key_heads x0 x1 x2 x3 x4 x5 w (1024 + j * 128) (by omega) hw]
  have : j = q.val / 128 := by omega
  subst this
  rfl

/-- One piece of the queries agrees with the turned and scaled heads. -/
theorem query_piece (x0 : Vec Ideal S1024x1024 .f32) (x1 : Vec Ideal S1x1024 .f32) (x2 : Vec Ideal S1024x1536 .bf16) (x3 x4 x5 : Vec Ideal S1024x128 .f32)
    (w : Vec Ideal S1024x128 .bf16) (j : Nat) (hj : j < 6) (hw : ∀ k c, w (ix2 k c) = x2 (ix2 k ⟨256 + j * 128 + c.val, by omega⟩)) (r : Fin 1024) (q : Fin 768) :
    View.TileAt (Val := Elt Ideal) (e := .bf16) (S := S1024x768) (ix2 r q) ![0, j * 128] S1024x128.size (k0_pay13 (F := Ideal) (k0_pay4 x0 x1) x3 x4 x5 w)
      (heads x0 x1 x2 x3 x4 x5 r (256 + q.val / 128 * 128) (by omega) ⟨q.val % 128, by omega⟩ * scale) := by
  intro x hx
  have h0 : r.val = 0 + (x 0).val := hx 0
  have h1 : q.val = j * 128 + (x 1).val := hx 1
  have b1 : (x 1).val < 128 := (x 1).isLt
  have e : x = ix2 r (⟨q.val % 128, by omega⟩ : Fin 128) := funext fun a => match a with
    | ⟨0, _⟩ => Fin.ext (show (x 0).val = r.val by omega)
    | ⟨1, _⟩ => Fin.ext (show (x 1).val = q.val % 128 by omega)
  rw [e, query_heads x0 x1 x2 x3 x4 x5 w (256 + j * 128) (by omega) hw]
  have : j = q.val / 128 := by omega
  subst this
  rfl

/-- The tables' loads change no shape. -/
theorem tables : (∀ X : Vec Ideal S1024x128 .f32, k0_pay6 (F := Ideal) X = X) ∧ (∀ X : Vec Ideal S1024x128 .f32, k0_pay7 (F := Ideal) X = X) ∧
    ∀ X : Vec Ideal S1024x128 .f32, k0_pay8 (F := Ideal) X = X :=
  ⟨fun X => shapeCast_self X _, fun X => shapeCast_self X _, fun X => shapeCast_self X _⟩

/-- The second pair of key heads is computed as the first. -/
theorem key_same (h : Vec Ideal S1024x1024 .bf16) (a b c : Vec Ideal S1024x128 .f32) (w : Vec Ideal S1024x128 .bf16) :
    k0_pay2 (F := Ideal) h a b c w = k0_pay1 h a b c w := rfl

/-- The third pair of query heads is computed as the second. -/
theorem query_same14 (h : Vec Ideal S1024x1024 .bf16) (a b c : Vec Ideal S1024x128 .f32) (w : Vec Ideal S1024x128 .bf16) :
    k0_pay14 (F := Ideal) h a b c w = k0_pay13 h a b c w := rfl

/-- So is the fourth. -/
theorem query_same16 (h : Vec Ideal S1024x1024 .bf16) (a b c : Vec Ideal S1024x128 .f32) (w : Vec Ideal S1024x128 .bf16) :
    k0_pay16 (F := Ideal) h a b c (k0_pay15 w) (constant S1024x128 .f32 0x00000000#32) = k0_pay13 h a b c w := rfl

/-- So is the fifth. -/
theorem query_same17 (h : Vec Ideal S1024x1024 .bf16) (a b c : Vec Ideal S1024x128 .f32) (w : Vec Ideal S1024x128 .bf16) :
    k0_pay17 (F := Ideal) h a b c w = k0_pay13 h a b c w := rfl

/-- So is the sixth. -/
theorem query_same18 (h : Vec Ideal S1024x1024 .bf16) (a b c : Vec Ideal S1024x128 .f32) (w : Vec Ideal S1024x128 .bf16) :
    k0_pay18 (F := Ideal) h a b c w = k0_pay13 h a b c w := rfl

/-- So is the first. -/
theorem query_same12 (x0 : Vec Ideal S1024x1024 .f32) (x1 : Vec Ideal S1x1024 .f32) (a b c : Vec Ideal S1024x128 .f32) (w : Vec Ideal S1024x128 .bf16) :
    k0_pay12 (F := Ideal) (k0_pay10 x0 x1 a b w) (k0_pay11 x0 x1 c w) = k0_pay13 (k0_pay4 x0 x1) (k0_pay6 a) (k0_pay7 b) (k0_pay8 c) w := rfl

/-- What the body leaves of the keys. -/
theorem out8_apply (x0 : Vec Ideal S1024x1024 .f32) (x1 : Vec Ideal S1x1024 .f32) (x2 : Vec Ideal S1024x1536 .bf16) (x3 x4 x5 : Vec Ideal S1024x128 .f32)
    (r : Fin 1024) (q : Fin 256) :
    out0_8 x0 x1 x2 x3 x4 x5 (ix2 r q) = heads x0 x1 x2 x3 x4 x5 r (1024 + q.val / 128 * 128) (by omega) ⟨q.val % 128, by omega⟩ := by
  obtain ⟨l0, l1, l4⟩ := loads
  unfold out0_8
  refine View.canon_eq_of_allAt _ _ _ (cover0_8 _ _ _) ?_
  unfold k0_pay19 k0_pay20 k0_pay21 k0_pay22
  rw [l0, l1, l4, l4, l4, tables.1, tables.2.1, tables.2.2, key_same]
  refine View.allAt_cons_unit _ _ _ _ _ (key_piece x0 x1 x2 x3 x4 x5 _ 1 (by omega) (ld_cols x2 1152 (by omega) _) r q) ?_
  refine View.allAt_cons_unit _ _ _ _ _ (key_piece x0 x1 x2 x3 x4 x5 _ 0 (by omega) (ld_cols x2 1024 (by omega) _) r q) ?_
  exact View.allAt_nil _ _

/-- What the body leaves of the queries. -/
theorem out7_apply (x0 : Vec Ideal S1024x1024 .f32) (x1 : Vec Ideal S1x1024 .f32) (x2 : Vec Ideal S1024x1536 .bf16) (x3 x4 x5 : Vec Ideal S1024x128 .f32)
    (r : Fin 1024) (q : Fin 768) :
    out0_7 x0 x1 x2 x3 x4 x5 (ix2 r q) = heads x0 x1 x2 x3 x4 x5 r (256 + q.val / 128 * 128) (by omega) ⟨q.val % 128, by omega⟩ * scale := by
  obtain ⟨l0, l1, l4⟩ := loads
  unfold out0_7
  refine View.canon_eq_of_allAt _ _ _ (cover0_7 _ _ _ _ _ _ _) ?_
  unfold k0_pay19 k0_pay20 k0_pay21 k0_pay22
  rw [l0, l1, l4, l4, l4, query_same12, tables.1, tables.2.1, tables.2.2, query_same14, query_same16, query_same17, query_same18]
  refine View.allAt_cons_unit _ _ _ _ _ (query_piece x0 x1 x2 x3 x4 x5 _ 5 (by omega) (ld_cols x2 896 (by omega) _) r q) ?_
  refine View.allAt_cons_unit _ _ _ _ _ (query_piece x0 x1 x2 x3 x4 x5 _ 4 (by omega) (ld_cols x2 768 (by omega) _) r q) ?_
  refine View.allAt_cons_unit _ _ _ _ _ (query_piece x0 x1 x2 x3 x4 x5 _ 3 (by omega) (ld_cols x2 640 (by omega) _) r q) ?_
  refine View.allAt_cons_unit _ _ _ _ _ (query_piece x0 x1 x2 x3 x4 x5 _ 2 (by omega) (ld_cols x2 512 (by omega) _) r q) ?_
  refine View.allAt_cons_unit _ _ _ _ _ (query_piece x0 x1 x2 x3 x4 x5 _ 1 (by omega) (ld_cols x2 384 (by omega) _) r q) ?_
  refine View.allAt_cons_unit _ _ _ _ _ (query_piece x0 x1 x2 x3 x4 x5 _ 0 (by omega) (ld_cols x2 256 (by omega) _) r q) ?_
  exact View.allAt_nil _ _

end Cert.EvenInIdeal.Even
-- ==== Proof.EvenInRef.lean ====
module

public import proofs.«01_k».proof.Proof.EvenInMath
public import proofs.«01_k».proof.Proof.Gen.EvenInRefIdeal.Read

/-!
# The reference of the even layers' input projection, read at a place
-/

@[expose] public section

set_option maxRecDepth 16384

noncomputable section

namespace Cert.EvenInRefIdeal.Even

open Cert.EvenInRefIdeal Cert.EvenInRefIdeal.Read Cert.Even Cert.Row
open Idealize.ShloMosaic Idealize.ShloMosaic.TcCoe

/-- The projection of a row, at a column of the weights. -/
def whole (x0 : FVec Ideal S32768x1024 .f32) (x1 : FVec Ideal S4x6x1024 .f32) (x2 : FVec Ideal S2x1024x1536 .f32) (R : Fin 32768) (c : Fin 1536) : EReal :=
  proj (fun k => x0 (ix2 R k)) (fun k => x1 (ix3 0 2 k)) (fun k => x2 (ix3 0 k c))

/-- The reference's projection. -/
theorem whole_apply (x0 : FVec Ideal S32768x1024 .f32) (x1 : FVec Ideal S4x6x1024 .f32) (x2 : FVec Ideal S2x1024x1536 .f32) (R : Fin 32768) (c : Fin 1536) :
    val_main_v36 (F := Ideal) x0 x1 x2 (ix2 R c) = whole x0 x1 x2 R c := by
  pointwise [val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_cst_4, val_main_cst_5, val_main_cst_6, whole, proj, normed]

/-- The table of cosines at a position. -/
def cosines (s : Fin 4096) (i : Fin 32) : EReal := val_main_v17 (F := Ideal) (ix2 s i)

/-- The table of cosines, read. -/
theorem cosines_eq (s : Fin 4096) (i : Fin 32) : cosines s i = Ideal.cos (angle s.val i.val) := by
  pointwise [cosines, angle, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]

/-- The table of sines at a position. -/
def sines (s : Fin 4096) (i : Fin 32) : EReal := val_main_v18 (F := Ideal) (ix2 s i)

/-- The table of sines, read. -/
theorem sines_eq (s : Fin 4096) (i : Fin 32) : sines s i = Ideal.sin (angle s.val i.val) := by
  pointwise [sines, angle, val_main_v18, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]

/-- The reference's pooled channels. -/
theorem pool_apply (x0 : FVec Ideal S32768x1024 .f32) (x1 : FVec Ideal S4x6x1024 .f32) (x2 : FVec Ideal S2x1024x1536 .f32) (R : Fin 32768) (c : Fin 256) :
    val_main_v37 (F := Ideal) x0 x1 x2 (ix2 R c) = whole x0 x1 x2 R ⟨c.val, by omega⟩ := by
  rw [← whole_apply, val_main_v37]
  generalize val_main_v36 (F := Ideal) x0 x1 x2 = P
  pointwise

/-- The reference's values. -/
theorem value_apply (x0 : FVec Ideal S32768x1024 .f32) (x1 : FVec Ideal S4x6x1024 .f32) (x2 : FVec Ideal S2x1024x1536 .f32) (R : Fin 32768) (c : Fin 256) :
    val_main_v81 (F := Ideal) x0 x1 x2 (ix2 R c) = whole x0 x1 x2 R ⟨1280 + c.val, by omega⟩ := by
  rw [← whole_apply, val_main_v81, val_main_v74]
  generalize val_main_v36 (F := Ideal) x0 x1 x2 = P
  pointwise

/-- The reference's queries by head, before the rotation. -/
theorem query_heads (x0 : FVec Ideal S32768x1024 .f32) (x1 : FVec Ideal S4x6x1024 .f32) (x2 : FVec Ideal S2x1024x1536 .f32) (b : Fin 8) (s : Fin 4096) (h : Fin 12) (d : Fin 64) :
    val_main_v39 (F := Ideal) x0 x1 x2 (ix4 b s h d) = whole x0 x1 x2 ⟨b.val * 4096 + s.val, by omega⟩ ⟨256 + (h.val * 64 + d.val), by omega⟩ := by
  rw [← whole_apply, val_main_v39, val_main_v38]
  generalize val_main_v36 (F := Ideal) x0 x1 x2 = P
  pointwise

/-- The reference's keys by head, before the rotation. -/
theorem key_heads (x0 : FVec Ideal S32768x1024 .f32) (x1 : FVec Ideal S4x6x1024 .f32) (x2 : FVec Ideal S2x1024x1536 .f32) (b : Fin 8) (s : Fin 4096) (h : Fin 4) (d : Fin 64) :
    val_main_v58 (F := Ideal) x0 x1 x2 (ix4 b s h d) = whole x0 x1 x2 ⟨b.val * 4096 + s.val, by omega⟩ ⟨1024 + (h.val * 64 + d.val), by omega⟩ := by
  rw [← whole_apply, val_main_v58, val_main_v57]
  generalize val_main_v36 (F := Ideal) x0 x1 x2 = P
  pointwise

/-- The reference's queries, turned and scaled. -/
theorem query_turned (x0 : FVec Ideal S32768x1024 .f32) (x1 : FVec Ideal S4x6x1024 .f32) (x2 : FVec Ideal S2x1024x1536 .f32) (b : Fin 8) (s : Fin 4096) (h : Fin 12) (d : Fin 64) :
    val_main_v56 (F := Ideal) x0 x1 x2 (ix4 b s h d) =
      turned (fun d => whole x0 x1 x2 ⟨b.val * 4096 + s.val, by omega⟩ ⟨256 + (h.val * 64 + d.val), by omega⟩) (cosines s) (sines s) d * scale := by
  have hq := fun d => query_heads x0 x1 x2 b s h d
  pointwise [val_main_v56, val_main_v55, val_main_v54, val_main_v53, val_main_v52, val_main_v51, val_main_v50, val_main_v49, val_main_v48, val_main_v47, val_main_v46, val_main_v45, val_main_v44, val_main_v43, val_main_v42, val_main_v41, val_main_v40, val_main_cst_7, hq, turned, scale, cosines, sines]
  by_cases hd : d.val < 32
  · simp only [dif_pos hd]
  · have e : 32 + (d.val - 32) = d.val := by omega
    simp only [dif_neg hd, e]

/-- The reference's keys, turned. -/
theorem key_turned (x0 : FVec Ideal S32768x1024 .f32) (x1 : FVec Ideal S4x6x1024 .f32) (x2 : FVec Ideal S2x1024x1536 .f32) (b : Fin 8) (s : Fin 4096) (h : Fin 4) (d : Fin 64) :
    val_main_v73 (F := Ideal) x0 x1 x2 (ix4 b s h d) =
      turned (fun d => whole x0 x1 x2 ⟨b.val * 4096 + s.val, by omega⟩ ⟨1024 + (h.val * 64 + d.val), by omega⟩) (cosines s) (sines s) d := by
  have hq := fun d => key_heads x0 x1 x2 b s h d
  pointwise [val_main_v73, val_main_v72, val_main_v71, val_main_v70, val_main_v69, val_main_v68, val_main_v67, val_main_v66, val_main_v65, val_main_v64, val_main_v63, val_main_v62, val_main_v61, val_main_v60, val_main_v59, hq, turned, cosines, sines]
  by_cases hd : d.val < 32
  · simp only [dif_pos hd]
  · have e : 32 + (d.val - 32) = d.val := by omega
    simp only [dif_neg hd, e]

/-- The reference's queries as the call returns them. -/
theorem query_apply (x0 : FVec Ideal S32768x1024 .f32) (x1 : FVec Ideal S4x6x1024 .f32) (x2 : FVec Ideal S2x1024x1536 .f32) (R : Fin 32768) (q : Fin 768) :
    val_main_v78 (F := Ideal) x0 x1 x2 (ix2 R q) =
      turned (fun d => whole x0 x1 x2 R ⟨256 + ((q.val / 64 % 4 * 3 + q.val / 256) * 64 + d.val), by omega⟩)
        (cosines ⟨R.val % 4096, by omega⟩) (sines ⟨R.val % 4096, by omega⟩) ⟨q.val % 64, by omega⟩ * scale := by
  have hR : (⟨R.val / 4096 * 4096 + R.val % 4096, by omega⟩ : Fin 32768) = R := Fin.ext (by show R.val / 4096 * 4096 + R.val % 4096 = R.val; omega)
  have e := query_turned x0 x1 x2 ⟨R.val / 4096, by omega⟩ ⟨R.val % 4096, by omega⟩ ⟨q.val / 64 % 4 * 3 + q.val / 256, by omega⟩ ⟨q.val % 64, by omega⟩
  rw [hR] at e
  refine Eq.trans ?_ e
  rw [val_main_v78, val_main_v77, val_main_v76, val_main_v75]
  generalize val_main_v56 (F := Ideal) x0 x1 x2 = P
  pointwise

/-- The reference's keys as the call returns them. -/
theorem key_apply (x0 : FVec Ideal S32768x1024 .f32) (x1 : FVec Ideal S4x6x1024 .f32) (x2 : FVec Ideal S2x1024x1536 .f32) (R : Fin 32768) (q : Fin 256) :
    val_main_v80 (F := Ideal) x0 x1 x2 (ix2 R q) =
      turned (fun d => whole x0 x1 x2 R ⟨1024 + (q.val / 64 * 64 + d.val), by omega⟩)
        (cosines ⟨R.val % 4096, by omega⟩) (sines ⟨R.val % 4096, by omega⟩) ⟨q.val % 64, by omega⟩ := by
  have hR : (⟨R.val / 4096 * 4096 + R.val % 4096, by omega⟩ : Fin 32768) = R := Fin.ext (by show R.val / 4096 * 4096 + R.val % 4096 = R.val; omega)
  have e := key_turned x0 x1 x2 ⟨R.val / 4096, by omega⟩ ⟨R.val % 4096, by omega⟩ ⟨q.val / 64, by omega⟩ ⟨q.val % 64, by omega⟩
  rw [hR] at e
  refine Eq.trans ?_ e
  rw [val_main_v80, val_main_v79]
  generalize val_main_v73 (F := Ideal) x0 x1 x2 = P
  pointwise

end Cert.EvenInRefIdeal.Even
-- ==== Proof.EvenInEntry.lean ====
module

public import proofs.«01_k».proof.Proof.EvenInRef
public import Idealize.ShloMosaic.Lib.Claim
public import Idealize.ShloMosaic.Lib.StableHlo.RunRead

/-!
# What the input projection of the even layers reads, from the arguments
-/

@[expose] public section

set_option maxRecDepth 16384

noncomputable section

namespace Cert.EvenInIdeal.Even

open Cert.EvenInIdeal Cert.EvenInIdeal.Gen Cert.Even Cert.Row
open Idealize.ShloMosaic Idealize.ShloMosaic.TcCoe

/-- Where each window's block lies at a point of the grid. -/
theorem idx : ∀ t : Fin cfg0.N, win0_0.index t = ![t.val, 0] ∧ win0_1.index t = ![0, 0] ∧ win0_2.index t = ![0, 0] ∧
    win0_3.index t = ![t.val % 4, 0] ∧ win0_4.index t = ![t.val % 4, 0] ∧ win0_5.index t = ![t.val % 4, 0] ∧ win0_6.index t = ![t.val, 0] ∧
    win0_7.index t = ![t.val, 0] ∧ win0_8.index t = ![t.val, 0] ∧ win0_9.index t = ![t.val, 0] :=
  (by decide +kernel : ∀ t : Fin grid0.N, _)

variable (m : (ℓ : Loc nD τ sig) → Buf (Elt Ideal) ℓ)

/-- The norm's weights. -/
theorem entry_nw (c : Dev nD) (X : FVec Ideal S4x6x1024 .f32) (h : X = m ((c.tc : Thread nD τ).loc main_arg1)) (k : Fin 1024) :
    V m c main_v53 (ix2 0 k) = X (ix3 0 2 k) := by
  subst h
  entry_read
  pointwise

/-- The kernel's table of cosines: the reference's, four times side by side. -/
theorem entry_cos (c : Dev nD) (s : Fin 4096) (l : Fin 128) :
    V m c main_v23 (ix2 s l) = Cert.EvenInRefIdeal.Even.cosines s ⟨l.val % 32, by omega⟩ := by
  entry_read
  pointwise
  rw [Cert.EvenInRefIdeal.Even.cosines_eq]
  by_cases hl : l.val % 64 < 32
  · rw [dif_pos hl, show l.val % 64 = l.val % 32 by omega]; rfl
  · rw [dif_neg hl, show l.val % 64 - 32 = l.val % 32 by omega]; rfl

/-- The kernel's first table of sines: negated, in the first half of each head, and zero in the second. -/
theorem entry_sa (c : Dev nD) (s : Fin 4096) (l : Fin 128) :
    V m c main_v28 (ix2 s l) = if l.val % 64 < 32 then -Cert.EvenInRefIdeal.Even.sines s ⟨l.val % 32, by omega⟩ else 0 := by
  entry_read
  pointwise
  rw [Cert.EvenInRefIdeal.Even.sines_eq]
  by_cases hl : l.val % 64 < 32
  · rw [dif_pos hl, if_pos hl, show l.val % 64 = l.val % 32 by omega]; rfl
  · rw [dif_neg hl, if_neg hl]

/-- The kernel's second table of sines: zero in the first half of each head, and as it is in the second. -/
theorem entry_sb (c : Dev nD) (s : Fin 4096) (l : Fin 128) :
    V m c main_v32 (ix2 s l) = if l.val % 64 < 32 then 0 else Cert.EvenInRefIdeal.Even.sines s ⟨l.val % 32, by omega⟩ := by
  entry_read
  pointwise
  rw [Cert.EvenInRefIdeal.Even.sines_eq]
  by_cases hl : l.val % 64 < 32
  · rw [dif_pos hl, if_pos hl]
  · rw [dif_neg hl, if_neg hl, show l.val % 64 - 32 = l.val % 32 by omega]; rfl

/-- The column of the weights that stands at a column of the kernel's: the query heads are in another order. -/
def perm (c : Fin 1536) : Fin 1536 :=
  ⟨if c.val < 256 then c.val else if c.val < 1024 then 256 + ((c.val / 64 % 4 * 3 + (c.val - 256) / 256) * 64 + c.val % 64) else c.val, by split <;> [omega; split <;> omega]⟩

/-- Three pieces of the column order, one after another. -/
def glue (A : IVec S256 32) (B : IVec S768 32) (C : IVec S512 32) : IVec S1536 32 :=
  concatenate S1536 0 [⟨S256, A⟩, ⟨S768, B⟩, ⟨S512, C⟩] concatenates_S256_S768_S512_S1536_d0

/-- The query heads' columns, reordered. -/
def queries : IVec S768 32 :=
  addi (broadcastInDim S768 ![] bcast_S_S768 (constantI S_ 32 256#32))
    (shapeCast S768
      (addi
        (broadcastInDim S12x64 ![0, 1] bcast_S12x1_S12x64_0_1
          (muli (broadcastInDim S12x1 ![0] bcast_S12_S12x1_0 fun i => lit0 (S12.rowMajor i))
            (broadcastInDim S12x1 ![] bcast_S_S12x1 (constantI S_ 32 64#32))))
        (broadcastInDim S12x64 ![0, 1] bcast_S1x64_S12x64_0_1
          (broadcastInDim S1x64 ![1] bcast_S64_S1x64_1 (iotaInDim S64 32 0))))
      shapeCasts_S12x64_S768)

/-- The keys' and values' columns. -/
def others : IVec S512 32 :=
  addi (broadcastInDim S512 ![] bcast_S_S512 (constantI S_ 32 1024#32)) (iotaInDim S512 32 0)

/-- The column order: the pool's columns, the queries', the rest. -/
def joined : IVec S1536 32 := glue (iotaInDim S256 32 0) queries others

/-- Negative entries, of which there are none, wrapped round. -/
def wrap (A : IVec S1536 32) : IVec S1536x1 32 :=
  broadcastInDim S1536x1 ![0] bcast_S1536_S1536x1_0
    (select (cmpi .slt A (broadcastInDim S1536 ![] bcast_S_S1536 (constantI S_ 32 0#32)))
      (addi A (broadcastInDim S1536 ![] bcast_S_S1536 (constantI S_ 32 1536#32))) A)

/-- The words the gather takes its columns by. -/
def wrapped : IVec S1536x1 32 := wrap joined

/-- What the line before the call leaves where the three pieces are joined. -/
theorem entry_joined (c : Dev nD) :
    concatenate (α := BitVec 32) S1536 0
      [⟨S256, StableHlo.upto (hostOps0 (F := Ideal)) (fun b => m (c, b)) 58 (Proc.tc.devRef (![main_v42, main_v44, main_v47] 0))⟩,
        ⟨S768, StableHlo.upto (hostOps0 (F := Ideal)) (fun b => m (c, b)) 58 (Proc.tc.devRef (![main_v42, main_v44, main_v47] 1))⟩,
        ⟨S512, StableHlo.upto (hostOps0 (F := Ideal)) (fun b => m (c, b)) 58 (Proc.tc.devRef (![main_v42, main_v44, main_v47] 2))⟩]
      concatenates_S256_S768_S512_S1536_d0 = joined := by
  have e0 : StableHlo.upto (hostOps0 (F := Ideal)) (fun b => m (c, b)) 58 (Proc.devRef .tc main_v42) = iotaInDim S256 32 0 := by
    after_reads_simp
  have e1 : StableHlo.upto (hostOps0 (F := Ideal)) (fun b => m (c, b)) 58 (Proc.devRef .tc main_v44) = queries := by
    after_reads_simp
    rfl
  have e2 : StableHlo.upto (hostOps0 (F := Ideal)) (fun b => m (c, b)) 58 (Proc.devRef .tc main_v47) = others := by
    after_reads_simp
    rfl
  have t : glue _ _ _ = glue _ _ _ := congr (congr (congrArg glue e0) e1) e2
  exact t

/-- The words, as the line before the call leaves them. -/
theorem entry_words (c : Dev nD) : (V m c main_v61 : IVec S1536x1 32) = wrapped := by
  after_reads_simp
  exact congrArg wrap (entry_joined m c)

/-- Each word is the number of the column that stands there. -/
theorem wrapped_apply : ∀ q : Fin 1536, wrapped (ix2 q 0) = BitVec.ofNat 32 (perm q).val := by
  decide +kernel

/-- The gather of columns: at a column whose word is `n`, column `n` of the operand. -/
theorem gather_apply (x : FVec Ideal S1024x1536 .f32) (w : IVec S1536x1 32) (k : Fin 1024) (q n : Fin 1536) (h : w (ix2 q 0) = BitVec.ofNat 32 n.val) :
    Host.gather gather_S1024x1536_S1536x1_S1024x1536_0_1_n_n_1_1_10241 x w (ix2 k q) = x (ix2 k n) := by
  unfold Host.gather
  congr 1
  funext a
  refine Fin.ext ?_
  match a with
  | ⟨0, _⟩ =>
    show GatherDims.start _ _ _ 0 + GatherDims.batchCoord _ _ 0 + GatherDims.offCoord _ _ 0 = _
    rw [GatherDims.batchCoord_eq_zero _ _ _ List.not_mem_nil]
    unfold GatherDims.start
    rw [dif_neg (by decide)]
    unfold GatherDims.offCoord
    rw [dif_pos (by decide)]
    exact (Nat.zero_add _).trans (congrArg (fun z : Fin 2 => ((ix2 k q : S1024x1536.Idx) z).val) (a₂ := 0) (by decide +kernel))
  | ⟨1, _⟩ =>
    show GatherDims.start _ _ _ 1 + GatherDims.batchCoord _ _ 1 + GatherDims.offCoord _ _ 1 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (by decide)]
    have e : ∀ z, GatherDims.siIdx gather_S1024x1536_S1536x1_S1024x1536_0_1_n_n_1_1_10241 (ix2 k q) z = ix2 q 0 := by
      intro z
      funext b
      refine Fin.ext ?_
      match b with
      | ⟨0, _⟩ => rfl
      | ⟨1, _⟩ => exact Nat.lt_one_iff.1 (Fin.isLt _)
    rw [e, h]
    show min (BitVec.ofNat 32 n.val).toInt.toNat 1535 + 0 + 0 = n.val
    rw [(by decide +kernel : ∀ n : Fin 1536, (BitVec.ofNat 32 n.val).toInt.toNat = n.val) n]
    omega

/-- The same after the rounding, which changes nothing here. -/
theorem narrow_apply (x : FVec Ideal S1024x1536 .f32) (w : IVec S1536x1 32) (k : Fin 1024) (q n : Fin 1536) (h : w (ix2 q 0) = BitVec.ofNat 32 n.val) :
    truncf .bf16 (Host.gather gather_S1024x1536_S1536x1_S1024x1536_0_1_n_n_1_1_10241 x w) bitsLt_bf16_f32 (ix2 k q) = x (ix2 k n) := by
  rw [← gather_apply x w k q n h]
  pointwise

/-- The weights: the argument's, their columns in the kernel's order. -/
theorem entry_w (c : Dev nD) (X : FVec Ideal S2x1024x1536 .f32) (h : X = m ((c.tc : Thread nD τ).loc main_arg2)) (k : Fin 1024) (q : Fin 1536) :
    V m c main_v63 (ix2 k q) = X (ix3 0 k (perm q)) := by
  subst h
  after_reads_simp
  refine (narrow_apply _ _ k q (perm q) ?_).trans ?_
  · exact (congrFun (congrArg wrap (entry_joined m c)) _).trans (wrapped_apply q)
  · pointwise

end Cert.EvenInIdeal.Even
-- ==== Proof.EvenInFinal.lean ====
module

public import proofs.«01_k».proof.Proof.EvenInEntry
public import proofs.«01_k».proof.Proof.Gen.EvenInIdeal.Value
public import proofs.«01_k».proof.Proof.Gen.EvenInRefIdeal.Run
public import Idealize.ShloMosaic.Lib.Claim

/-!
# The four results of the even layers' input projection are the reference's
-/

@[expose] public section

set_option maxRecDepth 16384

noncomputable section

namespace Cert.EvenInIdeal.Even

open Cert.EvenInIdeal Cert.EvenInIdeal.Gen Cert.Even Cert.Row
open Idealize.ShloMosaic Idealize.ShloMosaic.TcCoe

variable (m : (ℓ : Loc nD τ sig) → Buf (Elt Ideal) ℓ)

section Blocks
variable (c : Dev nD) (t : Fin cfg0.N) (r : Fin 1024)

/-- The row of the array that stands at a row of a point's blocks. -/
def line : Fin 32768 := ⟨t.val * 1024 + r.val, by have : t.val < 32 := t.isLt; omega⟩

/-- The position in its sequence of a row of a point's blocks. -/
def spot : Fin 4096 := ⟨t.val % 4 * 1024 + r.val, by omega⟩

/-- Positions start again with each sequence. -/
theorem spot_eq : (⟨(line t r).val % 4096, by omega⟩ : Fin 4096) = spot t r :=
  Fin.ext (by show (t.val * 1024 + r.val) % 4096 = t.val % 4 * 1024 + r.val; omega)

/-- A row of the input. -/
theorem blk_x (X : FVec Ideal S32768x1024 .f32) (h : X = m ((c.tc : Thread nD τ).loc main_arg0)) (k : Fin 1024) :
    iblk m c 0 t (ix2 r k) = X (ix2 (line t r) k) :=
  Eq.trans (b := V m c main_arg0 (ix2 (line t r) k)) (by blk_ext [iblk, idx t, line]) (congrFun ((V_main_arg0 m c).trans h.symm) _)

/-- The norm's weights. -/
theorem blk_nw (X : FVec Ideal S4x6x1024 .f32) (h : X = m ((c.tc : Thread nD τ).loc main_arg1)) (k : Fin 1024) :
    iblk m c 1 t (ix2 0 k) = X (ix3 0 2 k) :=
  Eq.trans (b := V m c main_v53 (ix2 0 k)) (by blk_ext [iblk, idx t]) (entry_nw m c X h k)

/-- The projection's weights. -/
theorem blk_w (X : FVec Ideal S2x1024x1536 .f32) (h : X = m ((c.tc : Thread nD τ).loc main_arg2)) (k : Fin 1024) (q : Fin 1536) :
    iblk m c 2 t (ix2 k q) = X (ix3 0 k (perm q)) :=
  Eq.trans (b := V m c main_v63 (ix2 k q)) (by blk_ext [iblk, idx t]) (entry_w m c X h k q)

/-- The cosines at a row's position. -/
theorem blk_cos (l : Fin 128) : iblk m c 3 t (ix2 r l) = Cert.EvenInRefIdeal.Even.cosines (spot t r) ⟨l.val % 32, by omega⟩ :=
  Eq.trans (b := V m c main_v23 (ix2 (spot t r) l)) (by blk_ext [iblk, idx t, spot]) (entry_cos m c _ l)

/-- The first table of sines at a row's position. -/
theorem blk_sa (l : Fin 128) :
    iblk m c 4 t (ix2 r l) = if l.val % 64 < 32 then -Cert.EvenInRefIdeal.Even.sines (spot t r) ⟨l.val % 32, by omega⟩ else 0 :=
  Eq.trans (b := V m c main_v28 (ix2 (spot t r) l)) (by blk_ext [iblk, idx t, spot]) (entry_sa m c _ l)

/-- The second table of sines at a row's position. -/
theorem blk_sb (l : Fin 128) :
    iblk m c 5 t (ix2 r l) = if l.val % 64 < 32 then 0 else Cert.EvenInRefIdeal.Even.sines (spot t r) ⟨l.val % 32, by omega⟩ :=
  Eq.trans (b := V m c main_v32 (ix2 (spot t r) l)) (by blk_ext [iblk, idx t, spot]) (entry_sb m c _ l)

variable (X0 : FVec Ideal S32768x1024 .f32) (X1 : FVec Ideal S4x6x1024 .f32) (X2 : FVec Ideal S2x1024x1536 .f32)
  (h0 : X0 = m ((c.tc : Thread nD τ).loc main_arg0)) (h1 : X1 = m ((c.tc : Thread nD τ).loc main_arg1)) (h2 : X2 = m ((c.tc : Thread nD τ).loc main_arg2))

include h0 h1 h2

/-- A column of the kernel's projection is the reference's column that stands there. -/
theorem blk_proj (q : Fin 1536) :
    proj (fun k => iblk m c 0 t (ix2 r k)) (fun k => iblk m c 1 t (ix2 0 k)) (fun k => iblk m c 2 t (ix2 k q)) =
      Cert.EvenInRefIdeal.Even.whole X0 X1 X2 (line t r) (perm q) := by
  simp only [blk_x m c t r X0 h0, blk_nw m c t X1 h1, blk_w m c t X2 h2]
  rfl

/-- Two heads side by side, each turned by its position's angles. -/
theorem blk_heads (o : Nat) (ho : o + 128 ≤ 1536) (l : Fin 128) :
    heads (iblk m c 0 t) (iblk m c 1 t) (iblk m c 2 t) (iblk m c 3 t) (iblk m c 4 t) (iblk m c 5 t) r o ho l =
      turned (fun d => Cert.EvenInRefIdeal.Even.whole X0 X1 X2 (line t r) (perm ⟨o + (l.val / 64 * 64 + d.val), by omega⟩))
        (Cert.EvenInRefIdeal.Even.cosines (spot t r)) (Cert.EvenInRefIdeal.Even.sines (spot t r)) ⟨l.val % 64, by omega⟩ := by
  unfold heads
  simp only [blk_proj m c t r X0 X1 X2 h0 h1 h2]
  exact spin_eq _ _ _ _ _ _ l (blk_cos m c t r l) (blk_sa m c t r l) (blk_sb m c t r l)

end Blocks

/-- After the kernel's run the pooled channels are the reference's. -/
theorem final_pool (c : Dev nD) (X0 : FVec Ideal S32768x1024 .f32) (X1 : FVec Ideal S4x6x1024 .f32) (X2 : FVec Ideal S2x1024x1536 .f32)
    (h0 : X0 = m ((c.tc : Thread nD τ).loc main_arg0)) (h1 : X1 = m ((c.tc : Thread nD τ).loc main_arg1)) (h2 : X2 = m ((c.tc : Thread nD τ).loc main_arg2)) :
    (dats m 0 c).arrAt 6 (cfgs 0).N = Cert.EvenInRefIdeal.Read.val_main_v37 (F := Ideal) X0 X1 X2 := by
  refine (dats m 0 c).arrAt_eq_of_covers 6 _ (by decide +kernel) fun t _ y => ?_
  blk_simp
  have ht : t.val < 32 := t.isLt
  obtain ⟨Y0, Y1, hy⟩ : ∃ (Y0 : Fin 1024) (Y1 : Fin 256), y = ix2 Y0 Y1 := ⟨y 0, y 1, funext fun a => match a with | ⟨0, _⟩ => rfl | ⟨1, _⟩ => rfl⟩
  subst hy
  rw [after0_6]
  refine (out6_apply _ _ _ _ _ _ _ _).trans ?_
  refine Eq.trans (b := Cert.EvenInRefIdeal.Read.val_main_v37 (F := Ideal) X0 X1 X2 (ix2 (line t Y0) Y1)) ?_ ?_
  · rw [Cert.EvenInRefIdeal.Even.pool_apply]
    rw [blk_proj m c t _ X0 X1 X2 h0 h1 h2]
    refine congrArg (Cert.EvenInRefIdeal.Even.whole X0 X1 X2 _) (Fin.ext ?_)
    show (if 0 + Y1.val < 256 then 0 + Y1.val else _) = Y1.val
    rw [if_pos (by omega)]
    omega
  · refine congrArg (Cert.EvenInRefIdeal.Read.val_main_v37 (F := Ideal) X0 X1 X2) ?_
    blk_ext [idx t, line]

/-- After the kernel's run the queries are the reference's. -/
theorem final_query (c : Dev nD) (X0 : FVec Ideal S32768x1024 .f32) (X1 : FVec Ideal S4x6x1024 .f32) (X2 : FVec Ideal S2x1024x1536 .f32)
    (h0 : X0 = m ((c.tc : Thread nD τ).loc main_arg0)) (h1 : X1 = m ((c.tc : Thread nD τ).loc main_arg1)) (h2 : X2 = m ((c.tc : Thread nD τ).loc main_arg2)) :
    (dats m 0 c).arrAt 7 (cfgs 0).N = Cert.EvenInRefIdeal.Read.val_main_v78 (F := Ideal) X0 X1 X2 := by
  refine (dats m 0 c).arrAt_eq_of_covers 7 _ (by decide +kernel) fun t _ y => ?_
  blk_simp
  have ht : t.val < 32 := t.isLt
  obtain ⟨Y0, Y1, hy⟩ : ∃ (Y0 : Fin 1024) (Y1 : Fin 768), y = ix2 Y0 Y1 := ⟨y 0, y 1, funext fun a => match a with | ⟨0, _⟩ => rfl | ⟨1, _⟩ => rfl⟩
  subst hy
  rw [after0_7]
  refine (out7_apply _ _ _ _ _ _ _ _).trans ?_
  refine Eq.trans (b := Cert.EvenInRefIdeal.Read.val_main_v78 (F := Ideal) X0 X1 X2 (ix2 (line t Y0) Y1)) ?_ ?_
  · rw [Cert.EvenInRefIdeal.Even.query_apply]
    rw [blk_heads m c t _ X0 X1 X2 h0 h1 h2, spot_eq t]
    have e : ∀ d : Fin 64, perm ⟨256 + Y1.val / 128 * 128 + (Y1.val % 128 / 64 * 64 + d.val), by omega⟩ =
        (⟨256 + ((Y1.val / 64 % 4 * 3 + Y1.val / 256) * 64 + d.val), by omega⟩ : Fin 1536) := by
      intro d
      refine Fin.ext ?_
      unfold perm
      dsimp only
      rw [if_neg (by omega), if_pos (by omega)]
      omega
    have e' : (⟨Y1.val % 128 % 64, by omega⟩ : Fin 64) = ⟨Y1.val % 64, by omega⟩ := Fin.ext (by show Y1.val % 128 % 64 = Y1.val % 64; omega)
    simp only [e, e']
  · refine congrArg (Cert.EvenInRefIdeal.Read.val_main_v78 (F := Ideal) X0 X1 X2) ?_
    blk_ext [idx t, line]

/-- After the kernel's run the keys are the reference's. -/
theorem final_key (c : Dev nD) (X0 : FVec Ideal S32768x1024 .f32) (X1 : FVec Ideal S4x6x1024 .f32) (X2 : FVec Ideal S2x1024x1536 .f32)
    (h0 : X0 = m ((c.tc : Thread nD τ).loc main_arg0)) (h1 : X1 = m ((c.tc : Thread nD τ).loc main_arg1)) (h2 : X2 = m ((c.tc : Thread nD τ).loc main_arg2)) :
    (dats m 0 c).arrAt 8 (cfgs 0).N = Cert.EvenInRefIdeal.Read.val_main_v80 (F := Ideal) X0 X1 X2 := by
  refine (dats m 0 c).arrAt_eq_of_covers 8 _ (by decide +kernel) fun t _ y => ?_
  blk_simp
  have ht : t.val < 32 := t.isLt
  obtain ⟨Y0, Y1, hy⟩ : ∃ (Y0 : Fin 1024) (Y1 : Fin 256), y = ix2 Y0 Y1 := ⟨y 0, y 1, funext fun a => match a with | ⟨0, _⟩ => rfl | ⟨1, _⟩ => rfl⟩
  subst hy
  rw [after0_8]
  refine (out8_apply _ _ _ _ _ _ _ _).trans ?_
  refine Eq.trans (b := Cert.EvenInRefIdeal.Read.val_main_v80 (F := Ideal) X0 X1 X2 (ix2 (line t Y0) Y1)) ?_ ?_
  · rw [Cert.EvenInRefIdeal.Even.key_apply]
    rw [blk_heads m c t _ X0 X1 X2 h0 h1 h2, spot_eq t]
    have e : ∀ d : Fin 64, perm ⟨1024 + Y1.val / 128 * 128 + (Y1.val % 128 / 64 * 64 + d.val), by omega⟩ =
        (⟨1024 + (Y1.val / 64 * 64 + d.val), by omega⟩ : Fin 1536) := by
      intro d
      refine Fin.ext ?_
      unfold perm
      dsimp only
      rw [if_neg (by omega), if_neg (by omega)]
      omega
    have e' : (⟨Y1.val % 128 % 64, by omega⟩ : Fin 64) = ⟨Y1.val % 64, by omega⟩ := Fin.ext (by show Y1.val % 128 % 64 = Y1.val % 64; omega)
    simp only [e, e']
  · refine congrArg (Cert.EvenInRefIdeal.Read.val_main_v80 (F := Ideal) X0 X1 X2) ?_
    blk_ext [idx t, line]

/-- After the kernel's run the values are the reference's. -/
theorem final_value (c : Dev nD) (X0 : FVec Ideal S32768x1024 .f32) (X1 : FVec Ideal S4x6x1024 .f32) (X2 : FVec Ideal S2x1024x1536 .f32)
    (h0 : X0 = m ((c.tc : Thread nD τ).loc main_arg0)) (h1 : X1 = m ((c.tc : Thread nD τ).loc main_arg1)) (h2 : X2 = m ((c.tc : Thread nD τ).loc main_arg2)) :
    (dats m 0 c).arrAt 9 (cfgs 0).N = Cert.EvenInRefIdeal.Read.val_main_v81 (F := Ideal) X0 X1 X2 := by
  refine (dats m 0 c).arrAt_eq_of_covers 9 _ (by decide +kernel) fun t _ y => ?_
  blk_simp
  have ht : t.val < 32 := t.isLt
  obtain ⟨Y0, Y1, hy⟩ : ∃ (Y0 : Fin 1024) (Y1 : Fin 256), y = ix2 Y0 Y1 := ⟨y 0, y 1, funext fun a => match a with | ⟨0, _⟩ => rfl | ⟨1, _⟩ => rfl⟩
  subst hy
  rw [after0_9]
  refine (out9_apply _ _ _ _ _ _ _ _).trans ?_
  refine Eq.trans (b := Cert.EvenInRefIdeal.Read.val_main_v81 (F := Ideal) X0 X1 X2 (ix2 (line t Y0) Y1)) ?_ ?_
  · rw [Cert.EvenInRefIdeal.Even.value_apply]
    rw [blk_proj m c t _ X0 X1 X2 h0 h1 h2]
    refine congrArg (Cert.EvenInRefIdeal.Even.whole X0 X1 X2 _) (Fin.ext ?_)
    show (if 1280 + Y1.val < 256 then _ else if 1280 + Y1.val < 1024 then _ else 1280 + Y1.val) = 1280 + Y1.val
    rw [if_neg (by omega), if_neg (by omega)]
  · refine congrArg (Cert.EvenInRefIdeal.Read.val_main_v81 (F := Ideal) X0 X1 X2) ?_
    blk_ext [idx t, line]

end Cert.EvenInIdeal.Even
-- ==== Proof.EvenInClaim.lean ====
module

public import proofs.«01_k».proof.Defs
public import proofs.«01_k».proof.Proof.EvenInFinal
public import proofs.«01_k».proof.Proof.Gen.EvenInIdeal
public import proofs.«01_k».proof.Proof.Gen.EvenInIdeal.Frame
public import proofs.«01_k».proof.Proof.Gen.EvenInRefIdeal
public import proofs.«01_k».proof.Proof.Gen.EvenInRefIdeal.Run
public import Idealize.ShloMosaic.Lib.Claim

/-!
# The claims about the even layers' input projection
-/

@[expose] public section

set_option maxRecDepth 16384

noncomputable section

namespace Cert.Proof

open Idealize.ShloMosaic Idealize.ShloMosaic.TcCoe Idealize.SL.Sem

/-- The reference of the input projection terminates, changes no argument and leaves every semaphore at zero. -/
theorem even_in_ref_frame : Cert.quiescent_EvenInRefIdeal (hEvenInRefIdeal := Cert.EvenInRefIdeal.Gen.facts) :=
  fun m g _ => (θ_run Cert.EvenInRefIdeal.defs _ _).mono
    (fun r h => ⟨fun c => (h c).2.2.2.2, sem_eq_zero_of_no_sems (by decide) r.2⟩) (Cert.EvenInRefIdeal.Value.run (F := Ideal) m g)

set_option maxHeartbeats 1600000 in
/-- The input projection and its reference compute the same four arrays over the extended reals. -/
theorem even_in_algebraic : Cert.algebraic_EvenInIdeal_EvenInRefIdeal (hEvenInIdeal := Cert.EvenInIdeal.Gen.facts)
    (hEvenInRefIdeal := Cert.EvenInRefIdeal.Gen.facts) := by
  pair_intro
  · run_from Cert.EvenInIdeal.Gen.run_main m g
  · run_from Cert.EvenInRefIdeal.Value.run m' g'
    · rw [Cert.EvenInIdeal.Even.final_pool m c _ _ _ rfl rfl rfl]
      exact Cert.EvenInRefIdeal.Read.val_main_v37_eq _ _ _
    · obtain ⟨a0, a1, a2⟩ := hagree c
      rw [Cert.EvenInIdeal.Even.final_query m c _ _ _ rfl rfl rfl, Cert.EvenInRefIdeal.Read.val_main_v78_eq, a0, a1, a2]
    · obtain ⟨a0, a1, a2⟩ := hagree c
      rw [Cert.EvenInIdeal.Even.final_key m c _ _ _ rfl rfl rfl, Cert.EvenInRefIdeal.Read.val_main_v80_eq, a0, a1, a2]
    · rw [Cert.EvenInIdeal.Even.final_value m c _ _ _ rfl rfl rfl]
      exact Cert.EvenInRefIdeal.Read.val_main_v81_eq _ _ _

end Cert.Proof
-- ==== Proof.OddInBlock.lean ====
module

public import proofs.«01_k».proof.Proof.Common
public import proofs.«01_k».proof.Proof.Gen.OddInIdeal.Value
public import Idealize.ShloMosaic.Lib.Pipeline.ValueKit

/-!
# What the odd layers' input projection stores for the gate and for the step
-/

@[expose] public section

set_option maxRecDepth 16384

noncomputable section

namespace Cert.OddInIdeal.Odd

open Cert.OddInIdeal Cert.OddInIdeal.Gen
open Idealize.ShloMosaic Idealize.ShloMosaic.TcCoe Idealize.ShloMosaic.Tactic

variable {F : FTy → Type} [FloatOps F]

/-- The normalised rows of a tile. -/
def hidden (x : Vec F S1024x1024 .f32) (w : Vec F S1x1024 .f32) : FVec F S1024x1024 .bf16 :=
  k0_pay111 (k0_pay107 w) x (k0_pay109 x) k0_pay110

/-- The stores into the scratch of normalised rows, the last one first: the rows after the tile, the tile's, the rows before it. -/
def rowsL (xp : Vec F S16x1024 .f32) (x : Vec F S1024x1024 .f32) (xn : Vec F S16x1024 .f32) (w : Vec F S1x1024 .f32) :
    List (View.Piece (Elt F) S1056x1024 .bf16) :=
  [⟨Rect.unit (s := S1056x1024) ![1040, 0] S16x1024.size inb_S1056x1024_S16x1024_1040_0, k0_pay112 (k0_pay107 w) xn⟩,
    ⟨Rect.unit (s := S1056x1024) ![16, 0] S1024x1024.size inb_S1056x1024_S1024x1024_16_0, hidden x w⟩,
    ⟨Rect.unit (s := S1056x1024) ![0, 0] S16x1024.size inb_S1056x1024_S16x1024_0_0, k0_pay108 w xp⟩]

/-- The tile's rows read back from the scratch. -/
theorem rows_mid {sig : RefSig} {κ : Kind} {sp : Space} (v : View sig κ sp S1056x1024 .bf16)
    (xp : Vec F S16x1024 .f32) (x : Vec F S1024x1024 .f32) (xn : Vec F S16x1024 .f32) (w : Vec F S1x1024 .f32) :
    v.readCov (rowsL xp x xn w) (Rect.unit (s := S1056x1024) ![16, 0] S1024x1024.size inb_S1056x1024_S1024x1024_16_0).toLoadRect = hidden x w := by
  rw [View.readCov_eq_canon']
  funext z
  have hz : (z 0).val < 1024 := (z 0).isLt
  refine (View.canon_cons_of_not_mem ⟨_, _⟩ _ ?_).trans (View.canon_cons_emb _ _ _ z)
  intro hm
  obtain ⟨u, hu⟩ := (Rect.unit (s := S1056x1024) ![1040, 0] S16x1024.size inb_S1056x1024_S16x1024_1040_0).exists_idx_of_mem hm
  have e : 1040 + 1 * (u 0).val = 16 + 1 * (z 0).val := congrArg (fun y : S1056x1024.Idx => (y 0).val) hu
  omega

/-- What the body stores for the gate: the tile's rows against its weights. -/
theorem run_gate (c : Dev nD) (i : grid0.Coords) (arg1 : Memref sig .tc .vmem S16x1024 .f32) (harg1 : arg1.IsWhole) (arg2 : Memref sig .tc .vmem S1024x1024 .f32) (harg2 : arg2.IsWhole) (arg3 : Memref sig .tc .vmem S16x1024 .f32) (harg3 : arg3.IsWhole) (arg4 : Memref sig .tc .vmem S1x1024 .f32) (harg4 : arg4.IsWhole) (arg5 : Memref sig .tc .vmem S1024x3072 .bf16) (harg5 : arg5.IsWhole) (arg6 : Memref sig .tc .vmem S1024x1024 .bf16) (harg6 : arg6.IsWhole) (arg7 : Memref sig .tc .vmem S1024x128 .bf16) (harg7 : arg7.IsWhole) (arg8 : Memref sig .tc .vmem S31x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S4x2048 .f32) (harg12 : arg12.IsWhole) (arg13 : Memref sig .tc .vmem S1x2048 .f32) (harg13 : arg13.IsWhole) (arg14 : Memref sig .tc .vmem S1x128 .f32) (harg14 : arg14.IsWhole) (arg15 : Memref sig .tc .vmem S1024x512 .bf16) (harg15 : arg15.IsWhole) (arg16 : Memref sig .tc .vmem S1024x2048 .bf16) (harg16 : arg16.IsWhole) (arg17 : Memref sig .tc .vmem S1024x1024 .bf16) (harg17 : arg17.IsWhole) (arg18 : Memref sig .tc .vmem S1024x128 .f32) (harg18 : arg18.IsWhole) (arg19 : Memref sig .tc .vmem S1056x1024 .bf16) (harg19 : arg19.IsWhole) (arg20 : Memref sig .tc .vmem S1056x512 .f32) (harg20 : arg20.IsWhole) (arg21 : Memref sig .tc .vmem S1056x2048 .f32) (harg21 : arg21.IsWhole) (arg22 : Memref sig .tc .vmem S1024x512 .f32) (harg22 : arg22.IsWhole)
    (x0 : Vec F S16x1024 .f32) (x1 : Vec F S1024x1024 .f32) (x2 : Vec F S16x1024 .f32) (x3 : Vec F S1x1024 .f32) (x4 : Vec F S1024x3072 .bf16) (x5 : Vec F S1024x1024 .bf16) (x6 : Vec F S1024x128 .bf16) (x7 : Vec F S31x512 .f32) (x8 : Vec F S1x512 .f32) (x9 : Vec F S1x512 .f32) (x10 : Vec F S1x512 .f32) (x11 : Vec F S4x2048 .f32) (x12 : Vec F S1x2048 .f32) (x13 : Vec F S1x128 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13).2.2.1 =
    [⟨Rect.unit (s := S1024x1024) ![0, 0] S1024x1024.size inb_S1024x1024_S1024x1024_0_0,
      k0_pay120 (arg19.view.readCov (rowsL (View.ld (arg1.view.read (Elt F) (harg1.unread x0)) (Rect.unit (s := S16x1024) ![0, 0] S16x1024.size inb_S16x1024_S16x1024_0_0)) (View.ld (arg2.view.read (Elt F) (harg2.unread x1)) (Rect.unit (s := S1024x1024) ![0, 0] S1024x1024.size inb_S1024x1024_S1024x1024_0_0)) (View.ld (arg3.view.read (Elt F) (harg3.unread x2)) (Rect.unit (s := S16x1024) ![0, 0] S16x1024.size inb_S16x1024_S16x1024_0_0)) (View.ld (arg4.view.read (Elt F) (harg4.unread x3)) (Rect.unit (s := S1x1024) ![0, 0] S1x1024.size inb_S1x1024_S1x1024_0_0))) (Rect.unit (s := S1056x1024) ![16, 0] S1024x1024.size inb_S1056x1024_S1024x1024_16_0).toLoadRect) (View.ld (arg6.view.read (Elt F) (harg6.unread x5)) (Rect.unit (s := S1024x1024) ![0, 0] S1024x1024.size inb_S1024x1024_S1024x1024_0_0))⟩] := by
  sl_kernel_rfl

/-- What the body stores for the step: the tile's rows against its weights, the bias, the soft maximum with zero. -/
theorem run_step (c : Dev nD) (i : grid0.Coords) (arg1 : Memref sig .tc .vmem S16x1024 .f32) (harg1 : arg1.IsWhole) (arg2 : Memref sig .tc .vmem S1024x1024 .f32) (harg2 : arg2.IsWhole) (arg3 : Memref sig .tc .vmem S16x1024 .f32) (harg3 : arg3.IsWhole) (arg4 : Memref sig .tc .vmem S1x1024 .f32) (harg4 : arg4.IsWhole) (arg5 : Memref sig .tc .vmem S1024x3072 .bf16) (harg5 : arg5.IsWhole) (arg6 : Memref sig .tc .vmem S1024x1024 .bf16) (harg6 : arg6.IsWhole) (arg7 : Memref sig .tc .vmem S1024x128 .bf16) (harg7 : arg7.IsWhole) (arg8 : Memref sig .tc .vmem S31x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S4x2048 .f32) (harg12 : arg12.IsWhole) (arg13 : Memref sig .tc .vmem S1x2048 .f32) (harg13 : arg13.IsWhole) (arg14 : Memref sig .tc .vmem S1x128 .f32) (harg14 : arg14.IsWhole) (arg15 : Memref sig .tc .vmem S1024x512 .bf16) (harg15 : arg15.IsWhole) (arg16 : Memref sig .tc .vmem S1024x2048 .bf16) (harg16 : arg16.IsWhole) (arg17 : Memref sig .tc .vmem S1024x1024 .bf16) (harg17 : arg17.IsWhole) (arg18 : Memref sig .tc .vmem S1024x128 .f32) (harg18 : arg18.IsWhole) (arg19 : Memref sig .tc .vmem S1056x1024 .bf16) (harg19 : arg19.IsWhole) (arg20 : Memref sig .tc .vmem S1056x512 .f32) (harg20 : arg20.IsWhole) (arg21 : Memref sig .tc .vmem S1056x2048 .f32) (harg21 : arg21.IsWhole) (arg22 : Memref sig .tc .vmem S1024x512 .f32) (harg22 : arg22.IsWhole)
    (x0 : Vec F S16x1024 .f32) (x1 : Vec F S1024x1024 .f32) (x2 : Vec F S16x1024 .f32) (x3 : Vec F S1x1024 .f32) (x4 : Vec F S1024x3072 .bf16) (x5 : Vec F S1024x1024 .bf16) (x6 : Vec F S1024x128 .bf16) (x7 : Vec F S31x512 .f32) (x8 : Vec F S1x512 .f32) (x9 : Vec F S1x512 .f32) (x10 : Vec F S1x512 .f32) (x11 : Vec F S4x2048 .f32) (x12 : Vec F S1x2048 .f32) (x13 : Vec F S1x128 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13).2.2.2.1 =
    [⟨Rect.unit (s := S1024x128) ![0, 0] S1024x128.size inb_S1024x128_S1024x128_0_0,
      k0_pay121 (arg19.view.readCov (rowsL (View.ld (arg1.view.read (Elt F) (harg1.unread x0)) (Rect.unit (s := S16x1024) ![0, 0] S16x1024.size inb_S16x1024_S16x1024_0_0)) (View.ld (arg2.view.read (Elt F) (harg2.unread x1)) (Rect.unit (s := S1024x1024) ![0, 0] S1024x1024.size inb_S1024x1024_S1024x1024_0_0)) (View.ld (arg3.view.read (Elt F) (harg3.unread x2)) (Rect.unit (s := S16x1024) ![0, 0] S16x1024.size inb_S16x1024_S16x1024_0_0)) (View.ld (arg4.view.read (Elt F) (harg4.unread x3)) (Rect.unit (s := S1x1024) ![0, 0] S1x1024.size inb_S1x1024_S1x1024_0_0))) (Rect.unit (s := S1056x1024) ![16, 0] S1024x1024.size inb_S1056x1024_S1024x1024_16_0).toLoadRect) (View.ld (arg7.view.read (Elt F) (harg7.unread x6)) (Rect.unit (s := S1024x128) ![0, 0] S1024x128.size inb_S1024x128_S1024x128_0_0)) (View.ld (arg14.view.read (Elt F) (harg14.unread x13)) (Rect.unit (s := S1x128) ![0, 0] S1x128.size inb_S1x128_S1x128_0_0))⟩] := by
  sl_kernel_rfl

variable (m : (ℓ : Loc nD τ sig) → Buf (Elt F) ℓ)

/-- The gate's tile at a grid point. -/
theorem gate_eq (c : Dev nD) (t : Fin cfg0.N) :
    (outsAt0 m c t).2.2.1 = k0_pay120 (hidden (iblk m c 1 t) (iblk m c 3 t)) (iblk m c 5 t) := by
  have hz : ∀ a : Fin 2, (![0, 0] : Fin 2 → Nat) a = 0 := by decide
  unfold outsAt0 out0_A_16
  dsimp only
  rw [View.read_writes_junk_eq_canon, run_gate, rows_mid]
  simp only [Memref.IsWhole.read_unread]
  rw [View.canon_cons_unit_lit' _ _ _ hz, View.ld_unit_lit' _ _ hz, View.ld_unit_lit' _ _ hz, View.ld_unit_lit' _ _ hz]

/-- The step's tile at a grid point. -/
theorem step_eq (c : Dev nD) (t : Fin cfg0.N) :
    (outsAt0 m c t).2.2.2 = k0_pay121 (hidden (iblk m c 1 t) (iblk m c 3 t)) (iblk m c 6 t) (iblk m c 13 t) := by
  have hz : ∀ a : Fin 2, (![0, 0] : Fin 2 → Nat) a = 0 := by decide
  unfold outsAt0 out0_A_17
  dsimp only
  rw [View.read_writes_junk_eq_canon, run_step, rows_mid]
  simp only [Memref.IsWhole.read_unread]
  rw [View.canon_cons_unit_lit' _ _ _ hz, View.ld_unit_lit' _ _ hz, View.ld_unit_lit' _ _ hz, View.ld_unit_lit' _ _ hz, View.ld_unit_lit' _ _ hz]

end Cert.OddInIdeal.Odd
-- ==== Proof.OddInRef.lean ====
module

public import proofs.«01_k».proof.Proof.Common
public import proofs.«01_k».proof.Proof.Gen.OddInRefIdeal.Read

/-!
# The reference of the odd layers' input projection, read at a place
-/

@[expose] public section

set_option maxRecDepth 16384

noncomputable section

namespace Cert.Odd

open Idealize.ShloMosaic Cert.Row

/-- One element of the projection of a normalised row: against one column of the weights. -/
def proj (x nw : Fin 1024 → EReal) (w : Fin 1024 → EReal) : EReal := ∑ k : Fin 1024, normed x nw k * w k

/-- The soft maximum of a number and zero. -/
def soft (x : EReal) : EReal := max x 0 + Ideal.log1p (Ideal.exp (-FloatOps.absf (F := Ideal) (φ := .f32) x))

end Cert.Odd

namespace Cert.OddInRefIdeal.Odd

open Cert.OddInRefIdeal Cert.OddInRefIdeal.Read Cert.Odd Cert.Row
open Idealize.ShloMosaic Idealize.ShloMosaic.TcCoe

/-- The projection of a row, at a column of the weights. -/
def whole (x0 : FVec Ideal S32768x1024 .f32) (x1 : FVec Ideal S4x6x1024 .f32) (x2 : FVec Ideal S2x1024x4128 .f32) (R : Fin 32768) (c : Fin 4128) : EReal :=
  proj (fun k => x0 (ix2 R k)) (fun k => x1 (ix3 1 2 k)) (fun k => x2 (ix3 0 k c))

/-- The reference's projection. -/
theorem whole_apply (x0 : FVec Ideal S32768x1024 .f32) (x1 : FVec Ideal S4x6x1024 .f32) (x2 : FVec Ideal S2x1024x4128 .f32) (R : Fin 32768) (c : Fin 4128) :
    val_main_v17 (F := Ideal) x0 x1 x2 (ix2 R c) = whole x0 x1 x2 R c := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, whole, proj, normed]

/-- The reference's gate. -/
theorem gate_apply (x0 : FVec Ideal S32768x1024 .f32) (x1 : FVec Ideal S4x6x1024 .f32) (x2 : FVec Ideal S2x1024x4128 .f32) (R : Fin 32768) (c : Fin 1024) :
    val_main_v27 (F := Ideal) x0 x1 x2 (ix2 R c) = whole x0 x1 x2 R ⟨1024 + c.val, by omega⟩ := by
  rw [← whole_apply, val_main_v27, val_main_v18]
  generalize val_main_v17 (F := Ideal) x0 x1 x2 = P
  pointwise

/-- The reference's step before the soft maximum. -/
theorem raw_apply (x0 : FVec Ideal S32768x1024 .f32) (x1 : FVec Ideal S4x6x1024 .f32) (x2 : FVec Ideal S2x1024x4128 .f32) (x9 : FVec Ideal S2x2x16 .f32) (R : Fin 32768) (c : Fin 128) :
    val_main_v26 (F := Ideal) x0 x1 x2 x9 (ix2 R c) =
      if h : c.val < 32 then whole x0 x1 x2 R ⟨4096 + c.val, by omega⟩ + x9 (ix3 0 ⟨c.val / 16, by omega⟩ ⟨c.val % 16, by omega⟩) else 0 := by
  rw [val_main_v26, val_main_v25, val_main_v19]
  simp only [← whole_apply]
  generalize val_main_v17 (F := Ideal) x0 x1 x2 = P
  pointwise [val_main_v24, val_main_v23, val_main_v22, val_main_v21, val_main_v20, val_main_c, val_main_call0_v0]
  have e : FloatOps.sitofp (F := Ideal) .f32 0#32 = 0 := by show ((((0#32).toInt : ℝ)) : EReal) = 0; simp
  rw [e]

/-- The reference's step. -/
theorem step_apply (x0 : FVec Ideal S32768x1024 .f32) (x1 : FVec Ideal S4x6x1024 .f32) (x2 : FVec Ideal S2x1024x4128 .f32) (x9 : FVec Ideal S2x2x16 .f32) (R : Fin 32768) (c : Fin 128) :
    val_main_v28 (F := Ideal) x0 x1 x2 x9 (ix2 R c) = soft (val_main_v26 (F := Ideal) x0 x1 x2 x9 (ix2 R c)) := by
  generalize hP : val_main_v26 (F := Ideal) x0 x1 x2 x9 = P
  pointwise [val_main_v28, val_main_call1_v11, val_main_call1_v10, val_main_call1_v9, val_main_call1_v8, val_main_call1_v7, val_main_call1_v6, val_main_call1_v5, val_main_call1_v4, val_main_call1_v3, val_main_call1_v2, val_main_call1_v1, val_main_call1_v0, val_main_call1_cst, hP, soft]
  exact if_neg (fun h => h rfl)

end Cert.OddInRefIdeal.Odd
-- ==== Proof.OddInEntry.lean ====
module

public import proofs.«01_k».proof.Proof.OddInBlock
public import proofs.«01_k».proof.Proof.OddInRef
public import Idealize.ShloMosaic.Lib.StableHlo.RunRead

/-!
# What the odd layers' input projection reads, in terms of the call's arguments
-/

@[expose] public section

set_option maxRecDepth 16384

noncomputable section

namespace Cert.OddInIdeal.Odd

open Cert.OddInIdeal Cert.OddInIdeal.Gen Cert.Odd Cert.Row
open Idealize.ShloMosaic Idealize.ShloMosaic.TcCoe

/-- Where each window's block lies at a point of the grid. -/
theorem idx : ∀ t : Fin cfg0.N, win0_1.index t = ![t.val, 0] ∧ win0_3.index t = ![0, 0] ∧ win0_5.index t = ![0, 0] ∧
    win0_6.index t = ![0, 0] ∧ win0_13.index t = ![0, 0] ∧ win0_16.index t = ![t.val, 0] ∧ win0_17.index t = ![t.val, 0] :=
  (by decide +kernel : ∀ t : Fin grid0.N, _)

/-- A normalised row of a tile. -/
theorem hidden_apply (x : Vec Ideal S1024x1024 .f32) (w : Vec Ideal S1x1024 .f32) (r k : Fin 1024) :
    hidden x w (ix2 r k) = normed (fun k => x (ix2 r k)) (fun k => w (ix2 0 k)) k := by
  pointwise [hidden, k0_pay111, k0_pay107, k0_pay109, k0_pay110, normed]

/-- The gate's tile at a place. -/
theorem gate_tile (h : FVec Ideal S1024x1024 .bf16) (w : Vec Ideal S1024x1024 .bf16) (r q : Fin 1024) :
    k0_pay120 h w (ix2 r q) = ∑ k : Fin 1024, h (ix2 r k) * w (ix2 k q) := by
  pointwise [k0_pay120]

/-- The step's tile at a place. -/
theorem step_tile (h : FVec Ideal S1024x1024 .bf16) (w : Vec Ideal S1024x128 .bf16) (b : Vec Ideal S1x128 .f32) (r : Fin 1024) (q : Fin 128) :
    k0_pay121 h w b (ix2 r q) = soft ((∑ k : Fin 1024, h (ix2 r k) * w (ix2 k q)) + b (ix2 0 q)) := by
  pointwise [k0_pay121, soft]
  rw [if_neg (fun h => h rfl), zero_sub]

variable (m : (ℓ : Loc nD τ sig) → Buf (Elt Ideal) ℓ)

/-- The norm's weights. -/
theorem entry_nw (c : Dev nD) (X : FVec Ideal S4x6x1024 .f32) (h : X = m ((c.tc : Thread nD τ).loc main_arg1)) (k : Fin 1024) :
    V m c main_v19 (ix2 0 k) = X (ix3 1 2 k) := by
  subst h
  after_reads_simp
  pointwise

/-- The gate's weights. -/
theorem entry_wz (c : Dev nD) (X : FVec Ideal S2x1024x4128 .f32) (h : X = m ((c.tc : Thread nD τ).loc main_arg2)) (k q : Fin 1024) :
    V m c main_v7 (ix2 k q) = X (ix3 0 k ⟨1024 + q.val, by omega⟩) := by
  subst h
  after_reads_simp
  pointwise

/-- The step's weights: zero past the last head. -/
theorem entry_wdt (c : Dev nD) (X : FVec Ideal S2x1024x4128 .f32) (h : X = m ((c.tc : Thread nD τ).loc main_arg2)) (k : Fin 1024) (q : Fin 128) :
    V m c main_v10 (ix2 k q) = if h : q.val < 32 then X (ix3 0 k ⟨4096 + q.val, by omega⟩) else 0 := by
  subst h
  after_reads_simp
  change @pad S1024x32 EReal S1024x128 ![0, 0] ![0, 96] ![0, 0] _ S_ (sitofp (F := Ideal) FTy.f32 (constantI S_ 32 0#32)) pads_S1024x32_S1024x128_000_0960 h_S_ (ix2 k q) = _
  pointwise
  by_cases hq : q.val < 32
  · rw [dif_pos hq, dif_pos hq]
    change extractStridedSlice (α := EReal) S1024x32 ![0, 4096] (fun i : S1024x4128.Idx => m (c, Proc.tc.devRef main_arg2) (ix3 0 (i 0) (i 1))) slices_S1024x4128_S1024x32_0_4096 (ix2 k ⟨q.val, hq⟩) = _
    pointwise
  · rw [dif_neg hq, dif_neg hq]
    show ((((0#32).toInt : ℝ)) : EReal) = 0
    simp

/-- The step's bias: zero past the last head. -/
theorem entry_dtb (c : Dev nD) (X : FVec Ideal S2x2x16 .f32) (h : X = m ((c.tc : Thread nD τ).loc main_arg9)) (q : Fin 128) :
    V m c main_v14 (ix2 0 q) = if h : q.val < 32 then X (ix3 0 ⟨q.val / 16, by omega⟩ ⟨q.val % 16, by omega⟩) else 0 := by
  subst h
  after_reads_simp
  change @pad S1x32 EReal S1x128 ![0, 0] ![0, 96] ![0, 0] _ S_ (sitofp (F := Ideal) FTy.f32 (constantI S_ 32 0#32)) pads_S1x32_S1x128_000_0960 h_S_ (ix2 0 q) = _
  pointwise
  by_cases hq : q.val < 32
  · rw [dif_pos hq, dif_pos hq]
    change shapeCast (α := EReal) S1x32 (extractStridedSlice S1x2x16 ![0, 0, 0] (m (c, Proc.tc.devRef main_arg9)) slices_S2x2x16_S1x2x16_0_0_0) (by decide) (ix2 0 ⟨q.val, hq⟩) = _
    pointwise
  · rw [dif_neg hq, dif_neg hq]
    show ((((0#32).toInt : ℝ)) : EReal) = 0
    simp

end Cert.OddInIdeal.Odd
-- ==== Proof.OddInFinal.lean ====
module

public import proofs.«01_k».proof.Proof.OddInEntry
public import proofs.«01_k».proof.Proof.Gen.OddInIdeal.Value
public import proofs.«01_k».proof.Proof.Gen.OddInRefIdeal.Run
public import Idealize.ShloMosaic.Lib.Claim

/-!
# The gate and the step of the odd layers' input projection are the reference's
-/

@[expose] public section

set_option maxRecDepth 16384

noncomputable section

namespace Cert.OddInIdeal.Odd

open Cert.OddInIdeal Cert.OddInIdeal.Gen Cert.Odd Cert.Row
open Idealize.ShloMosaic Idealize.ShloMosaic.TcCoe

variable (m : (ℓ : Loc nD τ sig) → Buf (Elt Ideal) ℓ)

section Blocks
variable (c : Dev nD) (t : Fin cfg0.N) (r : Fin 1024)

/-- The row of the array that stands at a row of a point's blocks. -/
def line : Fin 32768 := ⟨t.val * 1024 + r.val, by have : t.val < 32 := t.isLt; omega⟩

/-- A row of the input. -/
theorem blk_x (X : FVec Ideal S32768x1024 .f32) (h : X = m ((c.tc : Thread nD τ).loc main_arg0)) (k : Fin 1024) :
    iblk m c 1 t (ix2 r k) = X (ix2 (line t r) k) :=
  Eq.trans (b := V m c main_arg0 (ix2 (line t r) k)) (by blk_ext [iblk, idx t, line]) (congrFun ((V_main_arg0 m c).trans h.symm) _)

/-- The norm's weights. -/
theorem blk_nw (X : FVec Ideal S4x6x1024 .f32) (h : X = m ((c.tc : Thread nD τ).loc main_arg1)) (k : Fin 1024) :
    iblk m c 3 t (ix2 0 k) = X (ix3 1 2 k) :=
  Eq.trans (b := V m c main_v19 (ix2 0 k)) (by blk_ext [iblk, idx t]) (entry_nw m c X h k)

/-- The gate's weights. -/
theorem blk_wz (X : FVec Ideal S2x1024x4128 .f32) (h : X = m ((c.tc : Thread nD τ).loc main_arg2)) (k q : Fin 1024) :
    iblk m c 5 t (ix2 k q) = X (ix3 0 k ⟨1024 + q.val, by omega⟩) :=
  Eq.trans (b := V m c main_v7 (ix2 k q)) (by blk_ext [iblk, idx t]) (entry_wz m c X h k q)

/-- The step's weights. -/
theorem blk_wdt (X : FVec Ideal S2x1024x4128 .f32) (h : X = m ((c.tc : Thread nD τ).loc main_arg2)) (k : Fin 1024) (q : Fin 128) :
    iblk m c 6 t (ix2 k q) = if h : q.val < 32 then X (ix3 0 k ⟨4096 + q.val, by omega⟩) else 0 :=
  Eq.trans (b := V m c main_v10 (ix2 k q)) (by blk_ext [iblk, idx t]) (entry_wdt m c X h k q)

/-- The step's bias. -/
theorem blk_dtb (X : FVec Ideal S2x2x16 .f32) (h : X = m ((c.tc : Thread nD τ).loc main_arg9)) (q : Fin 128) :
    iblk m c 13 t (ix2 0 q) = if h : q.val < 32 then X (ix3 0 ⟨q.val / 16, by omega⟩ ⟨q.val % 16, by omega⟩) else 0 :=
  Eq.trans (b := V m c main_v14 (ix2 0 q)) (by blk_ext [iblk, idx t]) (entry_dtb m c X h q)

end Blocks

/-- After the kernel's run the gate is the reference's. -/
theorem final_gate (c : Dev nD) (X0 : FVec Ideal S32768x1024 .f32) (X1 : FVec Ideal S4x6x1024 .f32) (X2 : FVec Ideal S2x1024x4128 .f32)
    (h0 : X0 = m ((c.tc : Thread nD τ).loc main_arg0)) (h1 : X1 = m ((c.tc : Thread nD τ).loc main_arg1)) (h2 : X2 = m ((c.tc : Thread nD τ).loc main_arg2)) :
    (dats m 0 c).arrAt 16 (cfgs 0).N = Cert.OddInRefIdeal.Read.val_main_v27 (F := Ideal) X0 X1 X2 := by
  refine (dats m 0 c).arrAt_eq_of_covers 16 _ (by decide +kernel) fun t _ y => ?_
  blk_simp
  have ht : t.val < 32 := t.isLt
  obtain ⟨Y0, Y1, hy⟩ : ∃ (Y0 : Fin 1024) (Y1 : Fin 1024), y = ix2 Y0 Y1 := ⟨y 0, y 1, funext fun a => match a with | ⟨0, _⟩ => rfl | ⟨1, _⟩ => rfl⟩
  subst hy
  rw [after0_16, gate_eq]
  refine (gate_tile _ _ _ _).trans ?_
  refine Eq.trans (b := Cert.OddInRefIdeal.Read.val_main_v27 (F := Ideal) X0 X1 X2 (ix2 (line t Y0) Y1)) ?_ ?_
  · rw [Cert.OddInRefIdeal.Odd.gate_apply]
    simp only [hidden_apply, blk_x m c t _ X0 h0, blk_nw m c t X1 h1, blk_wz m c t X2 h2]
    rfl
  · refine congrArg (Cert.OddInRefIdeal.Read.val_main_v27 (F := Ideal) X0 X1 X2) ?_
    blk_ext [idx t, line]

/-- After the kernel's run the step is the reference's. -/
theorem final_step (c : Dev nD) (X0 : FVec Ideal S32768x1024 .f32) (X1 : FVec Ideal S4x6x1024 .f32) (X2 : FVec Ideal S2x1024x4128 .f32) (X9 : FVec Ideal S2x2x16 .f32)
    (h0 : X0 = m ((c.tc : Thread nD τ).loc main_arg0)) (h1 : X1 = m ((c.tc : Thread nD τ).loc main_arg1)) (h2 : X2 = m ((c.tc : Thread nD τ).loc main_arg2))
    (h9 : X9 = m ((c.tc : Thread nD τ).loc main_arg9)) :
    (dats m 0 c).arrAt 17 (cfgs 0).N = Cert.OddInRefIdeal.Read.val_main_v28 (F := Ideal) X0 X1 X2 X9 := by
  refine (dats m 0 c).arrAt_eq_of_covers 17 _ (by decide +kernel) fun t _ y => ?_
  blk_simp
  have ht : t.val < 32 := t.isLt
  obtain ⟨Y0, Y1, hy⟩ : ∃ (Y0 : Fin 1024) (Y1 : Fin 128), y = ix2 Y0 Y1 := ⟨y 0, y 1, funext fun a => match a with | ⟨0, _⟩ => rfl | ⟨1, _⟩ => rfl⟩
  subst hy
  rw [after0_17, step_eq]
  refine (step_tile _ _ _ _ _).trans ?_
  refine Eq.trans (b := Cert.OddInRefIdeal.Read.val_main_v28 (F := Ideal) X0 X1 X2 X9 (ix2 (line t Y0) Y1)) ?_ ?_
  · rw [Cert.OddInRefIdeal.Odd.step_apply, Cert.OddInRefIdeal.Odd.raw_apply]
    refine congrArg soft ?_
    simp only [hidden_apply, blk_x m c t _ X0 h0, blk_nw m c t X1 h1, blk_wdt m c t X2 h2, blk_dtb m c t X9 h9]
    by_cases hq : Y1.val < 32
    · simp only [dif_pos hq]
      rfl
    · simp only [dif_neg hq, mul_zero, Finset.sum_const_zero, add_zero]
  · refine congrArg (Cert.OddInRefIdeal.Read.val_main_v28 (F := Ideal) X0 X1 X2 X9) ?_
    blk_ext [idx t, line]

end Cert.OddInIdeal.Odd
-- ==== Proof.OddInClaim.lean ====
module

public import proofs.«01_k».proof.Defs
public import proofs.«01_k».proof.Proof.OddInFinal
public import proofs.«01_k».proof.Proof.Gen.OddInIdeal
public import proofs.«01_k».proof.Proof.Gen.OddInIdeal.Frame
public import proofs.«01_k».proof.Proof.Gen.OddInRefIdeal
public import proofs.«01_k».proof.Proof.Gen.OddInRefIdeal.Run
public import Idealize.ShloMosaic.Lib.Claim

/-!
# The claims about the odd layers' input projection
-/

@[expose] public section

set_option maxRecDepth 16384

noncomputable section

namespace Cert.Proof

open Idealize.ShloMosaic Idealize.ShloMosaic.TcCoe Idealize.SL.Sem

/-- The reference of the odd layers' input projection terminates, changes no argument and leaves every semaphore at zero. -/
theorem odd_in_ref_frame : Cert.quiescent_OddInRefIdeal (hOddInRefIdeal := Cert.OddInRefIdeal.Gen.facts) :=
  fun m g _ => (θ_run Cert.OddInRefIdeal.defs _ _).mono
    (fun r h => ⟨fun c => (h c).2.2, sem_eq_zero_of_no_sems (by decide) r.2⟩) (Cert.OddInRefIdeal.Value.run (F := Ideal) m g)

set_option maxHeartbeats 1600000 in
/-- The odd layers' input projection and its reference compute the same gate and the same step over the extended reals. -/
theorem odd_in_algebraic : Cert.algebraic_OddInIdeal_OddInRefIdeal (hOddInIdeal := Cert.OddInIdeal.Gen.facts)
    (hOddInRefIdeal := Cert.OddInRefIdeal.Gen.facts) := by
  pair_intro
  · run_from Cert.OddInIdeal.Value.run_blocks m g
  · run_from Cert.OddInRefIdeal.Value.run m' g'
    · rw [Cert.OddInIdeal.Odd.final_gate m c _ _ _ rfl rfl rfl]
      exact Cert.OddInRefIdeal.Read.val_main_v27_eq _ _ _
    · obtain ⟨a0, a1, a2, a3, a4, a5, a6, a7, a8, a9⟩ := hagree c
      rw [Cert.OddInIdeal.Odd.final_step m c _ _ _ _ rfl rfl rfl rfl, Cert.OddInRefIdeal.Read.val_main_v28_eq, a0, a1, a2, a9]

end Cert.Proof
-- ==== Proof.EvenOutBlock.lean ====
module

public import proofs.«01_k».proof.Proof.Common
public import proofs.«01_k».proof.Proof.Gen.EvenOutIdeal.Value
public import Idealize.ShloMosaic.Lib.Pipeline.ValueKit

/-!
# What the even layers' output projection stores
-/

@[expose] public section

set_option maxRecDepth 16384

noncomputable section

namespace Cert.EvenOutIdeal.Even

open Cert.EvenOutIdeal Cert.EvenOutIdeal.Gen
open Idealize.ShloMosaic Idealize.ShloMosaic.TcCoe Idealize.ShloMosaic.Tactic

variable {F : FTy → Type} [FloatOps F]

/-- The sixteen shifts stay within the scratch. -/
theorem inb_shift (d : Fin 16) : ∀ a, (![d.val, 0] : Fin 2 → Nat) a + S1024x256.size a ≤ S1040x256.size a := by
  revert d; decide

/-- The sixteen rows of the windows. -/
theorem inb_tap (d : Fin 16) : ∀ a, (![d.val, 0] : Fin 2 → Nat) a + S1x256.size a ≤ S16x256.size a := by
  revert d; decide

/-- Where the tile starts in its sequence, as the kernel computes it. -/
def word (i : grid0.Coords) : BitVec 32 :=
  Scalar.muli (Scalar.select (Scalar.andi (Scalar.xori (Scalar.cmpi .slt (Scalar.remsi (BitVec.ofNat 32 (i 0).val) (Scalar.select (Scalar.cmpi .eq 4#32 0#32) 1#32 4#32)) 0#32)
      (Scalar.cmpi .slt (Scalar.select (Scalar.cmpi .eq 4#32 0#32) 1#32 4#32) 0#32))
    (Scalar.cmpi .ne (Scalar.remsi (BitVec.ofNat 32 (i 0).val) (Scalar.select (Scalar.cmpi .eq 4#32 0#32) 1#32 4#32)) 0#32))
    (Scalar.addi (Scalar.remsi (BitVec.ofNat 32 (i 0).val) (Scalar.select (Scalar.cmpi .eq 4#32 0#32) 1#32 4#32)) (Scalar.select (Scalar.cmpi .eq 4#32 0#32) 1#32 4#32))
    (Scalar.remsi (BitVec.ofNat 32 (i 0).val) (Scalar.select (Scalar.cmpi .eq 4#32 0#32) 1#32 4#32))) 1024#32

/-- The stores into the scratch, the last one first: the rows after the tile, the tile's, the rows before it. -/
def extL (i : grid0.Coords) (up : Vec F S8x256 .f32) (u : Vec F S1024x256 .f32) (un : Vec F S8x256 .f32) : List (View.Piece (Elt F) S1040x256 .f32) :=
  [⟨Rect.unit (s := S1040x256) ![1032, 0] S8x256.size inb_S1040x256_S8x256_1032_0, k0_pay3 i un⟩,
    ⟨Rect.unit (s := S1040x256) ![8, 0] S1024x256.size inb_S1040x256_S1024x256_8_0, k0_pay2 u⟩,
    ⟨Rect.unit (s := S1040x256) ![0, 0] S8x256.size inb_S1040x256_S8x256_0_0, k0_pay1 i up⟩]

/-- The scratch's rows from a shift on. -/
def shifted (i : grid0.Coords) (up : Vec F S8x256 .f32) (u : Vec F S1024x256 .f32) (un : Vec F S8x256 .f32) (d : Fin 16) : Vec F S1024x256 .f32 :=
  fun z => View.canon (extL i up u un) ((Rect.unit (s := S1040x256) ![d.val, 0] S1024x256.size (inb_shift d)).toLoadRect.idx z)

/-- A row of the windows. -/
def tap (T : Vec F S16x256 .f32) (d : Fin 16) : Vec F S1x256 .f32 := View.ld T (Rect.unit (s := S16x256) ![d.val, 0] S1x256.size (inb_tap d))

/-- The means over the windows. -/
def mean (i : grid0.Coords) (w : Fin 16 → Vec F S1024x256 .f32) (t : Fin 16 → Vec F S1x256 .f32) (hw : Vec F S1x256 .i32) : FVec F S1024x256 .f32 :=
  k0_pay7 (word i) (k0_pay6 (k0_pay5 k0_pay4 (w 0) (t 0) (w 1) (t 1) (w 2) (t 2) (w 3) (t 3) (w 4) (t 4) (w 5) (t 5)) (w 6) (t 6) (w 7) (t 7) (w 8) (t 8) (w 9) (t 9) (w 10) (t 10) (w 11) (t 11)) (w 12) (t 12) (w 13) (t 13) (w 14) (t 14) (w 15) (t 15) hw

/-- What the body stores: the pooled channels and the attention's, projected, normalised and added to the input. -/
theorem run_out (c : Dev nD) (i : grid0.Coords) (arg1 : Memref sig .tc .vmem S1024x1024 .f32) (harg1 : arg1.IsWhole) (arg2 : Memref sig .tc .vmem S8x256 .f32) (harg2 : arg2.IsWhole) (arg3 : Memref sig .tc .vmem S1024x256 .f32) (harg3 : arg3.IsWhole) (arg4 : Memref sig .tc .vmem S8x256 .f32) (harg4 : arg4.IsWhole) (arg5 : Memref sig .tc .vmem S1024x768 .bf16) (harg5 : arg5.IsWhole) (arg6 : Memref sig .tc .vmem S16x256 .f32) (harg6 : arg6.IsWhole) (arg7 : Memref sig .tc .vmem S1x256 .i32) (harg7 : arg7.IsWhole) (arg8 : Memref sig .tc .vmem S256x256 .bf16) (harg8 : arg8.IsWhole) (arg9 : Memref sig .tc .vmem S1x256 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x1024 .f32) (harg12 : arg12.IsWhole) (arg13 : Memref sig .tc .vmem S1040x256 .f32) (harg13 : arg13.IsWhole)
    (x0 : Vec F S1024x1024 .f32) (x1 : Vec F S8x256 .f32) (x2 : Vec F S1024x256 .f32) (x3 : Vec F S8x256 .f32) (x4 : Vec F S1024x768 .bf16) (x5 : Vec F S16x256 .f32) (x6 : Vec F S1x256 .i32) (x7 : Vec F S256x256 .bf16) (x8 : Vec F S1x256 .f32) (x9 : Vec F S1024x1024 .bf16) (x10 : Vec F S1x1024 .f32) :
    (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).1 =
    [⟨Rect.unit (s := S1024x1024) ![0, 0] S1024x1024.size inb_S1024x1024_S1024x1024_0_0,
      k0_pay8 (mean i (fun d => arg13.view.readCov (extL i (View.ld (arg2.view.read (Elt F) (harg2.unread x1)) (Rect.unit (s := S8x256) ![0, 0] S8x256.size inb_S8x256_S8x256_0_0)) (View.ld (arg3.view.read (Elt F) (harg3.unread x2)) (Rect.unit (s := S1024x256) ![0, 0] S1024x256.size inb_S1024x256_S1024x256_0_0)) (View.ld (arg4.view.read (Elt F) (harg4.unread x3)) (Rect.unit (s := S8x256) ![0, 0] S8x256.size inb_S8x256_S8x256_0_0)))
          (Rect.unit (s := S1040x256) ![d.val, 0] S1024x256.size (inb_shift d)).toLoadRect) (fun d => tap (arg6.view.read (Elt F) (harg6.unread x5)) d) (View.ld (arg7.view.read (Elt F) (harg7.unread x6)) (Rect.unit (s := S1x256) ![0, 0] S1x256.size inb_S1x256_S1x256_0_0)))
        (View.ld (arg3.view.read (Elt F) (harg3.unread x2)) (Rect.unit (s := S1024x256) ![0, 0] S1024x256.size inb_S1024x256_S1024x256_0_0)) (View.ld (arg8.view.read (Elt F) (harg8.unread x7)) (Rect.unit (s := S256x256) ![0, 0] S256x256.size inb_S256x256_S256x256_0_0)) (View.ld (arg9.view.read (Elt F) (harg9.unread x8)) (Rect.unit (s := S1x256) ![0, 0] S1x256.size inb_S1x256_S1x256_0_0))
        (View.ld (arg10.view.read (Elt F) (harg10.unread x9)) (Rect.unit (s := S1024x1024) ![0, 0] S256x1024.size inb_S1024x1024_S256x1024_0_0))
        (View.ld (arg5.view.read (Elt F) (harg5.unread x4)) (Rect.unit (s := S1024x768) ![0, 0] S1024x768.size inb_S1024x768_S1024x768_0_0))
        (View.ld (arg10.view.read (Elt F) (harg10.unread x9)) (Rect.unit (s := S1024x1024) ![256, 0] S768x1024.size inb_S1024x1024_S768x1024_256_0))
        (View.ld (arg1.view.read (Elt F) (harg1.unread x0)) (Rect.unit (s := S1024x1024) ![0, 0] S1024x1024.size inb_S1024x1024_S1024x1024_0_0)) (View.ld (arg11.view.read (Elt F) (harg11.unread x10)) (Rect.unit (s := S1x1024) ![0, 0] S1x1024.size inb_S1x1024_S1x1024_0_0))⟩] := by
  sl_kernel_rfl

variable (m : (ℓ : Loc nD τ sig) → Buf (Elt F) ℓ)

/-- The output's tile at a grid point. -/
theorem out_eq (c : Dev nD) (t : Fin cfg0.N) :
    outsAt0 m c t = k0_pay8 (mean (grid0.coords t) (shifted (grid0.coords t) (iblk m c 1 t) (iblk m c 2 t) (iblk m c 3 t)) (tap (iblk m c 5 t)) (iblk m c 6 t))
      (iblk m c 2 t) (iblk m c 7 t) (iblk m c 8 t)
      (View.ld (iblk m c 9 t : Vec F S1024x1024 .bf16) (Rect.unit (s := S1024x1024) ![0, 0] S256x1024.size inb_S1024x1024_S256x1024_0_0))
      (iblk m c 4 t)
      (View.ld (iblk m c 9 t : Vec F S1024x1024 .bf16) (Rect.unit (s := S1024x1024) ![256, 0] S768x1024.size inb_S1024x1024_S768x1024_256_0))
      (iblk m c 0 t) (iblk m c 10 t) := by
  have hz : ∀ a : Fin 2, (![0, 0] : Fin 2 → Nat) a = 0 := by decide
  unfold outsAt0 out0_A_11
  dsimp only
  rw [View.read_writes_junk_eq_canon, run_out]
  simp only [Memref.IsWhole.read_unread, View.readCov_eq_canon']
  rw [View.canon_cons_unit_lit' _ _ _ hz]
  rw [View.ld_unit_lit' _ _ hz, View.ld_unit_lit' _ _ hz, View.ld_unit_lit' _ _ hz, View.ld_unit_lit' _ _ hz, View.ld_unit_lit' _ _ hz, View.ld_unit_lit' _ _ hz,
    View.ld_unit_lit' _ _ hz, View.ld_unit_lit' _ _ hz, View.ld_unit_lit' _ _ hz]
  rfl

end Cert.EvenOutIdeal.Even
-- ==== Proof.EvenOutMath.lean ====
module

public import proofs.«01_k».proof.Proof.Common

/-!
# The output projection of the even layers, one row over the extended reals
-/

@[expose] public section

set_option maxRecDepth 16384

noncomputable section

namespace Cert.EvenOut

open Idealize.ShloMosaic Cert.Row

/-- Half the pooling window of a channel. -/
def half (c : Fin 256) : Nat := 2 ^ (c.val / 64)

/-- The element eight places before to seven places after a row in its sequence, zero outside the sequence. -/
def near (u : Fin 32768 → Fin 256 → EReal) (R : Fin 32768) (e : Fin 16) (c : Fin 256) : EReal :=
  if h : 8 ≤ R.val % 4096 + e.val ∧ R.val % 4096 + e.val < 4104 then u ⟨R.val + e.val - 8, by omega⟩ c else 0

/-- The sum over a channel's window. -/
def total (v : Fin 16 → EReal) (g : Fin 4) : EReal :=
  match g with
  | 0 => v 7 + v 8
  | 1 => v 6 + v 7 + v 8 + v 9
  | 2 => v 4 + v 5 + v 6 + v 7 + v 8 + v 9 + v 10 + v 11
  | 3 => v 0 + v 1 + v 2 + v 3 + v 4 + v 5 + v 6 + v 7 + v 8 + v 9 + v 10 + v 11 + v 12 + v 13 + v 14 + v 15

/-- All sixteen elements, each times one if it is in the window and zero otherwise, sum to the window's sum. -/
theorem total_eq (v w : Fin 16 → EReal) (g : Fin 4) (hw : ∀ e : Fin 16, w e = if 8 ≤ e.val + 2 ^ g.val ∧ e.val < 8 + 2 ^ g.val then 1 else 0) :
    0 + v 0 * w 0 + v 1 * w 1 + v 2 * w 2 + v 3 * w 3 + v 4 * w 4 + v 5 * w 5 + v 6 * w 6 + v 7 * w 7 + v 8 * w 8 + v 9 * w 9 + v 10 * w 10 +
      v 11 * w 11 + v 12 * w 12 + v 13 * w 13 + v 14 * w 14 + v 15 * w 15 = total v g := by
  simp only [hw]
  match g with
  | 0 => simp [total]
  | 1 => simp [total]
  | 2 => simp [total]
  | 3 => simp [total]

/-- A sum against a block diagonal matrix is the sum against the column's own block. -/
theorem block_sum (f : Fin 256 → EReal) (w : Fin 4 → Fin 64 → Fin 64 → EReal) (g : Fin 4) (d : Fin 64) :
    ∑ k : Fin 256, f k * (if k.val / 64 = g.val then w g ⟨k.val % 64, by omega⟩ d else 0) = ∑ j : Fin 64, f ⟨g.val * 64 + j.val, by omega⟩ * w g j d := by
  rw [← Equiv.sum_comp (finProdFinEquiv : Fin 4 × Fin 64 ≃ Fin (4 * 64)) (fun k : Fin 256 => f k * (if k.val / 64 = g.val then w g ⟨k.val % 64, by omega⟩ d else 0)),
    Fintype.sum_prod_type, Finset.sum_eq_single g]
  · refine Finset.sum_congr rfl fun j _ => ?_
    have e : (finProdFinEquiv (g, j) : Fin 256) = ⟨g.val * 64 + j.val, by omega⟩ := Fin.ext (by show j.val + 64 * g.val = g.val * 64 + j.val; omega)
    have e1 : (g.val * 64 + j.val) / 64 = g.val := by omega
    have e2 : (⟨(g.val * 64 + j.val) % 64, by omega⟩ : Fin 64) = j := Fin.ext (by show (g.val * 64 + j.val) % 64 = j.val; omega)
    rw [e]
    dsimp only
    rw [if_pos e1, e2]
  · intro b _ hb
    refine Finset.sum_eq_zero fun j _ => ?_
    rw [if_neg, mul_zero]
    intro h
    refine hb (Fin.ext ?_)
    have h' : (j.val + 64 * b.val) / 64 = g.val := h
    omega
  · intro h
    exact absurd (Finset.mem_univ g) h

/-- The attention's columns from their order by group to their order by key head. -/
def byHead : Fin 768 ≃ Fin 768 where
  toFun k := ⟨(k.val / 64 % 4 * 3 + k.val / 256) * 64 + k.val % 64, by omega⟩
  invFun k := ⟨(k.val / 64 % 3 * 4 + k.val / 192) * 64 + k.val % 64, by omega⟩
  left_inv := by unfold Function.LeftInverse; decide +kernel
  right_inv := by unfold Function.RightInverse Function.LeftInverse; decide +kernel

/-- The order of the columns does not matter to the sum. -/
theorem heads_sum (a W : Fin 768 → EReal) : ∑ k, a k * W (byHead k) = ∑ k, a (byHead.symm k) * W k := by
  rw [← Equiv.sum_comp byHead (fun k => a (byHead.symm k) * W k)]
  simp only [Equiv.symm_apply_apply]

/-- How many places of a window lie within the sequence, as a word. -/
def count (p h : BitVec 32) : BitVec 32 :=
  IntOp.subi (IntOp.minsi (IntOp.addi p h) 4096#32) (IntOp.maxsi (IntOp.subi p h) 0#32)

/-- How many places of a group's window at a place of the sequence lie within the sequence. -/
def cnt (s : Fin 4096) (g : Fin 4) : EReal :=
  FloatOps.sitofp (F := Ideal) FTy.f32 (count (BitVec.ofNat 32 s.val) (BitVec.ofNat 32 (2 ^ g.val)))

/-- The mean over a channel's window less the element itself. -/
def pooled (u : Fin 32768 → Fin 256 → EReal) (R : Fin 32768) (c : Fin 256) : EReal :=
  Ideal.div (total (fun e => near u R e c) ⟨c.val / 64, by omega⟩) (cnt ⟨R.val % 4096, by omega⟩ ⟨c.val / 64, by omega⟩) - u R c

/-- One row of the projection: the pooled channels, each group by its own matrix, scaled, and the attention's against their rows of the weights. -/
def mix (p : Fin 256 → EReal) (pw : Fin 4 → Fin 64 → Fin 64 → EReal) (sc : Fin 256 → EReal) (a : Fin 768 → EReal) (W : Fin 1024 → Fin 1024 → EReal)
    (q : Fin 1024) : EReal :=
  ∑ k : Fin 256, (∑ j : Fin 64, p ⟨k.val / 64 * 64 + j.val, by omega⟩ * pw ⟨k.val / 64, by omega⟩ j ⟨k.val % 64, by omega⟩) * sc k * W ⟨k.val, by omega⟩ q +
    ∑ k : Fin 768, a (byHead.symm k) * W ⟨256 + k.val, by omega⟩ q

/-- One row of the result: the input plus the normalised projection. -/
def row (x : Fin 1024 → EReal) (m nw : Fin 1024 → EReal) (q : Fin 1024) : EReal := x q + normed m nw q

end Cert.EvenOut
-- ==== Proof.EvenOutTile.lean ====
module

public import proofs.«01_k».proof.Proof.EvenOutBlock
public import proofs.«01_k».proof.Proof.EvenOutMath

/-!
# The tile of the even layers' output projection, read at a place
-/

@[expose] public section

set_option maxRecDepth 16384

noncomputable section

namespace Cert.EvenOutIdeal.Even

open Cert.EvenOutIdeal Cert.EvenOutIdeal.Gen Cert.EvenOut Cert.Row
open Idealize.ShloMosaic Idealize.ShloMosaic.TcCoe

/-- The tile's start in its sequence. -/
theorem word_eq : ∀ t : Fin grid0.N, word (grid0.coords t) = BitVec.ofNat 32 (t.val % 4 * 1024) := by
  decide +kernel

/-- The rows before the tile count unless the tile is its sequence's first. -/
theorem first_word : ∀ t : Fin grid0.N, Scalar.cmpi .sgt (word (grid0.coords t)) 0#32 = if t.val % 4 = 0 then 0#1 else 1#1 := by
  decide +kernel

/-- The rows after the tile count unless the tile is its sequence's last. -/
theorem last_word : ∀ t : Fin grid0.N, Scalar.cmpi .slt (Scalar.addi (word (grid0.coords t)) 1024#32) 4096#32 = if t.val % 4 = 3 then 0#1 else 1#1 := by
  decide +kernel

/-- The rows before the tile, zero at the sequence's start. -/
theorem before_apply (t : Fin grid0.N) (up : Vec Ideal S8x256 .f32) (r : Fin 8) (ch : Fin 256) :
    k0_pay1 (grid0.coords t) up (ix2 r ch) = if t.val % 4 = 0 then 0 else up (ix2 r ch) := by
  have e : k0_pay1 (grid0.coords t) up = shapeCast S8x256 (Scalar.select (Scalar.cmpi .sgt (word (grid0.coords t)) 0#32) up
      (broadcast S8x256 (Scalar.ofBits (F := Ideal) .f32 0x00000000#32))) shapeCasts_S8x256_S8x256 := rfl
  rw [e, first_word]
  by_cases h : t.val % 4 = 0
  · simp only [if_pos h]
    pointwise [Scalar.select]
    rw [if_neg (by decide)]
    rfl
  · simp only [if_neg h]
    pointwise [Scalar.select]
    rw [if_pos (by decide)]

/-- The rows after the tile, zero at the sequence's end. -/
theorem after_apply (t : Fin grid0.N) (un : Vec Ideal S8x256 .f32) (r : Fin 8) (ch : Fin 256) :
    k0_pay3 (grid0.coords t) un (ix2 r ch) = if t.val % 4 = 3 then 0 else un (ix2 r ch) := by
  have e : k0_pay3 (grid0.coords t) un = shapeCast S8x256 (Scalar.select (Scalar.cmpi .slt (Scalar.addi (word (grid0.coords t)) 1024#32) 4096#32) un
      (broadcast S8x256 (Scalar.ofBits (F := Ideal) .f32 0x00000000#32))) shapeCasts_S8x256_S8x256 := rfl
  rw [e, last_word]
  by_cases h : t.val % 4 = 3
  · simp only [if_pos h]
    pointwise [Scalar.select]
    rw [if_neg (by decide)]
    rfl
  · simp only [if_neg h]
    pointwise [Scalar.select]
    rw [if_pos (by decide)]

/-- A place of the scratch, read through a shift. -/
theorem shift_idx (d : Fin 16) (r : Fin 1024) (ch : Fin 256) :
    (Rect.unit (s := S1040x256) ![d.val, 0] S1024x256.size (inb_shift d)).toLoadRect.idx (ix2 r ch) = (ix2 ⟨d.val + r.val, by omega⟩ ch : S1040x256.Idx) := by
  funext a
  refine Fin.ext ?_
  match a with
  | ⟨0, _⟩ => show d.val + 1 * r.val = d.val + r.val; omega
  | ⟨1, _⟩ => show 0 + 1 * ch.val = ch.val; omega

/-- A row outside the last store's is an earlier one's. -/
theorem skip (o : Nat) (S : Fin 2 → Nat) (inb : ∀ a, (![o, 0] : Fin 2 → Nat) a + S a ≤ S1040x256.size a) (v : (⟨2, S⟩ : Shape).Idx → EReal)
    (L : List (View.Piece (Elt Ideal) S1040x256 .f32)) (e : Fin 1040) (ch : Fin 256) (h : ¬(o ≤ e.val ∧ e.val < o + S 0)) :
    View.canon (⟨Rect.unit (s := S1040x256) ![o, 0] S inb, v⟩ :: L) (ix2 e ch : S1040x256.Idx) = View.canon L (ix2 e ch : S1040x256.Idx) := by
  refine View.canon_cons_of_not_mem ⟨_, _⟩ _ ?_
  intro hm
  obtain ⟨z, hz⟩ := (Rect.unit (s := S1040x256) ![o, 0] S inb).exists_idx_of_mem hm
  have e1 : o + 1 * (z 0).val = e.val := congrArg (fun y : S1040x256.Idx => (y 0).val) hz
  have hl : (z 0).val < S 0 := (z 0).isLt
  omega

/-- A row of the last store. -/
theorem take (o : Nat) (S : Fin 2 → Nat) (inb : ∀ a, (![o, 0] : Fin 2 → Nat) a + S a ≤ S1040x256.size a) (v : (⟨2, S⟩ : Shape).Idx → EReal)
    (L : List (View.Piece (Elt Ideal) S1040x256 .f32)) (e : Fin 1040) (ch : Fin 256) (z : (⟨2, S⟩ : Shape).Idx) (h0 : o + (z 0).val = e.val) (h1 : (z 1).val = ch.val) :
    View.canon (⟨Rect.unit (s := S1040x256) ![o, 0] S inb, v⟩ :: L) (ix2 e ch : S1040x256.Idx) = v z := by
  have e1 : (ix2 e ch : S1040x256.Idx) = (Rect.unit (s := S1040x256) ![o, 0] S inb).emb z := by
    funext a
    refine Fin.ext ?_
    match a with
    | ⟨0, _⟩ => show e.val = o + 1 * (z 0).val; omega
    | ⟨1, _⟩ => show ch.val = 0 + 1 * (z 1).val; omega
  rw [e1]
  exact View.canon_cons_emb (Val := Elt Ideal) (e := .f32) (Rect.unit (s := S1040x256) ![o, 0] S inb) v L z

/-- The scratch at a place: the rows before the tile, the tile's, the rows after it. -/
theorem shifted_apply (i : grid0.Coords) (up : Vec Ideal S8x256 .f32) (u : Vec Ideal S1024x256 .f32) (un : Vec Ideal S8x256 .f32) (d : Fin 16) (r : Fin 1024) (ch : Fin 256) :
    shifted i up u un d (ix2 r ch) = if h : d.val + r.val < 8 then k0_pay1 i up (ix2 ⟨d.val + r.val, h⟩ ch)
      else if h' : d.val + r.val < 1032 then u (ix2 ⟨d.val + r.val - 8, by omega⟩ ch) else k0_pay3 i un (ix2 ⟨d.val + r.val - 1032, by omega⟩ ch) := by
  have e2 : k0_pay2 u = u := by
    funext z
    obtain ⟨a, b, rfl⟩ : ∃ (a : Fin 1024) (b : Fin 256), z = ix2 a b := ⟨z 0, z 1, funext fun a => match a with | ⟨0, _⟩ => rfl | ⟨1, _⟩ => rfl⟩
    pointwise [k0_pay2]
  unfold shifted extL
  rw [shift_idx, e2]
  generalize k0_pay1 i up = A
  generalize k0_pay3 i un = C
  by_cases h : d.val + r.val < 8
  · rw [dif_pos h]
    exact (skip 1032 S8x256.size _ C _ _ ch (by show ¬(1032 ≤ d.val + r.val ∧ _); omega)).trans ((skip 8 S1024x256.size _ u _ _ ch (by show ¬(8 ≤ d.val + r.val ∧ _); omega)).trans
      (take 0 S8x256.size _ A _ _ ch (ix2 ⟨d.val + r.val, h⟩ ch) (Nat.zero_add _) rfl))
  rw [dif_neg h]
  by_cases h' : d.val + r.val < 1032
  · rw [dif_pos h']
    exact (skip 1032 S8x256.size _ C _ _ ch (by show ¬(1032 ≤ d.val + r.val ∧ _); omega)).trans
      (take 8 S1024x256.size _ u _ _ ch (ix2 ⟨d.val + r.val - 8, by omega⟩ ch) (by show 8 + (d.val + r.val - 8) = d.val + r.val; omega) rfl)
  · rw [dif_neg h']
    exact take 1032 S8x256.size _ C _ _ ch (ix2 ⟨d.val + r.val - 1032, by omega⟩ ch) (by show 1032 + (d.val + r.val - 1032) = d.val + r.val; omega) rfl

/-- A row of the windows at a place. -/
theorem tap_apply (T : Vec Ideal S16x256 .f32) (d : Fin 16) (ch : Fin 256) : tap T d (ix2 0 ch) = T (ix2 d ch) := by
  refine View.ld_unit_apply_of _ _ _ _ _ _ fun a => ?_
  match a with
  | ⟨0, _⟩ => rfl
  | ⟨1, _⟩ => show ch.val = 0 + ch.val; omega

/-- The means at a place. -/
theorem mean_apply (i : grid0.Coords) (w : Fin 16 → Vec Ideal S1024x256 .f32) (t : Fin 16 → Vec Ideal S1x256 .f32) (hw : Vec Ideal S1x256 .i32) (r : Fin 1024) (ch : Fin 256) :
    mean i w t hw (ix2 r ch) = Ideal.div (
      0 + w 0 (ix2 r ch) * t 0 (ix2 0 ch) + w 1 (ix2 r ch) * t 1 (ix2 0 ch) + w 2 (ix2 r ch) * t 2 (ix2 0 ch) + w 3 (ix2 r ch) * t 3 (ix2 0 ch) +
        w 4 (ix2 r ch) * t 4 (ix2 0 ch) + w 5 (ix2 r ch) * t 5 (ix2 0 ch) + w 6 (ix2 r ch) * t 6 (ix2 0 ch) + w 7 (ix2 r ch) * t 7 (ix2 0 ch) +
        w 8 (ix2 r ch) * t 8 (ix2 0 ch) + w 9 (ix2 r ch) * t 9 (ix2 0 ch) + w 10 (ix2 r ch) * t 10 (ix2 0 ch) + w 11 (ix2 r ch) * t 11 (ix2 0 ch) +
        w 12 (ix2 r ch) * t 12 (ix2 0 ch) + w 13 (ix2 r ch) * t 13 (ix2 0 ch) + w 14 (ix2 r ch) * t 14 (ix2 0 ch) + w 15 (ix2 r ch) * t 15 (ix2 0 ch))
      (FloatOps.sitofp (F := Ideal) FTy.f32 (count (IntOp.addi (word i) (BitVec.ofNat 32 r.val)) (hw (ix2 0 ch)))) := by
  unfold mean
  pointwise [k0_pay4, k0_pay5, k0_pay6, k0_pay7]
  rfl

/-- The output's tile at a place. -/
theorem tile_apply (p : FVec Ideal S1024x256 .f32) (u : Vec Ideal S1024x256 .f32) (bd : Vec Ideal S256x256 .bf16) (sc : Vec Ideal S1x256 .f32) (w1 : Vec Ideal S256x1024 .bf16)
    (a : Vec Ideal S1024x768 .bf16) (w2 : Vec Ideal S768x1024 .bf16) (x : Vec Ideal S1024x1024 .f32) (nw : Vec Ideal S1x1024 .f32) (r q : Fin 1024) :
    k0_pay8 p u bd sc w1 a w2 x nw (ix2 r q) = row (fun q => x (ix2 r q)) (fun q =>
      ∑ k : Fin 256, (∑ l : Fin 256, (p (ix2 r l) - u (ix2 r l)) * bd (ix2 l k)) * sc (ix2 0 k) * w1 (ix2 k q) + ∑ k : Fin 768, a (ix2 r k) * w2 (ix2 k q))
      (fun q => nw (ix2 0 q)) q := by
  pointwise [k0_pay8, row, normed]

end Cert.EvenOutIdeal.Even
-- ==== Proof.EvenOutEntry.lean ====
module

public import proofs.«01_k».proof.Proof.EvenOutBlock
public import proofs.«01_k».proof.Proof.EvenOutMath
public import Idealize.ShloMosaic.Lib.StableHlo.RunRead

/-!
# What the even layers' output projection reads, in terms of the call's arguments
-/

@[expose] public section

set_option maxRecDepth 16384

noncomputable section

namespace Cert.EvenOutIdeal.Even

open Cert.EvenOutIdeal Cert.EvenOutIdeal.Gen Cert.EvenOut Cert.Row
open Idealize.ShloMosaic Idealize.ShloMosaic.TcCoe

/-- Where each window's block lies at a point of the grid. -/
theorem idx : ∀ t : Fin cfg0.N, win0_0.index t = ![t.val, 0] ∧ win0_1.index t = ![t.val * 128 - 1, 0] ∧ win0_2.index t = ![t.val, 0] ∧
    win0_3.index t = ![min ((t.val + 1) * 128) 4095, 0] ∧ win0_4.index t = ![t.val, 0] ∧ win0_5.index t = ![0, 0] ∧ win0_6.index t = ![0, 0] ∧
    win0_7.index t = ![0, 0] ∧ win0_8.index t = ![0, 0] ∧ win0_9.index t = ![0, 0] ∧ win0_10.index t = ![0, 0] ∧ win0_11.index t = ![t.val, 0] :=
  (by decide +kernel : ∀ t : Fin grid0.N, _)

variable (m : (ℓ : Loc nD τ sig) → Buf (Elt Ideal) ℓ)

/-- The norm's weights. -/
theorem entry_nw (c : Dev nD) (X : FVec Ideal S4x6x1024 .f32) (h : X = m ((c.tc : Thread nD τ).loc main_arg3)) (k : Fin 1024) :
    V m c main_v60 (ix2 0 k) = X (ix3 0 3 k) := by
  subst h
  after_reads_simp
  pointwise

/-- The pool's scale. -/
theorem entry_sc (c : Dev nD) (X : FVec Ideal S2x256 .f32) (h : X = m ((c.tc : Thread nD τ).loc main_arg5)) (k : Fin 256) :
    V m c main_v48 (ix2 0 k) = X (ix2 0 k) := by
  subst h
  after_reads_simp
  pointwise

/-- Half the windows' widths, as words. -/
def halves : IVec S1x256 32 :=
  broadcastInDim S1x256 ![1] bcast_S256_S1x256_1
    (shapeCast S256 (broadcastInDim S4x64 ![0] bcast_S4_S4x64_0 fun i => lit0 (S4.rowMajor i)) shapeCasts_S4x64_S256)

/-- Each channel's word is its half width. -/
theorem halves_apply : ∀ ch : Fin 256, halves (ix2 0 ch) = BitVec.ofNat 32 (half ch) := by
  decide +kernel

/-- Half the windows' widths, as the lines before the call leave them. -/
theorem entry_hw (c : Dev nD) (ch : Fin 256) : (V m c main_v6 : IVec S1x256 32) (ix2 0 ch) = BitVec.ofNat 32 (half ch) := by
  rw [← halves_apply]
  after_reads_simp
  rfl

/-- Which of the sixteen places are in a channel's window. -/
def mask : IVec S16x256 1 :=
  andi
    (cmpi .sge
      (broadcastInDim S16x256 ![0, 1] bcast_S16x1_S16x256_0_1
        (subi (broadcastInDim S16x1 ![0] bcast_S16_S16x1_0 (iotaInDim S16 32 0)) (broadcastInDim S16x1 ![] bcast_S_S16x1 (constantI S_ 32 8#32))))
      (broadcastInDim S16x256 ![0, 1] bcast_S1x256_S16x256_0_1 (negi halves)))
    (cmpi .sle
      (broadcastInDim S16x256 ![0, 1] bcast_S16x1_S16x256_0_1
        (subi (broadcastInDim S16x1 ![0] bcast_S16_S16x1_0 (iotaInDim S16 32 0)) (broadcastInDim S16x1 ![] bcast_S_S16x1 (constantI S_ 32 8#32))))
      (broadcastInDim S16x256 ![0, 1] bcast_S1x256_S16x256_0_1 (subi halves (broadcastInDim S1x256 ![] bcast_S_S1x256 (constantI S_ 32 1#32)))))

/-- The place is in the window if its distance is within half the width. -/
theorem mask_apply : ∀ (d : Fin 16) (ch : Fin 256), mask (ix2 d ch) = if 8 ≤ d.val + half ch ∧ d.val < 8 + half ch then 1#1 else 0#1 := by
  decide +kernel

/-- The windows' weights: one inside, zero outside. -/
theorem entry_taps (c : Dev nD) (d : Fin 16) (ch : Fin 256) :
    V m c main_v17 (ix2 d ch) = if 8 ≤ d.val + half ch ∧ d.val < 8 + half ch then (1 : EReal) else 0 := by
  have e : V m c main_v17 = uitofp (F := Ideal) FTy.f32 mask := by
    after_reads_simp
    rfl
  rw [e]
  change ((((mask (ix2 d ch)).toNat : ℝ)) : EReal) = _
  rw [mask_apply]
  split <;> simp

/-- The row of the output weights that stands at a row of the kernel's: the attention's rows are in another order. -/
def perm (k : Fin 1024) : Fin 1024 :=
  if h : k.val < 256 then k else ⟨256 + (byHead ⟨k.val - 256, by omega⟩).val, by have := (byHead ⟨k.val - 256, by omega⟩).isLt; omega⟩

/-- Two pieces of the row order, one after another. -/
def glue (A : IVec S256 32) (B : IVec S768 32) : IVec S1024 32 :=
  concatenate S1024 0 [⟨S256, A⟩, ⟨S768, B⟩] concatenates_S256_S768_S1024_d0

/-- The attention's rows, reordered. -/
def heads : IVec S768 32 :=
  addi (broadcastInDim S768 ![] bcast_S_S768 (constantI S_ 32 256#32))
    (shapeCast S768
      (addi
        (broadcastInDim S12x64 ![0, 1] bcast_S12x1_S12x64_0_1
          (muli (broadcastInDim S12x1 ![0] bcast_S12_S12x1_0 fun i => lit1 (S12.rowMajor i))
            (broadcastInDim S12x1 ![] bcast_S_S12x1 (constantI S_ 32 64#32))))
        (broadcastInDim S12x64 ![0, 1] bcast_S1x64_S12x64_0_1
          (broadcastInDim S1x64 ![1] bcast_S64_S1x64_1 (iotaInDim S64 32 0))))
      shapeCasts_S12x64_S768)

/-- Negative entries, of which there are none, wrapped round. -/
def wrap (A : IVec S1024 32) : IVec S1024x1 32 :=
  broadcastInDim S1024x1 ![0] bcast_S1024_S1024x1_0
    (select (cmpi .slt A (broadcastInDim S1024 ![] bcast_S_S1024 (constantI S_ 32 0#32)))
      (addi A (broadcastInDim S1024 ![] bcast_S_S1024 (constantI S_ 32 1024#32))) A)

/-- The words the gather takes its rows by. -/
def wrapped : IVec S1024x1 32 := wrap (glue (iotaInDim S256 32 0) heads)

/-- Each word is the number of the row that stands there. -/
theorem wrapped_apply : ∀ k : Fin 1024, wrapped (ix2 k 0) = BitVec.ofNat 32 (perm k).val := by
  decide +kernel

/-- The gather of rows: at a row whose word is `n`, row `n` of the operand. -/
theorem gather_apply (x : FVec Ideal S1024x1024 .f32) (w : IVec S1024x1 32) (k n : Fin 1024) (q : Fin 1024) (h : w (ix2 k 0) = BitVec.ofNat 32 n.val) :
    Host.gather gather_S1024x1024_S1024x1_S1024x1024_1_0_n_n_0_1_11024 x w (ix2 k q) = x (ix2 n q) := by
  unfold Host.gather
  congr 1
  funext a
  refine Fin.ext ?_
  match a with
  | ⟨0, _⟩ =>
    show GatherDims.start _ _ _ 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (by decide)]
    have e : ∀ z, GatherDims.siIdx gather_S1024x1024_S1024x1_S1024x1024_1_0_n_n_0_1_11024 (ix2 k q) z = ix2 k 0 := by
      intro z
      funext b
      refine Fin.ext ?_
      match b with
      | ⟨0, _⟩ => rfl
      | ⟨1, _⟩ => exact Nat.lt_one_iff.1 (Fin.isLt _)
    rw [e, h]
    show min (BitVec.ofNat 32 n.val).toInt.toNat 1023 + 0 + 0 = n.val
    rw [(by decide +kernel : ∀ n : Fin 1024, (BitVec.ofNat 32 n.val).toInt.toNat = n.val) n]
    omega
  | ⟨1, _⟩ =>
    show GatherDims.start _ _ _ 1 + GatherDims.batchCoord _ _ 1 + GatherDims.offCoord _ _ 1 = _
    rw [GatherDims.batchCoord_eq_zero _ _ _ List.not_mem_nil]
    unfold GatherDims.start
    rw [dif_neg (by decide)]
    unfold GatherDims.offCoord
    rw [dif_pos (by decide)]
    exact (Nat.zero_add _).trans (congrArg (fun z : Fin 2 => ((ix2 k q : S1024x1024.Idx) z).val) (a₂ := 1) (by decide +kernel))

/-- The same after the rounding, which changes nothing here. -/
theorem narrow_apply (x : FVec Ideal S1024x1024 .f32) (w : IVec S1024x1 32) (k n : Fin 1024) (q : Fin 1024) (h : w (ix2 k 0) = BitVec.ofNat 32 n.val) :
    truncf .bf16 (Host.gather gather_S1024x1024_S1024x1_S1024x1024_1_0_n_n_0_1_11024 x w) bitsLt_bf16_f32 (ix2 k q) = x (ix2 n q) := by
  rw [← gather_apply x w k n q h]
  pointwise

/-- The output weights: the argument's, their rows in the kernel's order. -/
theorem entry_wo (c : Dev nD) (X : FVec Ideal S2x1024x1024 .f32) (h : X = m ((c.tc : Thread nD τ).loc main_arg6)) (k q : Fin 1024) :
    V m c main_v58 (ix2 k q) = X (ix3 0 (perm k) q) := by
  subst h
  after_reads_simp
  refine (narrow_apply _ _ k (perm k) q ?_).trans ?_
  · exact (congrFun (rfl : _ = wrapped) _).trans (wrapped_apply k)
  · pointwise

end Cert.EvenOutIdeal.Even
-- ==== Proof.EvenOutBd.lean ====
module

public import proofs.«01_k».proof.Proof.EvenOutBlock
public import proofs.«01_k».proof.Proof.EvenOutMath
public import Idealize.ShloMosaic.Lib.StableHlo.RunRead

/-!
# The block diagonal matrix of the pool
-/

@[expose] public section

set_option maxRecDepth 16384

noncomputable section

namespace Cert.EvenOutIdeal.Even

open Cert.EvenOutIdeal Cert.EvenOutIdeal.Gen Cert.EvenOut Cert.Row
open Idealize.ShloMosaic Idealize.ShloMosaic.TcCoe

/-- The first even layer's pool weights. -/
def pools (X : FVec Ideal S2x4x64x64 .f32) : FVec Ideal S4x64x64 .f32 :=
  shapeCast S4x64x64 (extractStridedSlice S1x4x64x64 ![0, 0, 0, 0] X slices_S2x4x64x64_S1x4x64x64_0_0_0_0) shapeCasts_S1x4x64x64_S4x64x64

/-- Group 0's rows of the matrix: its own weights, with zeros around. -/
def strip0 (X : FVec Ideal S2x4x64x64 .f32) : FVec Ideal S64x256 .f32 :=
  @pad S64x64 EReal S64x256 ![0, 0] ![0, 192] ![0, 0]
    (shapeCast S64x64 (extractStridedSlice S1x64x64 ![0, 0, 0] (pools X) slices_S4x64x64_S1x64x64_0_0_0) shapeCasts_S1x64x64_S64x64) S_
    (constant (F := Ideal) S_ .f32 0x00000000#32) pads_S64x64_S64x256_000_01920 h_S_

/-- Group 0's rows at a place. -/
theorem strip0_apply (X : FVec Ideal S2x4x64x64 .f32) (k : Fin 64) (q : Fin 256) :
    strip0 X (ix2 k q) = if q.val / 64 = 0 then X (ix4 0 0 k ⟨q.val % 64, by omega⟩) else 0 := by
  unfold strip0
  pointwise [pools]
  by_cases hq : q.val / 64 = 0
  · rw [if_pos hq, dif_pos (by omega)]
    exact congrArg (fun z => X (ix4 0 0 k z)) (Fin.ext (by show _ = q.val % 64; dsimp only; omega))
  · rw [if_neg hq, dif_neg (by omega)]

/-- Group 1's rows of the matrix: its own weights, with zeros around. -/
def strip1 (X : FVec Ideal S2x4x64x64 .f32) : FVec Ideal S64x256 .f32 :=
  @pad S64x64 EReal S64x256 ![0, 64] ![0, 128] ![0, 0]
    (shapeCast S64x64 (extractStridedSlice S1x64x64 ![1, 0, 0] (pools X) slices_S4x64x64_S1x64x64_1_0_0) shapeCasts_S1x64x64_S64x64) S_
    (constant (F := Ideal) S_ .f32 0x00000000#32) pads_S64x64_S64x256_000_641280 h_S_

/-- Group 1's rows at a place. -/
theorem strip1_apply (X : FVec Ideal S2x4x64x64 .f32) (k : Fin 64) (q : Fin 256) :
    strip1 X (ix2 k q) = if q.val / 64 = 1 then X (ix4 0 1 k ⟨q.val % 64, by omega⟩) else 0 := by
  unfold strip1
  pointwise [pools]
  by_cases hq : q.val / 64 = 1
  · rw [if_pos hq, dif_pos (by omega)]
    exact congrArg (fun z => X (ix4 0 1 k z)) (Fin.ext (by show _ = q.val % 64; dsimp only; omega))
  · rw [if_neg hq, dif_neg (by omega)]

/-- Group 2's rows of the matrix: its own weights, with zeros around. -/
def strip2 (X : FVec Ideal S2x4x64x64 .f32) : FVec Ideal S64x256 .f32 :=
  @pad S64x64 EReal S64x256 ![0, 128] ![0, 64] ![0, 0]
    (shapeCast S64x64 (extractStridedSlice S1x64x64 ![2, 0, 0] (pools X) slices_S4x64x64_S1x64x64_2_0_0) shapeCasts_S1x64x64_S64x64) S_
    (constant (F := Ideal) S_ .f32 0x00000000#32) pads_S64x64_S64x256_000_128640 h_S_

/-- Group 2's rows at a place. -/
theorem strip2_apply (X : FVec Ideal S2x4x64x64 .f32) (k : Fin 64) (q : Fin 256) :
    strip2 X (ix2 k q) = if q.val / 64 = 2 then X (ix4 0 2 k ⟨q.val % 64, by omega⟩) else 0 := by
  unfold strip2
  pointwise [pools]
  by_cases hq : q.val / 64 = 2
  · rw [if_pos hq, dif_pos (by omega)]
    exact congrArg (fun z => X (ix4 0 2 k z)) (Fin.ext (by show _ = q.val % 64; dsimp only; omega))
  · rw [if_neg hq, dif_neg (by omega)]

/-- Group 3's rows of the matrix: its own weights, with zeros around. -/
def strip3 (X : FVec Ideal S2x4x64x64 .f32) : FVec Ideal S64x256 .f32 :=
  @pad S64x64 EReal S64x256 ![0, 192] ![0, 0] ![0, 0]
    (shapeCast S64x64 (extractStridedSlice S1x64x64 ![3, 0, 0] (pools X) slices_S4x64x64_S1x64x64_3_0_0) shapeCasts_S1x64x64_S64x64) S_
    (constant (F := Ideal) S_ .f32 0x00000000#32) pads_S64x64_S64x256_000_19200 h_S_

/-- Group 3's rows at a place. -/
theorem strip3_apply (X : FVec Ideal S2x4x64x64 .f32) (k : Fin 64) (q : Fin 256) :
    strip3 X (ix2 k q) = if q.val / 64 = 3 then X (ix4 0 3 k ⟨q.val % 64, by omega⟩) else 0 := by
  unfold strip3
  pointwise [pools]
  by_cases hq : q.val / 64 = 3
  · rw [if_pos hq, dif_pos (by omega)]
    exact congrArg (fun z => X (ix4 0 3 k z)) (Fin.ext (by show _ = q.val % 64; dsimp only; omega))
  · rw [if_neg hq, dif_neg (by omega)]

/-- The four strips, one after another. -/
def stack (A B C D : FVec Ideal S64x256 .f32) : FVec Ideal S256x256 .f32 :=
  concatenate S256x256 0 [⟨S64x256, A⟩, ⟨S64x256, B⟩, ⟨S64x256, C⟩, ⟨S64x256, D⟩] concatenates_S64x256_S64x256_S64x256_S64x256_S256x256_d0

/-- The four strips at a place. -/
theorem stack_apply (A B C D : FVec Ideal S64x256 .f32) (k q : Fin 256) :
    stack A B C D (ix2 k q) = if k.val / 64 = 0 then A (ix2 ⟨k.val % 64, by omega⟩ q) else if k.val / 64 = 1 then B (ix2 ⟨k.val % 64, by omega⟩ q)
      else if k.val / 64 = 2 then C (ix2 ⟨k.val % 64, by omega⟩ q) else D (ix2 ⟨k.val % 64, by omega⟩ q) := by
  unfold stack
  pointwise
  by_cases h0 : k.val / 64 = 0
  · rw [if_pos h0, dif_pos (by omega)]
    exact congrArg (fun z => A (ix2 z q)) (Fin.ext (by show _ = k.val % 64; dsimp only; omega))
  rw [if_neg h0, dif_neg (by omega)]
  by_cases h1 : k.val / 64 = 1
  · rw [if_pos h1, dif_pos (by omega)]
    exact congrArg (fun z => B (ix2 z q)) (Fin.ext (by show _ = k.val % 64; dsimp only; omega))
  rw [if_neg h1, dif_neg (by omega)]
  by_cases h2 : k.val / 64 = 2
  · rw [if_pos h2, dif_pos (by omega)]
    exact congrArg (fun z => C (ix2 z q)) (Fin.ext (by show _ = k.val % 64; dsimp only; omega))
  rw [if_neg h2, dif_neg (by omega)]
  exact congrArg (fun z => D (ix2 z q)) (Fin.ext (by show _ = k.val % 64; dsimp only; omega))

variable (m : (ℓ : Loc nD τ sig) → Buf (Elt Ideal) ℓ)

/-- Group 0's rows, as the lines before the call leave them. -/
theorem entry_strip0 (c : Dev nD) : StableHlo.upto [hostOps0, hostOps0_1, hostOps0_2].flatten (fun b => m (c, b)) 50 (Proc.tc.devRef main_call0_v4) =
    strip0 (m ((c.tc : Thread nD τ).loc main_arg4)) := by
  after_reads_simp
  rfl

/-- Group 1's rows, as the lines before the call leave them. -/
theorem entry_strip1 (c : Dev nD) : StableHlo.upto [hostOps0, hostOps0_1, hostOps0_2].flatten (fun b => m (c, b)) 50 (Proc.tc.devRef main_call0_v5) =
    strip1 (m ((c.tc : Thread nD τ).loc main_arg4)) := by
  after_reads_simp
  rfl

/-- Group 2's rows, as the lines before the call leave them. -/
theorem entry_strip2 (c : Dev nD) : StableHlo.upto [hostOps0, hostOps0_1, hostOps0_2].flatten (fun b => m (c, b)) 50 (Proc.tc.devRef main_call0_v6) =
    strip2 (m ((c.tc : Thread nD τ).loc main_arg4)) := by
  after_reads_simp
  rfl

/-- Group 3's rows, as the lines before the call leave them. -/
theorem entry_strip3 (c : Dev nD) : StableHlo.upto [hostOps0, hostOps0_1, hostOps0_2].flatten (fun b => m (c, b)) 50 (Proc.tc.devRef main_call0_v7) =
    strip3 (m ((c.tc : Thread nD τ).loc main_arg4)) := by
  after_reads_simp
  rfl

set_option maxHeartbeats 3200000 in
/-- The matrix, as the lines before the call leave it. -/
theorem entry_stack (c : Dev nD) : V m c main_v38 = truncf (F := Ideal) .bf16 (stack (strip0 (m ((c.tc : Thread nD τ).loc main_arg4))) (strip1 (m ((c.tc : Thread nD τ).loc main_arg4)))
    (strip2 (m ((c.tc : Thread nD τ).loc main_arg4))) (strip3 (m ((c.tc : Thread nD τ).loc main_arg4)))) bitsLt_bf16_f32 := by
  after_reads_simp
  have t : stack _ _ _ _ = stack _ _ _ _ := congr (congr (congr (congrArg stack (entry_strip0 m c)) (entry_strip1 m c)) (entry_strip2 m c)) (entry_strip3 m c)
  exact congrArg (fun A => truncf (F := Ideal) .bf16 A bitsLt_bf16_f32) t

/-- The pool's matrix: each group's own matrix on the diagonal, zero elsewhere. -/
theorem entry_bd (c : Dev nD) (X : FVec Ideal S2x4x64x64 .f32) (h : X = m ((c.tc : Thread nD τ).loc main_arg4)) (k q : Fin 256) :
    V m c main_v38 (ix2 k q) = if k.val / 64 = q.val / 64 then X (ix4 0 ⟨q.val / 64, by omega⟩ ⟨k.val % 64, by omega⟩ ⟨q.val % 64, by omega⟩) else 0 := by
  subst h
  rw [entry_stack]
  refine (stack_apply _ _ _ _ k q).trans ?_
  rw [strip0_apply, strip1_apply, strip2_apply, strip3_apply]
  by_cases e : k.val / 64 = q.val / 64
  · rw [if_pos e]
    have hg : q.val / 64 = 0 ∨ q.val / 64 = 1 ∨ q.val / 64 = 2 ∨ q.val / 64 = 3 := by omega
    have hs : ∀ g : Fin 4, q.val / 64 = g.val → (⟨q.val / 64, by omega⟩ : Fin 4) = g := fun g h => Fin.ext h
    rcases hg with h | h | h | h
    · rw [hs 0 h, if_pos (e.trans h), if_pos h]
    · rw [hs 1 h, if_neg (by omega), if_pos (e.trans h), if_pos h]
    · rw [hs 2 h, if_neg (by omega), if_neg (by omega), if_pos (e.trans h), if_pos h]
    · rw [hs 3 h, if_neg (by omega), if_neg (by omega), if_neg (by omega), if_pos h]
  · rw [if_neg e]
    split_ifs <;> first | rfl | omega

end Cert.EvenOutIdeal.Even
-- ==== Proof.EvenOutRef.lean ====
module

public import proofs.«01_k».proof.Proof.EvenOutMath
public import proofs.«01_k».proof.Proof.Gen.EvenOutRefIdeal.Read

/-!
# The reference of the even layers' output projection, read at a place
-/

@[expose] public section

set_option maxRecDepth 16384

noncomputable section

namespace Cert.EvenOutRefIdeal.EvenOut

open Cert.EvenOutRefIdeal Cert.EvenOutRefIdeal.Read Cert.EvenOut Cert.Row
open Idealize.ShloMosaic Idealize.ShloMosaic.TcCoe

/-- The pool's channels by row and column. -/
def chan (x1 : FVec Ideal S32768x256 .f32) (R : Fin 32768) (c : Fin 256) : EReal := x1 (ix2 R c)

/-- The first group's padded channels. -/
theorem pad0 (x1 : FVec Ideal S32768x256 .f32) (R : Fin 32768) (j : Fin 64) (s : Fin 4098) (e : Fin 16) (h : s.val + 8 = R.val % 4096 + e.val + 1) :
    val_main_v3 (F := Ideal) x1 (ix3 ⟨R.val / 4096, by omega⟩ s j) = near (chan x1) R e ⟨0 * 64 + j.val, by omega⟩ := by
  pointwise [val_main_v3, val_main_v2, val_main_v0, val_main_call0_v0, val_main_c]
  unfold near
  by_cases hs : 1 ≤ s.val ∧ s.val - 1 < 4096
  · refine (dif_pos (by omega)).trans (Eq.trans ?_ (dif_pos (by omega)).symm)
    exact congrArg₂ (fun a b => x1 (ix2 a b)) (Fin.ext (by first | rfl | (dsimp only; omega))) (Fin.ext (by first | rfl | (dsimp only; omega)))
  · refine (dif_neg (by omega)).trans (Eq.trans ?_ (dif_neg (by omega)).symm)
    show ((((0#32).toInt : ℝ)) : EReal) = 0
    simp

/-- The first group's counts, as words. -/
theorem words0 : ∀ s : Fin 4096, val_main_v12 (F := Ideal) (ix1 s) = count (BitVec.ofNat 32 s.val) 1#32 := by
  intro s
  pointwise [val_main_v12, val_main_v11, val_main_v10, val_main_v9, val_main_v8, val_main_v7, val_main_v6, val_main_v5, val_main_v4, val_main_v1, val_main_call1_v4, val_main_call1_v3, val_main_call1_v2, val_main_call1_v1, val_main_call1_v0, val_main_call2_v4, val_main_call2_v3, val_main_call2_v2, val_main_call2_v1, val_main_call2_v0, val_main_c_0, val_main_c_1, val_main_c_2, val_main_c_3, val_main_c_4, val_main_c_5, val_main_c_6]
  revert s
  decide +kernel

/-- The first group's means less the channels. -/
theorem diff0 (x1 : FVec Ideal S32768x256 .f32) (R : Fin 32768) (j : Fin 64) :
    val_main_v20 (F := Ideal) x1 (ix3 ⟨R.val / 4096, by omega⟩ ⟨R.val % 4096, by omega⟩ j) = pooled (chan x1) R ⟨0 * 64 + j.val, by omega⟩ := by
  have hp := pad0 x1 R j
  have e1 : (⟨(0 * 64 + j.val) / 64, by omega⟩ : Fin 4) = 0 := Fin.ext (by show (0 * 64 + j.val) / 64 = 0; omega)
  have e2 : val_main_v2 (F := Ideal) x1 (ix3 ⟨R.val / 4096, by omega⟩ ⟨R.val % 4096, by omega⟩ j) = chan x1 R ⟨0 * 64 + j.val, by omega⟩ := by
    pointwise [val_main_v2, val_main_v0]
    exact congrArg₂ (fun a b => x1 (ix2 a b)) (Fin.ext (by first | rfl | (dsimp only; omega))) (Fin.ext (by first | rfl | (dsimp only; omega)))
  have e3 : val_main_v15 (F := Ideal) x1 (ix3 ⟨R.val / 4096, by omega⟩ ⟨R.val % 4096, by omega⟩ j) = total (fun e => near (chan x1) R e ⟨0 * 64 + j.val, by omega⟩) 0 := by
    pointwise [val_main_v15, val_main_v14, val_main_v13]
    rw [hp _ 7 (by show _ + 8 = _ + 7 + 1; first | rfl | (dsimp only; omega)), hp _ 8 (by show _ + 8 = _ + 8 + 1; first | rfl | (dsimp only; omega))]
    simp only [Nat.zero_mul, Nat.zero_add]
    rfl
  have e4 : val_main_v18 (F := Ideal) (ix3 ⟨R.val / 4096, by omega⟩ ⟨R.val % 4096, by omega⟩ j) = cnt ⟨R.val % 4096, by omega⟩ 0 := by
    pointwise [val_main_v18, val_main_v17, val_main_v16]
    rw [words0]
    rfl
  rw [val_main_v20, val_main_v19, pooled, e1, ← e2, ← e3, ← e4]
  rfl

/-- The second group's padded channels. -/
theorem pad1 (x1 : FVec Ideal S32768x256 .f32) (R : Fin 32768) (j : Fin 64) (s : Fin 4100) (e : Fin 16) (h : s.val + 8 = R.val % 4096 + e.val + 2) :
    val_main_v22 (F := Ideal) x1 (ix3 ⟨R.val / 4096, by omega⟩ s j) = near (chan x1) R e ⟨1 * 64 + j.val, by omega⟩ := by
  pointwise [val_main_v22, val_main_v21, val_main_v0, val_main_call3_v0, val_main_c_7]
  unfold near
  by_cases hs : 2 ≤ s.val ∧ s.val - 2 < 4096
  · refine (dif_pos (by omega)).trans (Eq.trans ?_ (dif_pos (by omega)).symm)
    exact congrArg₂ (fun a b => x1 (ix2 a b)) (Fin.ext (by first | rfl | (dsimp only; omega))) (Fin.ext (by first | rfl | (dsimp only; omega)))
  · refine (dif_neg (by omega)).trans (Eq.trans ?_ (dif_neg (by omega)).symm)
    show ((((0#32).toInt : ℝ)) : EReal) = 0
    simp

/-- The second group's counts, as words. -/
theorem words1 : ∀ s : Fin 4096, val_main_v31 (F := Ideal) (ix1 s) = count (BitVec.ofNat 32 s.val) 2#32 := by
  intro s
  pointwise [val_main_v31, val_main_v30, val_main_v29, val_main_v28, val_main_v27, val_main_v26, val_main_v25, val_main_v24, val_main_v23, val_main_v1, val_main_call4_v4, val_main_call4_v3, val_main_call4_v2, val_main_call4_v1, val_main_call4_v0, val_main_call5_v4, val_main_call5_v3, val_main_call5_v2, val_main_call5_v1, val_main_call5_v0, val_main_c_8, val_main_c_9, val_main_c_10, val_main_c_11, val_main_c_12, val_main_c_13, val_main_c_14]
  revert s
  decide +kernel

/-- The second group's means less the channels. -/
theorem diff1 (x1 : FVec Ideal S32768x256 .f32) (R : Fin 32768) (j : Fin 64) :
    val_main_v43 (F := Ideal) x1 (ix3 ⟨R.val / 4096, by omega⟩ ⟨R.val % 4096, by omega⟩ j) = pooled (chan x1) R ⟨1 * 64 + j.val, by omega⟩ := by
  have hp := pad1 x1 R j
  have e1 : (⟨(1 * 64 + j.val) / 64, by omega⟩ : Fin 4) = 1 := Fin.ext (by show (1 * 64 + j.val) / 64 = 1; omega)
  have e2 : val_main_v21 (F := Ideal) x1 (ix3 ⟨R.val / 4096, by omega⟩ ⟨R.val % 4096, by omega⟩ j) = chan x1 R ⟨1 * 64 + j.val, by omega⟩ := by
    pointwise [val_main_v21, val_main_v0]
    exact congrArg₂ (fun a b => x1 (ix2 a b)) (Fin.ext (by first | rfl | (dsimp only; omega))) (Fin.ext (by first | rfl | (dsimp only; omega)))
  have e3 : val_main_v38 (F := Ideal) x1 (ix3 ⟨R.val / 4096, by omega⟩ ⟨R.val % 4096, by omega⟩ j) = total (fun e => near (chan x1) R e ⟨1 * 64 + j.val, by omega⟩) 1 := by
    pointwise [val_main_v38, val_main_v37, val_main_v36, val_main_v35, val_main_v34, val_main_v33, val_main_v32]
    rw [hp _ 6 (by show _ + 8 = _ + 6 + 2; first | rfl | (dsimp only; omega)), hp _ 7 (by show _ + 8 = _ + 7 + 2; first | rfl | (dsimp only; omega)), hp _ 8 (by show _ + 8 = _ + 8 + 2; first | rfl | (dsimp only; omega)), hp _ 9 (by show _ + 8 = _ + 9 + 2; first | rfl | (dsimp only; omega))]
    rfl
  have e4 : val_main_v41 (F := Ideal) (ix3 ⟨R.val / 4096, by omega⟩ ⟨R.val % 4096, by omega⟩ j) = cnt ⟨R.val % 4096, by omega⟩ 1 := by
    pointwise [val_main_v41, val_main_v40, val_main_v39]
    rw [words1]
    rfl
  rw [val_main_v43, val_main_v42, pooled, e1, ← e2, ← e3, ← e4]
  rfl

/-- The third group's padded channels. -/
theorem pad2 (x1 : FVec Ideal S32768x256 .f32) (R : Fin 32768) (j : Fin 64) (s : Fin 4104) (e : Fin 16) (h : s.val + 8 = R.val % 4096 + e.val + 4) :
    val_main_v45 (F := Ideal) x1 (ix3 ⟨R.val / 4096, by omega⟩ s j) = near (chan x1) R e ⟨2 * 64 + j.val, by omega⟩ := by
  pointwise [val_main_v45, val_main_v44, val_main_v0, val_main_call6_v0, val_main_c_15]
  unfold near
  by_cases hs : 4 ≤ s.val ∧ s.val - 4 < 4096
  · refine (dif_pos (by omega)).trans (Eq.trans ?_ (dif_pos (by omega)).symm)
    exact congrArg₂ (fun a b => x1 (ix2 a b)) (Fin.ext (by first | rfl | (dsimp only; omega))) (Fin.ext (by first | rfl | (dsimp only; omega)))
  · refine (dif_neg (by omega)).trans (Eq.trans ?_ (dif_neg (by omega)).symm)
    show ((((0#32).toInt : ℝ)) : EReal) = 0
    simp

/-- The third group's counts, as words. -/
theorem words2 : ∀ s : Fin 4096, val_main_v54 (F := Ideal) (ix1 s) = count (BitVec.ofNat 32 s.val) 4#32 := by
  intro s
  pointwise [val_main_v54, val_main_v53, val_main_v52, val_main_v51, val_main_v50, val_main_v49, val_main_v48, val_main_v47, val_main_v46, val_main_v1, val_main_call7_v4, val_main_call7_v3, val_main_call7_v2, val_main_call7_v1, val_main_call7_v0, val_main_call8_v4, val_main_call8_v3, val_main_call8_v2, val_main_call8_v1, val_main_call8_v0, val_main_c_16, val_main_c_17, val_main_c_18, val_main_c_19, val_main_c_20, val_main_c_21, val_main_c_22]
  revert s
  decide +kernel

/-- The third group's means less the channels. -/
theorem diff2 (x1 : FVec Ideal S32768x256 .f32) (R : Fin 32768) (j : Fin 64) :
    val_main_v74 (F := Ideal) x1 (ix3 ⟨R.val / 4096, by omega⟩ ⟨R.val % 4096, by omega⟩ j) = pooled (chan x1) R ⟨2 * 64 + j.val, by omega⟩ := by
  have hp := pad2 x1 R j
  have e1 : (⟨(2 * 64 + j.val) / 64, by omega⟩ : Fin 4) = 2 := Fin.ext (by show (2 * 64 + j.val) / 64 = 2; omega)
  have e2 : val_main_v44 (F := Ideal) x1 (ix3 ⟨R.val / 4096, by omega⟩ ⟨R.val % 4096, by omega⟩ j) = chan x1 R ⟨2 * 64 + j.val, by omega⟩ := by
    pointwise [val_main_v44, val_main_v0]
    exact congrArg₂ (fun a b => x1 (ix2 a b)) (Fin.ext (by first | rfl | (dsimp only; omega))) (Fin.ext (by first | rfl | (dsimp only; omega)))
  have e3 : val_main_v69 (F := Ideal) x1 (ix3 ⟨R.val / 4096, by omega⟩ ⟨R.val % 4096, by omega⟩ j) = total (fun e => near (chan x1) R e ⟨2 * 64 + j.val, by omega⟩) 2 := by
    pointwise [val_main_v69, val_main_v68, val_main_v67, val_main_v66, val_main_v65, val_main_v64, val_main_v63, val_main_v62, val_main_v61, val_main_v60, val_main_v59, val_main_v58, val_main_v57, val_main_v56, val_main_v55]
    rw [hp _ 4 (by show _ + 8 = _ + 4 + 4; first | rfl | (dsimp only; omega)), hp _ 5 (by show _ + 8 = _ + 5 + 4; first | rfl | (dsimp only; omega)), hp _ 6 (by show _ + 8 = _ + 6 + 4; first | rfl | (dsimp only; omega)), hp _ 7 (by show _ + 8 = _ + 7 + 4; first | rfl | (dsimp only; omega)), hp _ 8 (by show _ + 8 = _ + 8 + 4; first | rfl | (dsimp only; omega)), hp _ 9 (by show _ + 8 = _ + 9 + 4; first | rfl | (dsimp only; omega)), hp _ 10 (by show _ + 8 = _ + 10 + 4; first | rfl | (dsimp only; omega)), hp _ 11 (by show _ + 8 = _ + 11 + 4; first | rfl | (dsimp only; omega))]
    rfl
  have e4 : val_main_v72 (F := Ideal) (ix3 ⟨R.val / 4096, by omega⟩ ⟨R.val % 4096, by omega⟩ j) = cnt ⟨R.val % 4096, by omega⟩ 2 := by
    pointwise [val_main_v72, val_main_v71, val_main_v70]
    rw [words2]
    rfl
  rw [val_main_v74, val_main_v73, pooled, e1, ← e2, ← e3, ← e4]
  rfl

/-- The fourth group's padded channels. -/
theorem pad3 (x1 : FVec Ideal S32768x256 .f32) (R : Fin 32768) (j : Fin 64) (s : Fin 4112) (e : Fin 16) (h : s.val + 8 = R.val % 4096 + e.val + 8) :
    val_main_v76 (F := Ideal) x1 (ix3 ⟨R.val / 4096, by omega⟩ s j) = near (chan x1) R e ⟨3 * 64 + j.val, by omega⟩ := by
  pointwise [val_main_v76, val_main_v75, val_main_v0, val_main_call9_v0, val_main_c_23]
  unfold near
  by_cases hs : 8 ≤ s.val ∧ s.val - 8 < 4096
  · refine (dif_pos (by omega)).trans (Eq.trans ?_ (dif_pos (by omega)).symm)
    exact congrArg₂ (fun a b => x1 (ix2 a b)) (Fin.ext (by first | rfl | (dsimp only; omega))) (Fin.ext (by first | rfl | (dsimp only; omega)))
  · refine (dif_neg (by omega)).trans (Eq.trans ?_ (dif_neg (by omega)).symm)
    show ((((0#32).toInt : ℝ)) : EReal) = 0
    simp

/-- The fourth group's counts, as words. -/
theorem words3 : ∀ s : Fin 4096, val_main_v85 (F := Ideal) (ix1 s) = count (BitVec.ofNat 32 s.val) 8#32 := by
  intro s
  pointwise [val_main_v85, val_main_v84, val_main_v83, val_main_v82, val_main_v81, val_main_v80, val_main_v79, val_main_v78, val_main_v77, val_main_v1, val_main_call10_v4, val_main_call10_v3, val_main_call10_v2, val_main_call10_v1, val_main_call10_v0, val_main_call11_v4, val_main_call11_v3, val_main_call11_v2, val_main_call11_v1, val_main_call11_v0, val_main_c_24, val_main_c_25, val_main_c_26, val_main_c_27, val_main_c_28, val_main_c_29, val_main_c_30]
  revert s
  decide +kernel

/-- The fourth group's means less the channels. -/
theorem diff3 (x1 : FVec Ideal S32768x256 .f32) (R : Fin 32768) (j : Fin 64) :
    val_main_v121 (F := Ideal) x1 (ix3 ⟨R.val / 4096, by omega⟩ ⟨R.val % 4096, by omega⟩ j) = pooled (chan x1) R ⟨3 * 64 + j.val, by omega⟩ := by
  have hp := pad3 x1 R j
  have e1 : (⟨(3 * 64 + j.val) / 64, by omega⟩ : Fin 4) = 3 := Fin.ext (by show (3 * 64 + j.val) / 64 = 3; omega)
  have e2 : val_main_v75 (F := Ideal) x1 (ix3 ⟨R.val / 4096, by omega⟩ ⟨R.val % 4096, by omega⟩ j) = chan x1 R ⟨3 * 64 + j.val, by omega⟩ := by
    pointwise [val_main_v75, val_main_v0]
    exact congrArg₂ (fun a b => x1 (ix2 a b)) (Fin.ext (by first | rfl | (dsimp only; omega))) (Fin.ext (by first | rfl | (dsimp only; omega)))
  have e3 : val_main_v116 (F := Ideal) x1 (ix3 ⟨R.val / 4096, by omega⟩ ⟨R.val % 4096, by omega⟩ j) = total (fun e => near (chan x1) R e ⟨3 * 64 + j.val, by omega⟩) 3 := by
    pointwise [val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86]
    rw [hp _ 0 (by show _ + 8 = _ + 0 + 8; first | rfl | (dsimp only; omega)), hp _ 1 (by show _ + 8 = _ + 1 + 8; first | rfl | (dsimp only; omega)), hp _ 2 (by show _ + 8 = _ + 2 + 8; first | rfl | (dsimp only; omega)), hp _ 3 (by show _ + 8 = _ + 3 + 8; first | rfl | (dsimp only; omega)), hp _ 4 (by show _ + 8 = _ + 4 + 8; first | rfl | (dsimp only; omega)), hp _ 5 (by show _ + 8 = _ + 5 + 8; first | rfl | (dsimp only; omega)), hp _ 6 (by show _ + 8 = _ + 6 + 8; first | rfl | (dsimp only; omega)), hp _ 7 (by show _ + 8 = _ + 7 + 8; first | rfl | (dsimp only; omega)), hp _ 8 (by show _ + 8 = _ + 8 + 8; first | rfl | (dsimp only; omega)), hp _ 9 (by show _ + 8 = _ + 9 + 8; first | rfl | (dsimp only; omega)), hp _ 10 (by show _ + 8 = _ + 10 + 8; first | rfl | (dsimp only; omega)), hp _ 11 (by show _ + 8 = _ + 11 + 8; first | rfl | (dsimp only; omega)), hp _ 12 (by show _ + 8 = _ + 12 + 8; first | rfl | (dsimp only; omega)), hp _ 13 (by show _ + 8 = _ + 13 + 8; first | rfl | (dsimp only; omega)), hp _ 14 (by show _ + 8 = _ + 14 + 8; first | rfl | (dsimp only; omega)), hp _ 15 (by show _ + 8 = _ + 15 + 8; first | rfl | (dsimp only; omega))]
    rfl
  have e4 : val_main_v119 (F := Ideal) (ix3 ⟨R.val / 4096, by omega⟩ ⟨R.val % 4096, by omega⟩ j) = cnt ⟨R.val % 4096, by omega⟩ 3 := by
    pointwise [val_main_v119, val_main_v118, val_main_v117]
    rw [words3]
    rfl
  rw [val_main_v121, val_main_v120, pooled, e1, ← e2, ← e3, ← e4]
  rfl

/-- The four groups side by side. -/
theorem stack_apply (x1 : FVec Ideal S32768x256 .f32) (R : Fin 32768) (g : Fin 4) (j : Fin 64) :
    val_main_v126 (F := Ideal) x1 (ix4 ⟨R.val / 4096, by omega⟩ ⟨R.val % 4096, by omega⟩ g j) = pooled (chan x1) R ⟨g.val * 64 + j.val, by omega⟩ := by
  rw [val_main_v126]
  pointwise [val_main_v122, val_main_v123, val_main_v124, val_main_v125]
  match g with
  | 0 => exact (dif_pos (by decide)).trans (diff0 x1 R j)
  | 1 => exact (dif_neg (by decide)).trans ((dif_pos (by decide)).trans (diff1 x1 R j))
  | 2 => exact (dif_neg (by decide)).trans ((dif_neg (by decide)).trans ((dif_pos (by decide)).trans (diff2 x1 R j)))
  | 3 => exact (dif_neg (by decide)).trans ((dif_neg (by decide)).trans ((dif_neg (by decide)).trans (diff3 x1 R j)))

/-- The pooled channels, each group by its own matrix, scaled. -/
theorem scaled_apply (x1 : FVec Ideal S32768x256 .f32) (x4 : FVec Ideal S2x4x64x64 .f32) (x5 : FVec Ideal S2x256 .f32) (R : Fin 32768) (k : Fin 256) :
    val_main_v136 (F := Ideal) x1 x4 x5 (ix2 R k) =
      (∑ j : Fin 64, pooled (chan x1) R ⟨k.val / 64 * 64 + j.val, by omega⟩ * x4 (ix4 0 ⟨k.val / 64, by omega⟩ j ⟨k.val % 64, by omega⟩)) * x5 (ix2 0 k) := by
  have hs := fun g j => stack_apply x1 R g j
  rw [val_main_v136, val_main_v131, val_main_v130, val_main_v129]
  generalize val_main_v126 (F := Ideal) x1 = v at hs ⊢
  pointwise [val_main_v135, val_main_v134, val_main_v133, val_main_v132, val_main_v128, val_main_v127]
  refine congrArg (· * x5 (ix2 0 k)) (Finset.sum_congr rfl fun j _ => ?_)
  rw [hs, mul_comm]

/-- The attention's columns, ordered by key head. -/
theorem attn_apply (x2 : FVec Ideal S32768x768 .bf16) (R : Fin 32768) (k : Fin 768) :
    val_main_v140 (F := Ideal) x2 (ix2 R k) = x2 (ix2 R (byHead.symm k)) := by
  pointwise [val_main_v140, val_main_v139, val_main_v138, val_main_v137]
  refine congrArg (fun z => x2 (ix2 R z)) (Fin.ext ?_)
  show _ = (k.val / 64 % 3 * 4 + k.val / 192) * 64 + k.val % 64
  dsimp only
  omega

/-- The pooled channels and the attention's side by side: the pooled channels on the left. -/
theorem left_apply (x1 : FVec Ideal S32768x256 .f32) (x2 : FVec Ideal S32768x768 .bf16) (x4 : FVec Ideal S2x4x64x64 .f32) (x5 : FVec Ideal S2x256 .f32) (R : Fin 32768) (k : Fin 256) :
    val_main_v141 (F := Ideal) x1 x2 x4 x5 (ix2 R ⟨k.val, by omega⟩) = val_main_v136 (F := Ideal) x1 x4 x5 (ix2 R k) := by
  rw [val_main_v141]
  generalize val_main_v136 (F := Ideal) x1 x4 x5 = v
  generalize val_main_v140 (F := Ideal) x2 = w
  pointwise

/-- The pooled channels and the attention's side by side: the attention's on the right. -/
theorem right_apply (x1 : FVec Ideal S32768x256 .f32) (x2 : FVec Ideal S32768x768 .bf16) (x4 : FVec Ideal S2x4x64x64 .f32) (x5 : FVec Ideal S2x256 .f32) (R : Fin 32768) (k : Fin 768) :
    val_main_v141 (F := Ideal) x1 x2 x4 x5 (ix2 R ⟨256 + k.val, by omega⟩) = val_main_v140 (F := Ideal) x2 (ix2 R k) := by
  rw [val_main_v141]
  generalize val_main_v136 (F := Ideal) x1 x4 x5 = v
  generalize val_main_v140 (F := Ideal) x2 = w
  pointwise

/-- The reference's projection. -/
theorem mix_apply (x1 : FVec Ideal S32768x256 .f32) (x2 : FVec Ideal S32768x768 .bf16) (x4 : FVec Ideal S2x4x64x64 .f32) (x5 : FVec Ideal S2x256 .f32)
    (x6 : FVec Ideal S2x1024x1024 .f32) (R : Fin 32768) (q : Fin 1024) :
    val_main_v144 (F := Ideal) x1 x2 x4 x5 x6 (ix2 R q) =
      mix (pooled (chan x1) R) (fun g j d => x4 (ix4 0 g j d)) (fun k => x5 (ix2 0 k)) (fun k => x2 (ix2 R k)) (fun k q => x6 (ix3 0 k q)) q := by
  have hl := fun k => (left_apply x1 x2 x4 x5 R k).trans (scaled_apply x1 x4 x5 R k)
  have hr := fun k => (right_apply x1 x2 x4 x5 R k).trans (attn_apply x2 R k)
  have hw : ∀ k : Fin 1024, val_main_v143 (F := Ideal) x6 (ix2 k q) = x6 (ix3 0 k q) := fun k => by
    pointwise [val_main_v143, val_main_v142]
  have e : val_main_v144 (F := Ideal) x1 x2 x4 x5 x6 (ix2 R q) =
      ∑ k : Fin 1024, val_main_v141 (F := Ideal) x1 x2 x4 x5 (ix2 R k) * val_main_v143 (F := Ideal) x6 (ix2 k q) := by
    rw [val_main_v144]
    generalize val_main_v141 (F := Ideal) x1 x2 x4 x5 = v
    generalize val_main_v143 (F := Ideal) x6 = w
    pointwise
  rw [e, mix]
  refine (Fin.sum_univ_add (a := 256) (b := 768) _).trans ?_
  refine congrArg₂ (· + ·) (Finset.sum_congr rfl fun j _ => ?_) (Finset.sum_congr rfl fun j _ => ?_)
  · rw [hw]; exact congrArg (· * _) (hl j)
  · rw [hw]; exact congrArg (· * _) (hr j)

/-- The reference's result. -/
theorem result_apply (x0 : FVec Ideal S32768x1024 .f32) (x1 : FVec Ideal S32768x256 .f32) (x2 : FVec Ideal S32768x768 .bf16) (x3 : FVec Ideal S4x6x1024 .f32)
    (x4 : FVec Ideal S2x4x64x64 .f32) (x5 : FVec Ideal S2x256 .f32) (x6 : FVec Ideal S2x1024x1024 .f32) (R : Fin 32768) (q : Fin 1024) :
    val_main_v160 (F := Ideal) x0 x1 x2 x3 x4 x5 x6 (ix2 R q) = row (fun k => x0 (ix2 R k))
      (mix (pooled (chan x1) R) (fun g j d => x4 (ix4 0 g j d)) (fun k => x5 (ix2 0 k)) (fun k => x2 (ix2 R k)) (fun k q => x6 (ix3 0 k q))) (fun k => x3 (ix3 0 3 k)) q := by
  rw [← (funext fun q => mix_apply x1 x2 x4 x5 x6 R q : (fun q => val_main_v144 (F := Ideal) x1 x2 x4 x5 x6 (ix2 R q)) = _)]
  simp only [val_main_v160, val_main_v159, val_main_v158, val_main_v157, val_main_v156, val_main_v155, val_main_v154, val_main_v153, val_main_v152, val_main_v151, val_main_v150, val_main_v149,
    val_main_v148, val_main_v147, val_main_v146, val_main_v145]
  generalize val_main_v144 (F := Ideal) x1 x2 x4 x5 x6 = v
  pointwise [val_main_cst, val_main_cst_31, val_main_cst_32, row, normed]

end Cert.EvenOutRefIdeal.EvenOut
-- ==== Proof.EvenOutFinal.lean ====
module

public import proofs.«01_k».proof.Proof.EvenOutTile
public import proofs.«01_k».proof.Proof.EvenOutEntry
public import proofs.«01_k».proof.Proof.EvenOutBd
public import proofs.«01_k».proof.Proof.EvenOutRef
public import proofs.«01_k».proof.Proof.Gen.EvenOutIdeal.Value
public import proofs.«01_k».proof.Proof.Gen.EvenOutRefIdeal.Run
public import Idealize.ShloMosaic.Lib.Claim

/-!
# The even layers' output projection is the reference's
-/

@[expose] public section

set_option maxRecDepth 16384

noncomputable section

namespace Cert.EvenOutIdeal.Even

open Cert.EvenOutIdeal Cert.EvenOutIdeal.Gen Cert.EvenOut Cert.Row
open Idealize.ShloMosaic Idealize.ShloMosaic.TcCoe

variable (m : (ℓ : Loc nD τ sig) → Buf (Elt Ideal) ℓ)

section Blocks
variable (c : Dev nD) (t : Fin cfg0.N) (r : Fin 1024)

/-- The row of the array that stands at a row of a point's blocks. -/
def line : Fin 32768 := ⟨t.val * 1024 + r.val, by have : t.val < 32 := t.isLt; omega⟩

/-- A row of the input. -/
theorem blk_x (X : FVec Ideal S32768x1024 .f32) (h : X = m ((c.tc : Thread nD τ).loc main_arg0)) (k : Fin 1024) :
    iblk m c 0 t (ix2 r k) = X (ix2 (line t r) k) :=
  Eq.trans (b := V m c main_arg0 (ix2 (line t r) k)) (by blk_ext [iblk, idx t, line]) (congrFun ((V_main_arg0 m c).trans h.symm) _)

/-- A row of the channels to pool. -/
theorem blk_u (X : FVec Ideal S32768x256 .f32) (h : X = m ((c.tc : Thread nD τ).loc main_arg1)) (k : Fin 256) :
    iblk m c 2 t (ix2 r k) = X (ix2 (line t r) k) :=
  Eq.trans (b := V m c main_arg1 (ix2 (line t r) k)) (by blk_ext [iblk, idx t, line]) (congrFun ((V_main_arg1 m c).trans h.symm) _)

/-- A row of the attention's output. -/
theorem blk_attn (X : FVec Ideal S32768x768 .bf16) (h : X = m ((c.tc : Thread nD τ).loc main_arg2)) (k : Fin 768) :
    iblk m c 4 t (ix2 r k) = X (ix2 (line t r) k) :=
  Eq.trans (b := V m c main_arg2 (ix2 (line t r) k)) (by blk_ext [iblk, idx t, line]) (congrFun ((V_main_arg2 m c).trans h.symm) _)

/-- One of the eight rows before the tile. -/
theorem blk_up (X : FVec Ideal S32768x256 .f32) (h : X = m ((c.tc : Thread nD τ).loc main_arg1)) (e : Fin 8) (k : Fin 256) :
    iblk m c 1 t (ix2 e k) = X (ix2 ⟨(t.val * 128 - 1) * 8 + e.val, by have : t.val < 32 := t.isLt; omega⟩ k) :=
  Eq.trans (b := V m c main_arg1 (ix2 ⟨(t.val * 128 - 1) * 8 + e.val, by have : t.val < 32 := t.isLt; omega⟩ k)) (by blk_ext [iblk, idx t])
    (congrFun ((V_main_arg1 m c).trans h.symm) _)

/-- One of the eight rows after the tile. -/
theorem blk_un (X : FVec Ideal S32768x256 .f32) (h : X = m ((c.tc : Thread nD τ).loc main_arg1)) (e : Fin 8) (k : Fin 256) :
    iblk m c 3 t (ix2 e k) = X (ix2 ⟨min ((t.val + 1) * 128) 4095 * 8 + e.val, by have : t.val < 32 := t.isLt; omega⟩ k) :=
  Eq.trans (b := V m c main_arg1 (ix2 ⟨min ((t.val + 1) * 128) 4095 * 8 + e.val, by have : t.val < 32 := t.isLt; omega⟩ k)) (by blk_ext [iblk, idx t])
    (congrFun ((V_main_arg1 m c).trans h.symm) _)

/-- The windows' weights. -/
theorem blk_taps (d : Fin 16) (ch : Fin 256) :
    iblk m c 5 t (ix2 d ch) = if 8 ≤ d.val + half ch ∧ d.val < 8 + half ch then (1 : EReal) else 0 :=
  Eq.trans (b := V m c main_v17 (ix2 d ch)) (by blk_ext [iblk, idx t]) (entry_taps m c d ch)

/-- Half the windows' widths. -/
theorem blk_hw (ch : Fin 256) : (iblk m c 6 t : Vec Ideal S1x256 .i32) (ix2 0 ch) = BitVec.ofNat 32 (half ch) :=
  Eq.trans (b := (V m c main_v6 : IVec S1x256 32) (ix2 0 ch)) (by blk_ext [iblk, idx t]) (entry_hw m c ch)

/-- The pooled channels' weights. -/
theorem blk_bd (X : FVec Ideal S2x4x64x64 .f32) (h : X = m ((c.tc : Thread nD τ).loc main_arg4)) (k q : Fin 256) :
    iblk m c 7 t (ix2 k q) = if k.val / 64 = q.val / 64 then X (ix4 0 ⟨q.val / 64, by omega⟩ ⟨k.val % 64, by omega⟩ ⟨q.val % 64, by omega⟩) else 0 :=
  Eq.trans (b := V m c main_v38 (ix2 k q)) (by blk_ext [iblk, idx t]) (entry_bd m c X h k q)

/-- The pooled channels' scales. -/
theorem blk_sc (X : FVec Ideal S2x256 .f32) (h : X = m ((c.tc : Thread nD τ).loc main_arg5)) (k : Fin 256) :
    iblk m c 8 t (ix2 0 k) = X (ix2 0 k) :=
  Eq.trans (b := V m c main_v48 (ix2 0 k)) (by blk_ext [iblk, idx t]) (entry_sc m c X h k)

/-- The output weights. -/
theorem blk_wo (X : FVec Ideal S2x1024x1024 .f32) (h : X = m ((c.tc : Thread nD τ).loc main_arg6)) (k q : Fin 1024) :
    iblk m c 9 t (ix2 k q) = X (ix3 0 (perm k) q) :=
  Eq.trans (b := V m c main_v58 (ix2 k q)) (by blk_ext [iblk, idx t]) (entry_wo m c X h k q)

/-- The norm's weights. -/
theorem blk_nw (X : FVec Ideal S4x6x1024 .f32) (h : X = m ((c.tc : Thread nD τ).loc main_arg3)) (k : Fin 1024) :
    iblk m c 10 t (ix2 0 k) = X (ix3 0 3 k) :=
  Eq.trans (b := V m c main_v60 (ix2 0 k)) (by blk_ext [iblk, idx t]) (entry_nw m c X h k)

/-- The output weights' first rows, those of the pooled channels. -/
theorem upper (X : FVec Ideal S2x1024x1024 .f32) (h : X = m ((c.tc : Thread nD τ).loc main_arg6)) (k : Fin 256) (q : Fin 1024) :
    View.ld (iblk m c 9 t : Vec Ideal S1024x1024 .bf16) (Rect.unit (s := S1024x1024) ![0, 0] S256x1024.size inb_S1024x1024_S256x1024_0_0) (ix2 k q) =
      X (ix3 0 ⟨k.val, by omega⟩ q) := by
  refine Eq.trans (b := (iblk m c 9 t : Vec Ideal S1024x1024 .bf16) (ix2 ⟨k.val, by omega⟩ q)) (View.ld_unit_apply_of _ _ _ _ _ _ fun a => ?_) ?_
  · match a with
    | ⟨0, _⟩ => show k.val = 0 + k.val; omega
    | ⟨1, _⟩ => show q.val = 0 + q.val; omega
  · refine (blk_wo m c t X h _ q).trans ?_
    rw [show perm ⟨k.val, by omega⟩ = ⟨k.val, by omega⟩ from dif_pos k.isLt]

/-- The other rows, those of the attention's channels, in the kernel's order. -/
theorem lower (X : FVec Ideal S2x1024x1024 .f32) (h : X = m ((c.tc : Thread nD τ).loc main_arg6)) (k : Fin 768) (q : Fin 1024) :
    View.ld (iblk m c 9 t : Vec Ideal S1024x1024 .bf16) (Rect.unit (s := S1024x1024) ![256, 0] S768x1024.size inb_S1024x1024_S768x1024_256_0) (ix2 k q) =
      X (ix3 0 ⟨256 + (byHead k).val, by have := (byHead k).isLt; omega⟩ q) := by
  refine Eq.trans (b := (iblk m c 9 t : Vec Ideal S1024x1024 .bf16) (ix2 ⟨256 + k.val, by omega⟩ q)) (View.ld_unit_apply_of _ _ _ _ _ _ fun a => ?_) ?_
  · match a with
    | ⟨0, _⟩ => rfl
    | ⟨1, _⟩ => show q.val = 0 + q.val; omega
  · refine (blk_wo m c t X h _ q).trans ?_
    have e : (⟨(256 + k.val) - 256, by omega⟩ : Fin 768) = k := Fin.ext (by show 256 + k.val - 256 = k.val; omega)
    have e1 : perm ⟨256 + k.val, by omega⟩ = ⟨256 + (byHead k).val, by have := (byHead k).isLt; omega⟩ := by
      refine (dif_neg (by show ¬(256 + k.val < 256); omega)).trans (Fin.ext ?_)
      exact congrArg (fun z => 256 + (byHead z).val) e
    rw [e1]

/-- The scratch holds the rows around the tile, zero outside the sequence. -/
theorem shifted_near (X : FVec Ideal S32768x256 .f32) (h : X = m ((c.tc : Thread nD τ).loc main_arg1)) (d : Fin 16) (ch : Fin 256) :
    shifted (grid0.coords t) (iblk m c 1 t) (iblk m c 2 t) (iblk m c 3 t) d (ix2 r ch) = near (fun R k => X (ix2 R k)) (line t r) d ch := by
  have ht : t.val < 32 := t.isLt
  have hl : (line t r).val = t.val * 1024 + r.val := rfl
  refine (shifted_apply _ _ _ _ _ _ _).trans ?_
  unfold near
  by_cases h1 : d.val + r.val < 8
  · refine (dif_pos h1).trans ((before_apply t _ _ _).trans ?_)
    by_cases h4 : t.val % 4 = 0
    · rw [if_pos h4, dif_neg (show ¬(8 ≤ (line t r).val % 4096 + d.val ∧ (line t r).val % 4096 + d.val < 4104) by omega)]
    · refine (if_neg h4).trans ((blk_up m c t X h _ ch).trans (Eq.trans ?_ (dif_pos (c := 8 ≤ (line t r).val % 4096 + d.val ∧ (line t r).val % 4096 + d.val < 4104) (by omega)).symm))
      exact congrArg (fun R => X (ix2 R ch)) (Fin.ext (by show (t.val * 128 - 1) * 8 + (d.val + r.val) = (line t r).val + d.val - 8; omega))
  refine (dif_neg h1).trans ?_
  by_cases h2 : d.val + r.val < 1032
  · refine (dif_pos h2).trans ((blk_u m c t _ X h ch).trans (Eq.trans ?_ (dif_pos (c := 8 ≤ (line t r).val % 4096 + d.val ∧ (line t r).val % 4096 + d.val < 4104) (by omega)).symm))
    exact congrArg (fun R => X (ix2 R ch)) (Fin.ext (by show t.val * 1024 + (d.val + r.val - 8) = (line t r).val + d.val - 8; omega))
  · refine (dif_neg h2).trans ((after_apply t _ _ _).trans ?_)
    by_cases h4 : t.val % 4 = 3
    · rw [if_pos h4, dif_neg (show ¬(8 ≤ (line t r).val % 4096 + d.val ∧ (line t r).val % 4096 + d.val < 4104) by omega)]
    · refine (if_neg h4).trans ((blk_un m c t X h _ ch).trans (Eq.trans ?_ (dif_pos (c := 8 ≤ (line t r).val % 4096 + d.val ∧ (line t r).val % 4096 + d.val < 4104) (by omega)).symm))
      exact congrArg (fun R => X (ix2 R ch)) (Fin.ext (by
        show min ((t.val + 1) * 128) 4095 * 8 + (d.val + r.val - 1032) = (line t r).val + d.val - 8; omega))

/-- The row's place in its sequence, as the kernel computes it. -/
theorem place : IntOp.addi (word (grid0.coords t)) (BitVec.ofNat 32 r.val) = BitVec.ofNat 32 ((line t r).val % 4096) := by
  have hl : (line t r).val = t.val * 1024 + r.val := rfl
  refine (congrArg (fun w => IntOp.addi w (BitVec.ofNat 32 r.val)) (word_eq t)).trans ?_
  refine (BitVec.ofNat_add _ _).symm.trans (congrArg (BitVec.ofNat 32) ?_)
  omega

/-- The kernel's mean over the window less the element is the reference's. -/
theorem pooled_eq (X : FVec Ideal S32768x256 .f32) (h : X = m ((c.tc : Thread nD τ).loc main_arg1)) (ch : Fin 256) :
    mean (grid0.coords t) (shifted (grid0.coords t) (iblk m c 1 t) (iblk m c 2 t) (iblk m c 3 t)) (tap (iblk m c 5 t)) (iblk m c 6 t) (ix2 r ch) -
      (iblk m c 2 t : Vec Ideal S1024x256 .f32) (ix2 r ch) = pooled (fun R k => X (ix2 R k)) (line t r) ch := by
  refine congrArg₂ (· - ·) ?_ (blk_u m c t r X h ch)
  refine (mean_apply _ _ _ _ _ _).trans (congrArg₂ Ideal.div ?_ ?_)
  · obtain ⟨W, hW⟩ : ∃ W : Fin 16 → EReal, W = fun d => if 8 ≤ d.val + half ch ∧ d.val < 8 + half ch then 1 else 0 := ⟨_, rfl⟩
    have ew := fun d => shifted_near m c t r X h d ch
    have et : ∀ d, tap (iblk m c 5 t : Vec Ideal S16x256 .f32) d (ix2 0 ch) = W d := fun d =>
      ((tap_apply _ d ch).trans (blk_taps m c t d ch)).trans (congrFun hW d).symm
    have e := total_eq (fun d => near (fun R k => X (ix2 R k)) (line t r) d ch) W ⟨ch.val / 64, by omega⟩ (fun e => congrFun hW e)
    refine Eq.trans ?_ e
    simp only [ew, et]
  · unfold cnt
    exact congrArg (FloatOps.sitofp (F := Ideal) FTy.f32) (congrArg₂ count (place t r) (blk_hw m c t ch))

end Blocks

/-- After the kernel's run the result is the reference's. -/
theorem final (c : Dev nD) (X0 : FVec Ideal S32768x1024 .f32) (X1 : FVec Ideal S32768x256 .f32) (X2 : FVec Ideal S32768x768 .bf16)
    (X3 : FVec Ideal S4x6x1024 .f32) (X4 : FVec Ideal S2x4x64x64 .f32) (X5 : FVec Ideal S2x256 .f32) (X6 : FVec Ideal S2x1024x1024 .f32)
    (h0 : X0 = m ((c.tc : Thread nD τ).loc main_arg0)) (h1 : X1 = m ((c.tc : Thread nD τ).loc main_arg1)) (h2 : X2 = m ((c.tc : Thread nD τ).loc main_arg2))
    (h3 : X3 = m ((c.tc : Thread nD τ).loc main_arg3)) (h4 : X4 = m ((c.tc : Thread nD τ).loc main_arg4)) (h5 : X5 = m ((c.tc : Thread nD τ).loc main_arg5))
    (h6 : X6 = m ((c.tc : Thread nD τ).loc main_arg6)) :
    (dats m 0 c).arrAt 11 (cfgs 0).N = Cert.EvenOutRefIdeal.Read.val_main_v160 (F := Ideal) X0 X1 X2 X3 X4 X5 X6 := by
  refine (dats m 0 c).arrAt_eq_of_covers 11 _ (by decide +kernel) fun t _ y => ?_
  blk_simp
  have ht : t.val < 32 := t.isLt
  obtain ⟨Y0, Y1, hy⟩ : ∃ (Y0 : Fin 1024) (Y1 : Fin 1024), y = ix2 Y0 Y1 := ⟨y 0, y 1, funext fun a => match a with | ⟨0, _⟩ => rfl | ⟨1, _⟩ => rfl⟩
  subst hy
  rw [after0_11, out_eq]
  refine (tile_apply _ _ _ _ _ _ _ _ _ _ _).trans ?_
  refine Eq.trans (b := Cert.EvenOutRefIdeal.Read.val_main_v160 (F := Ideal) X0 X1 X2 X3 X4 X5 X6 (ix2 (line t Y0) Y1)) ?_ ?_
  · refine Eq.trans ?_ (Cert.EvenOutRefIdeal.EvenOut.result_apply _ _ _ _ _ _ _ _ _).symm
    refine congrFun (congr (congr (congrArg row (funext fun q => blk_x m c t Y0 X0 h0 q)) (funext fun q => ?_)) (funext fun q => blk_nw m c t X3 h3 q)) Y1
    unfold mix
    refine congrArg₂ (· + ·) (Finset.sum_congr rfl fun k _ => ?_) ((Finset.sum_congr rfl fun k _ => ?_).trans
      (heads_sum (fun k => X2 (ix2 (line t Y0) k)) (fun k => X6 (ix3 0 ⟨256 + k.val, by omega⟩ q))))
    · refine congrArg₂ (· * ·) (congrArg₂ (· * ·) ?_ (blk_sc m c t X5 h5 k)) (upper m c t X6 h6 k q)
      exact (Finset.sum_congr rfl fun l _ => congrArg₂ (· * ·) (pooled_eq m c t Y0 X1 h1 l) (blk_bd m c t X4 h4 l k)).trans
        (block_sum (pooled (fun R k => X1 (ix2 R k)) (line t Y0)) (fun g j d => X4 (ix4 0 g j d)) ⟨k.val / 64, by omega⟩ ⟨k.val % 64, by omega⟩)
    · exact congrArg₂ (· * ·) (blk_attn m c t Y0 X2 h2 k) (lower m c t X6 h6 k q)
  · refine congrArg (Cert.EvenOutRefIdeal.Read.val_main_v160 (F := Ideal) X0 X1 X2 X3 X4 X5 X6) ?_
    blk_ext [idx t, line]

end Cert.EvenOutIdeal.Even
-- ==== Proof.EvenOutClaim.lean ====
module

public import proofs.«01_k».proof.Defs
public import proofs.«01_k».proof.Proof.EvenOutFinal
public import proofs.«01_k».proof.Proof.Gen.EvenOutIdeal
public import proofs.«01_k».proof.Proof.Gen.EvenOutIdeal.Frame
public import proofs.«01_k».proof.Proof.Gen.EvenOutIdeal.Value
public import proofs.«01_k».proof.Proof.Gen.EvenOutRefIdeal.Read
public import proofs.«01_k».proof.Proof.Gen.EvenOutRefIdeal
public import proofs.«01_k».proof.Proof.Gen.EvenOutRefIdeal.Run
public import Idealize.ShloMosaic.Lib.Claim

/-!
# The claims about the even layers' output projection
-/

@[expose] public section

set_option maxRecDepth 16384

noncomputable section

namespace Cert.Proof

open Idealize.ShloMosaic Idealize.ShloMosaic.TcCoe Idealize.SL.Sem

/-- The reference of the output projection terminates, changes no argument and leaves every semaphore at zero. -/
theorem even_out_ref_frame : Cert.quiescent_EvenOutRefIdeal (hEvenOutRefIdeal := Cert.EvenOutRefIdeal.Gen.facts) :=
  fun m g _ => (θ_run Cert.EvenOutRefIdeal.defs _ _).mono
    (fun r h => ⟨fun c => (h c).2, sem_eq_zero_of_no_sems (by decide) r.2⟩) (Cert.EvenOutRefIdeal.Value.run (F := Ideal) m g)

set_option maxHeartbeats 1600000 in
/-- The output projection and its reference compute the same array over the extended reals. -/
theorem even_out_algebraic : Cert.algebraic_EvenOutIdeal_EvenOutRefIdeal (hEvenOutIdeal := Cert.EvenOutIdeal.Gen.facts)
    (hEvenOutRefIdeal := Cert.EvenOutRefIdeal.Gen.facts) := by
  pair_intro
  · run_from Cert.EvenOutIdeal.Value.run_blocks m g
  · run_from Cert.EvenOutRefIdeal.Value.run m' g'
    obtain ⟨a0, a1, a2, a3, a4, a5, a6⟩ := hagree c
    rw [Cert.EvenOutIdeal.Even.final m c _ _ _ _ _ _ _ rfl rfl rfl rfl rfl rfl rfl, ← a0, ← a1, ← a2, ← a3, ← a4, ← a5, ← a6]
    exact Cert.EvenOutRefIdeal.Read.val_main_v160_eq (F := Ideal) (StableHlo.launchContents m' c)

end Cert.Proof
-- ==== Proof.lean ====
module

public import proofs.«01_k».proof.Defs
public import proofs.«01_k».proof.Proof.AttnClaim
public import proofs.«01_k».proof.Proof.FfnClaim
public import proofs.«01_k».proof.Proof.OddOutClaim
public import proofs.«01_k».proof.Proof.EvenInClaim
public import proofs.«01_k».proof.Proof.OddInClaim
public import proofs.«01_k».proof.Proof.EvenOutClaim
public import proofs.«01_k».proof.Proof.Gen.KernelIdeal.Value
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.FfnIdeal.Value
public import proofs.«01_k».proof.Proof.Gen.OddOut.Frame
public import proofs.«01_k».proof.Proof.Gen.OddOutIdeal.Frame
public import proofs.«01_k».proof.Proof.Gen.OddOutIdeal.Value
public import proofs.«01_k».proof.Proof.Gen.OddOutRefIdeal.Run
public import proofs.«01_k».proof.Proof.Gen.OddOutRefIdeal.Read
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.EvenIn.Frame
public import proofs.«01_k».proof.Proof.Gen.EvenInIdeal.Frame
public import proofs.«01_k».proof.Proof.Gen.EvenInIdeal.Value
public import proofs.«01_k».proof.Proof.Gen.EvenInRefIdeal.Run
public import proofs.«01_k».proof.Proof.Gen.EvenInRefIdeal.Read
public import proofs.«01_k».proof.Proof.Gen.OddIn.Frame
public import proofs.«01_k».proof.Proof.Gen.OddInIdeal.Frame
public import proofs.«01_k».proof.Proof.Gen.OddInIdeal.Value
public import proofs.«01_k».proof.Proof.Gen.OddInRefIdeal.Run
public import proofs.«01_k».proof.Proof.Gen.OddInRefIdeal.Read
public import proofs.«01_k».proof.Proof.Gen.EvenOut.Frame
public import proofs.«01_k».proof.Proof.Gen.EvenOutIdeal.Frame
public import proofs.«01_k».proof.Proof.Gen.EvenOutIdeal.Value
public import proofs.«01_k».proof.Proof.Gen.EvenOutRefIdeal.Run
public import proofs.«01_k».proof.Proof.Gen.EvenOutRefIdeal.Read
public import Idealize.ShloMosaic.Adequacy
public import Idealize.ShloMosaic.Init
public import Idealize.ShloMosaic.Lib.Claim

/-!
# The claims of this certificate
-/

@[expose] public section

noncomputable section

namespace Cert.Proof

open Idealize.ShloMosaic Idealize.SL.Sem

/-- Every claim of `Cert.Claim`, under the facts of its programs. -/
theorem claim : Cert.Claim :=
  ⟨Cert.Ffn.Gen.facts, Cert.FfnIdeal.Gen.facts, Cert.FfnRefIdeal.Gen.facts, Cert.Kernel.Gen.facts, Cert.KernelIdeal.Gen.facts,
    Cert.ReferenceIdeal.Gen.facts, Cert.OddOut.Gen.facts, Cert.OddOutIdeal.Gen.facts, Cert.OddOutRefIdeal.Gen.facts,
    Cert.EvenIn.Gen.facts, Cert.EvenInIdeal.Gen.facts, Cert.EvenInRefIdeal.Gen.facts,
    Cert.OddIn.Gen.facts, Cert.OddInIdeal.Gen.facts, Cert.OddInRefIdeal.Gen.facts,
    Cert.EvenOut.Gen.facts, Cert.EvenOutIdeal.Gen.facts, Cert.EvenOutRefIdeal.Gen.facts,
    Cert.Attn.pre_facts, Cert.Gate.pre_facts,
    fun m ρ _ => Cert.Ffn.Gen.frame m ρ,
    fun m ρ _ => Cert.FfnIdeal.Gen.frame m ρ,
    ffn_ref_frame,
    fun m ρ _ => Cert.Kernel.Gen.frame m ρ,
    fun m ρ _ => Cert.KernelIdeal.Gen.frame m ρ,
    fun m ρ _ => Cert.KernelIdeal.Gen.frame m ρ,
    attn_ref_frame,
    attn_ref_frame_pre,
    fun m ρ _ => Cert.OddOut.Gen.frame m ρ,
    fun m ρ _ => Cert.OddOutIdeal.Gen.frame m ρ,
    fun m ρ _ => Cert.OddOutIdeal.Gen.frame m ρ,
    odd_out_ref_frame,
    odd_out_ref_frame_pre,
    fun m ρ _ => Cert.EvenIn.Gen.frame m ρ,
    fun m ρ _ => Cert.EvenInIdeal.Gen.frame m ρ,
    even_in_ref_frame,
    fun m ρ _ => Cert.OddIn.Gen.frame m ρ,
    fun m ρ _ => Cert.OddInIdeal.Gen.frame m ρ,
    odd_in_ref_frame,
    fun m ρ _ => Cert.EvenOut.Gen.frame m ρ,
    fun m ρ _ => Cert.EvenOutIdeal.Gen.frame m ρ,
    even_out_ref_frame,
    trivial,
    ffn_algebraic,
    IdealRules.named_const.statement Cert.KernelIdeal.κ "log2e" .f32 0x3FB8AA3B#32 _ rfl,
    attn_algebraic,
    trivial,
    odd_out_algebraic,
    trivial,
    even_in_algebraic,
    trivial,
    odd_in_algebraic,
    trivial,
    even_out_algebraic⟩

end Cert.Proof

end
